-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_quotient [hPre_finite_quotient : Cert.Pre_finite_quotient.Facts] (m : (ℓ : Loc Cert.KernelIdeal.nD Cert.KernelIdeal.τ Cert.KernelIdeal.sig) → Buf (Elt Ideal) ℓ) : Prop :=
  ∀ c : Dev Cert.KernelIdeal.nD,
    (Cert.Pre_finite_quotient.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_quotient.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_quotient.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_quotient [hPre_finite_quotient : Cert.Pre_finite_quotient.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_quotient.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_quotient.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_quotient.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_quotient [hKernelIdeal : Cert.KernelIdeal.Facts] [hPre_finite_quotient : Cert.Pre_finite_quotient.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_quotient m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_quotient [hReferenceIdeal : Cert.ReferenceIdeal.Facts] [hPre_finite_quotient : Cert.Pre_finite_quotient.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_quotient m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_quotient [hKernelIdeal : Cert.KernelIdeal.Facts] [hReferenceIdeal : Cert.ReferenceIdeal.Facts] [hPre_finite_quotient : Cert.Pre_finite_quotient.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_quotient m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_quotient : Cert.Pre_finite_quotient.Facts),
    quiescent_Kernel (hKernel := hKernel)
    ∧ quiescent_KernelIdeal (hKernelIdeal := hKernelIdeal)
    ∧ quiescent_KernelIdeal_pre_finite_quotient (hKernelIdeal := hKernelIdeal) (hPre_finite_quotient := hPre_finite_quotient)
    ∧ quiescent_ReferenceIdeal (hReferenceIdeal := hReferenceIdeal)
    ∧ quiescent_ReferenceIdeal_pre_finite_quotient (hReferenceIdeal := hReferenceIdeal) (hPre_finite_quotient := hPre_finite_quotient)
    ∧ preserves_Kernel_KernelIdeal
    ∧ algebraic_KernelIdeal_ReferenceIdeal_pre_finite_quotient (hKernelIdeal := hKernelIdeal) (hReferenceIdeal := hReferenceIdeal) (hPre_finite_quotient := hPre_finite_quotient)
-- ==== Pre_finite_quotient.lean ====
abbrev S4x512x512x16 : Shape := ⟨4, ![4, 512, 512, 16]⟩
abbrev S16x16x1x1 : Shape := ⟨4, ![16, 16, 1, 1]⟩
abbrev S4x16x16x8x8 : Shape := ⟨5, ![4, 16, 16, 8, 8]⟩
abbrev S16x16x8x8 : Shape := ⟨4, ![16, 16, 8, 8]⟩
abbrev S_ : Shape := ⟨0, ![]⟩
abbrev S16x16x9x9 : Shape := ⟨4, ![16, 16, 9, 9]⟩
abbrev S9 : Shape := ⟨1, ![9]⟩
abbrev S9x1 : Shape := ⟨2, ![9, 1]⟩
abbrev S257 : Shape := ⟨1, ![257]⟩
abbrev S1x257 : Shape := ⟨2, ![1, 257]⟩
abbrev S9x257 : Shape := ⟨2, ![9, 257]⟩
abbrev S16x16x9x9x1 : Shape := ⟨5, ![16, 16, 9, 9, 1]⟩
abbrev S1x1x1x9x257 : Shape := ⟨5, ![1, 1, 1, 9, 257]⟩
abbrev S16x16x9x9x257 : Shape := ⟨5, ![16, 16, 9, 9, 257]⟩
abbrev S16x16x9x257 : Shape := ⟨4, ![16, 16, 9, 257]⟩
abbrev S512 : Shape := ⟨1, ![512]⟩
abbrev S512x1 : Shape := ⟨2, ![512, 1]⟩
abbrev S1x9 : Shape := ⟨2, ![1, 9]⟩
abbrev S512x9 : Shape := ⟨2, ![512, 9]⟩
abbrev S512x9x1 : Shape := ⟨3, ![512, 9, 1]⟩
abbrev S16x16x1x9x257 : Shape := ⟨5, ![16, 16, 1, 9, 257]⟩
abbrev S1x1x512x9x1 : Shape := ⟨5, ![1, 1, 512, 9, 1]⟩
abbrev S16x16x512x9x257 : Shape := ⟨5, ![16, 16, 512, 9, 257]⟩
abbrev S16x16x512x257 : Shape := ⟨4, ![16, 16, 512, 257]⟩
abbrev S1x16x16x8x8 : Shape := ⟨5, ![1, 16, 16, 8, 8]⟩

class Facts : Prop where
  pads_S16x16x8x8_S16x16x9x9_000_000_100_100 : S16x16x8x8.Pads (![0, 0, 1, 1] : Fin 4 → Nat) ![0, 0, 0, 0] ![0, 0, 0, 0] S16x16x9x9
  h_S_ : 0 < S_.numel
  bcast_S9_S9x1_0 : S9.BroadcastsInDim S9x1 (![0] : Fin 1 → Fin S9x1.rank)
  bcast_S257_S1x257_1 : S257.BroadcastsInDim S1x257 (![1] : Fin 1 → Fin S1x257.rank)
  bcast_S9x1_S9x257_0_1 : S9x1.BroadcastsInDim S9x257 (![0, 1] : Fin 2 → Fin S9x257.rank)
  bcast_S1x257_S9x257_0_1 : S1x257.BroadcastsInDim S9x257 (![0, 1] : Fin 2 → Fin S9x257.rank)
  bcast_S_S9x257 : S_.BroadcastsInDim S9x257 (![] : Fin 0 → Fin S9x257.rank)
  bcast_S16x16x9x9_S16x16x9x9x1_0_1_2_3 : S16x16x9x9.BroadcastsInDim S16x16x9x9x1 (![0, 1, 2, 3] : Fin 4 → Fin S16x16x9x9x1.rank)
  bcast_S9x257_S1x1x1x9x257_3_4 : S9x257.BroadcastsInDim S1x1x1x9x257 (![3, 4] : Fin 2 → Fin S1x1x1x9x257.rank)
  bcast_S16x16x9x9x1_S16x16x9x9x257_0_1_2_3_4 : S16x16x9x9x1.BroadcastsInDim S16x16x9x9x257 (![0, 1, 2, 3, 4] : Fin 5 → Fin S16x16x9x9x257.rank)
  bcast_S1x1x1x9x257_S16x16x9x9x257_0_1_2_3_4 : S1x1x1x9x257.BroadcastsInDim S16x16x9x9x257 (![0, 1, 2, 3, 4] : Fin 5 → Fin S16x16x9x9x257.rank)
  reducesTo_S16x16x9x9x257_S16x16x9x257_d3 : S16x16x9x9x257.ReducesTo [3] S16x16x9x257
  bcast_S512_S512x1_0 : S512.BroadcastsInDim S512x1 (![0] : Fin 1 → Fin S512x1.rank)
  bcast_S9_S1x9_1 : S9.BroadcastsInDim S1x9 (![1] : Fin 1 → Fin S1x9.rank)
  bcast_S512x1_S512x9_0_1 : S512x1.BroadcastsInDim S512x9 (![0, 1] : Fin 2 → Fin S512x9.rank)
  bcast_S1x9_S512x9_0_1 : S1x9.BroadcastsInDim S512x9 (![0, 1] : Fin 2 → Fin S512x9.rank)
  bcast_S_S512x9 : S_.BroadcastsInDim S512x9 (![] : Fin 0 → Fin S512x9.rank)
  bcast_S512x9_S512x9x1_0_1 : S512x9.BroadcastsInDim S512x9x1 (![0, 1] : Fin 2 → Fin S512x9x1.rank)
  bcast_S16x16x9x257_S16x16x1x9x257_0_1_3_4 : S16x16x9x257.BroadcastsInDim S16x16x1x9x257 (![0, 1, 3, 4] : Fin 4 → Fin S16x16x1x9x257.rank)
  bcast_S512x9x1_S1x1x512x9x1_2_3_4 : S512x9x1.BroadcastsInDim S1x1x512x9x1 (![2, 3, 4] : Fin 3 → Fin S1x1x512x9x1.rank)
  bcast_S1x1x512x9x1_S16x16x512x9x257_0_1_2_3_4 : S1x1x512x9x1.BroadcastsInDim S16x16x512x9x257 (![0, 1, 2, 3, 4] : Fin 5 → Fin S16x16x512x9x257.rank)
  bcast_S16x16x1x9x257_S16x16x512x9x257_0_1_2_3_4 : S16x16x1x9x257.BroadcastsInDim S16x16x512x9x257 (![0, 1, 2, 3, 4] : Fin 5 → Fin S16x16x512x9x257.rank)
  reducesTo_S16x16x512x9x257_S16x16x512x257_d3 : S16x16x512x9x257.ReducesTo [3] S16x16x512x257
  slices_S4x16x16x8x8_S1x16x16x8x8_0_0_0_0_0 : S4x16x16x8x8.Slices ![0, 0, 0, 0, 0] S1x16x16x8x8
  shapeCasts_S1x16x16x8x8_S16x16x8x8 : S1x16x16x8x8.ShapeCasts S16x16x8x8
  bcast_S_S16x16x8x8 : S_.BroadcastsInDim S16x16x8x8 (![] : Fin 0 → Fin S16x16x8x8.rank)
  bcast_S_S16x16x512x257 : S_.BroadcastsInDim S16x16x512x257 (![] : Fin 0 → Fin S16x16x512x257.rank)

variable [Facts]

def fn_pad {F : FTy → Type} [FloatOps F] (arg0 : FVec F S16x16x8x8 .f32) (arg1 : FVec F S_ .f32) : FVec F S16x16x9x9 .f32 :=
  let v0 : FVec F S_ .f32 := id arg1
  let v1 : FVec F S16x16x9x9 .f32 := (fun x v => pad S16x16x9x9 ![0, 0, 1, 1] ![0, 0, 0, 0] ![0, 0, 0, 0] x v pads_S16x16x8x8_S16x16x9x9_000_000_100_100 h_S_) arg0 v0
  v1

def fn_part4 {F : FTy → Type} [FloatOps F] (main_v75 : IVec S16x16x8x8 1) (main_v78 : IVec S16x16x8x8 1) (main_v79 : FVec F S16x16x512x257 .f32) (main_v80 : FVec F S16x16x512x257 .f32) : IVec S16x16x8x8 1 × IVec S16x16x8x8 1 × IVec S16x16x512x257 1 :=
  let main_v81 : FVec F S16x16x512x257 .f32 := addf main_v79 main_v80
  let main_cst_14 : FVec F S_ .f32 := constant S_ .f32 0x00000000#32
  let main_v82 : FVec F S16x16x512x257 .f32 := broadcastInDim S16x16x512x257 ![] bcast_S_S16x16x512x257 main_cst_14
  let main_v83 : IVec S16x16x512x257 1 := cmpf .une main_v81 main_v82
  (main_v75, main_v78, main_v83)

def fn_part3 {F : FTy → Type} [FloatOps F] (main_arg2 : FVec F S4x16x16x8x8 .f32) (main_arg3 : FVec F S16x16x8x8 .f32) (main_v46 : FVec F S512x9x1 .f32) (main_v47 : FVec F S16x16x1x9x257 .f32) (main_v48 : FVec F S16x16x1x9x257 .f32) (main_v59 : FVec F S16x16x512x257 .f32) (main_v60 : FVec F S1x1x512x9x1 .f32) : IVec S16x16x8x8 1 × IVec S16x16x8x8 1 × IVec S16x16x512x257 1 :=
  let main_v61 : FVec F S16x16x512x9x257 .f32 := broadcastInDim S16x16x512x9x257 ![0, 1, 2, 3, 4] bcast_S1x1x512x9x1_S16x16x512x9x257_0_1_2_3_4 main_v60
  let main_v62 : FVec F S16x16x512x9x257 .f32 := broadcastInDim S16x16x512x9x257 ![0, 1, 2, 3, 4] bcast_S16x16x1x9x257_S16x16x512x9x257_0_1_2_3_4 main_v48
  let main_v63 : FVec F S16x16x512x9x257 .f32 := mulf main_v61 main_v62
  let main_cst_10 : FVec F S_ .f32 := constant S_ .f32 0x00000000#32
  let main_v64 : FVec F S16x16x512x257 .f32 := (fun x v => Host.reduceAdd x v reducesTo_S16x16x512x9x257_S16x16x512x257_d3 h_S_) main_v63 main_cst_10
  let main_v65 : FVec F S1x1x512x9x1 .f32 := broadcastInDim S1x1x512x9x1 ![2, 3, 4] bcast_S512x9x1_S1x1x512x9x1_2_3_4 main_v46
  let main_v66 : FVec F S16x16x512x9x257 .f32 := broadcastInDim S16x16x512x9x257 ![0, 1, 2, 3, 4] bcast_S1x1x512x9x1_S16x16x512x9x257_0_1_2_3_4 main_v65
  let main_v67 : FVec F S16x16x512x9x257 .f32 := broadcastInDim S16x16x512x9x257 ![0, 1, 2, 3, 4] bcast_S16x16x1x9x257_S16x16x512x9x257_0_1_2_3_4 main_v47
  let main_v68 : FVec F S16x16x512x9x257 .f32 := mulf main_v66 main_v67
  let main_cst_11 : FVec F S_ .f32 := constant S_ .f32 0x00000000#32
  let main_v69 : FVec F S16x16x512x257 .f32 := (fun x v => Host.reduceAdd x v reducesTo_S16x16x512x9x257_S16x16x512x257_d3 h_S_) main_v68 main_cst_11
  let main_v70 : FVec F S16x16x512x257 .f32 := addf main_v64 main_v69
  let main_v71 : FVec F S1x16x16x8x8 .f32 := (extractStridedSlice S1x16x16x8x8 ![0, 0, 0, 0, 0] · slices_S4x16x16x8x8_S1x16x16x8x8_0_0_0_0_0) main_arg2
  let main_v72 : FVec F S16x16x8x8 .f32 := shapeCast S16x16x8x8 main_v71 shapeCasts_S1x16x16x8x8_S16x16x8x8
  let main_v73 : FVec F S16x16x8x8 .f32 := Host.absf main_v72
  let main_cst_12 : FVec F S_ .f32 := constant S_ .f32 0x7F800000#32
  let main_v74 : FVec F S16x16x8x8 .f32 := broadcastInDim S16x16x8x8 ![] bcast_S_S16x16x8x8 main_cst_12
  let main_v75 : IVec S16x16x8x8 1 := cmpf .olt main_v73 main_v74
  let main_v76 : FVec F S16x16x8x8 .f32 := Host.absf main_arg3
  let main_cst_13 : FVec F S_ .f32 := constant S_ .f32 0x7F800000#32
  let main_v77 : FVec F S16x16x8x8 .f32 := broadcastInDim S16x16x8x8 ![] bcast_S_S16x16x8x8 main_cst_13
  let main_v78 : IVec S16x16x8x8 1 := cmpf .olt main_v76 main_v77
  let main_v79 : FVec F S16x16x512x257 .f32 := mulf main_v59 main_v59
  let main_v80 : FVec F S16x16x512x257 .f32 := mulf main_v70 main_v70
  fn_part4 (F := F) main_v75 main_v78 main_v79 main_v80

def fn_part2 {F : FTy → Type} [FloatOps F] (main_arg2 : FVec F S4x16x16x8x8 .f32) (main_arg3 : FVec F S16x16x8x8 .f32) (main_v22 : FVec F S16x16x9x257 .f32) (main_v28 : FVec F S16x16x9x257 .f32) (main_v36 : FVec F S512x9 .f32) (main_v38 : FVec F S_ .f32) (main_cst_7 : FVec F S_ .f32) : IVec S16x16x8x8 1 × IVec S16x16x8x8 1 × IVec S16x16x512x257 1 :=
  let main_v39 : FVec F S_ .f32 := Host.divf main_v38 main_cst_7
  let main_v40 : FVec F S512x9 .f32 := broadcastInDim S512x9 ![] bcast_S_S512x9 main_v39
  let main_v41 : FVec F S512x9 .f32 := mulf main_v36 main_v40
  let main_v42 : FVec F S512x9 .f32 := Host.cos main_v41
  let main_v43 : FVec F S512x9 .f32 := Host.sin main_v41
  let main_v44 : FVec F S512x9 .f32 := Host.negf main_v43
  let main_v45 : FVec F S512x9x1 .f32 := broadcastInDim S512x9x1 ![0, 1] bcast_S512x9_S512x9x1_0_1 main_v42
  let main_v46 : FVec F S512x9x1 .f32 := broadcastInDim S512x9x1 ![0, 1] bcast_S512x9_S512x9x1_0_1 main_v44
  let main_v47 : FVec F S16x16x1x9x257 .f32 := broadcastInDim S16x16x1x9x257 ![0, 1, 3, 4] bcast_S16x16x9x257_S16x16x1x9x257_0_1_3_4 main_v22
  let main_v48 : FVec F S16x16x1x9x257 .f32 := broadcastInDim S16x16x1x9x257 ![0, 1, 3, 4] bcast_S16x16x9x257_S16x16x1x9x257_0_1_3_4 main_v28
  let main_v49 : FVec F S1x1x512x9x1 .f32 := broadcastInDim S1x1x512x9x1 ![2, 3, 4] bcast_S512x9x1_S1x1x512x9x1_2_3_4 main_v45
  let main_v50 : FVec F S16x16x512x9x257 .f32 := broadcastInDim S16x16x512x9x257 ![0, 1, 2, 3, 4] bcast_S1x1x512x9x1_S16x16x512x9x257_0_1_2_3_4 main_v49
  let main_v51 : FVec F S16x16x512x9x257 .f32 := broadcastInDim S16x16x512x9x257 ![0, 1, 2, 3, 4] bcast_S16x16x1x9x257_S16x16x512x9x257_0_1_2_3_4 main_v47
  let main_v52 : FVec F S16x16x512x9x257 .f32 := mulf main_v50 main_v51
  let main_cst_8 : FVec F S_ .f32 := constant S_ .f32 0x00000000#32
  let main_v53 : FVec F S16x16x512x257 .f32 := (fun x v => Host.reduceAdd x v reducesTo_S16x16x512x9x257_S16x16x512x257_d3 h_S_) main_v52 main_cst_8
  let main_v54 : FVec F S1x1x512x9x1 .f32 := broadcastInDim S1x1x512x9x1 ![2, 3, 4] bcast_S512x9x1_S1x1x512x9x1_2_3_4 main_v46
  let main_v55 : FVec F S16x16x512x9x257 .f32 := broadcastInDim S16x16x512x9x257 ![0, 1, 2, 3, 4] bcast_S1x1x512x9x1_S16x16x512x9x257_0_1_2_3_4 main_v54
  let main_v56 : FVec F S16x16x512x9x257 .f32 := broadcastInDim S16x16x512x9x257 ![0, 1, 2, 3, 4] bcast_S16x16x1x9x257_S16x16x512x9x257_0_1_2_3_4 main_v48
  let main_v57 : FVec F S16x16x512x9x257 .f32 := mulf main_v55 main_v56
  let main_cst_9 : FVec F S_ .f32 := constant S_ .f32 0x00000000#32
  let main_v58 : FVec F S16x16x512x257 .f32 := (fun x v => Host.reduceAdd x v reducesTo_S16x16x512x9x257_S16x16x512x257_d3 h_S_) main_v57 main_cst_9
  let main_v59 : FVec F S16x16x512x257 .f32 := subf main_v53 main_v58
  let main_v60 : FVec F S1x1x512x9x1 .f32 := broadcastInDim S1x1x512x9x1 ![2, 3, 4] bcast_S512x9x1_S1x1x512x9x1_2_3_4 main_v45
  fn_part3 (F := F) main_arg2 main_arg3 main_v46 main_v47 main_v48 main_v59 main_v60

def fn_part1 {F : FTy → Type} [FloatOps F] (main_arg2 : FVec F S4x16x16x8x8 .f32) (main_arg3 : FVec F S16x16x8x8 .f32) (main_v0 : FVec F S16x16x9x9 .f32) (main_v16 : FVec F S9x257 .f32) (main_v18 : FVec F S1x1x1x9x257 .f32) (main_v19 : FVec F S16x16x9x9x257 .f32) : IVec S16x16x8x8 1 × IVec S16x16x8x8 1 × IVec S16x16x512x257 1 :=
  let main_v20 : FVec F S16x16x9x9x257 .f32 := broadcastInDim S16x16x9x9x257 ![0, 1, 2, 3, 4] bcast_S1x1x1x9x257_S16x16x9x9x257_0_1_2_3_4 main_v18
  let main_v21 : FVec F S16x16x9x9x257 .f32 := mulf main_v19 main_v20
  let main_cst_3 : FVec F S_ .f32 := constant S_ .f32 0x00000000#32
  let main_v22 : FVec F S16x16x9x257 .f32 := (fun x v => Host.reduceAdd x v reducesTo_S16x16x9x9x257_S16x16x9x257_d3 h_S_) main_v21 main_cst_3
  let main_v23 : FVec F S16x16x9x9x1 .f32 := broadcastInDim S16x16x9x9x1 ![0, 1, 2, 3] bcast_S16x16x9x9_S16x16x9x9x1_0_1_2_3 main_v0
  let main_v24 : FVec F S1x1x1x9x257 .f32 := broadcastInDim S1x1x1x9x257 ![3, 4] bcast_S9x257_S1x1x1x9x257_3_4 main_v16
  let main_v25 : FVec F S16x16x9x9x257 .f32 := broadcastInDim S16x16x9x9x257 ![0, 1, 2, 3, 4] bcast_S16x16x9x9x1_S16x16x9x9x257_0_1_2_3_4 main_v23
  let main_v26 : FVec F S16x16x9x9x257 .f32 := broadcastInDim S16x16x9x9x257 ![0, 1, 2, 3, 4] bcast_S1x1x1x9x257_S16x16x9x9x257_0_1_2_3_4 main_v24
  let main_v27 : FVec F S16x16x9x9x257 .f32 := mulf main_v25 main_v26
  let main_cst_4 : FVec F S_ .f32 := constant S_ .f32 0x00000000#32
  let main_v28 : FVec F S16x16x9x257 .f32 := (fun x v => Host.reduceAdd x v reducesTo_S16x16x9x9x257_S16x16x9x257_d3 h_S_) main_v27 main_cst_4
  let main_v29 : IVec S512 32 := iotaInDim S512 32 0
  let main_v30 : IVec S512x1 32 := broadcastInDim S512x1 ![0] bcast_S512_S512x1_0 main_v29
  let main_v31 : IVec S9 32 := iotaInDim S9 32 0
  let main_v32 : IVec S1x9 32 := broadcastInDim S1x9 ![1] bcast_S9_S1x9_1 main_v31
  let main_v33 : IVec S512x9 32 := broadcastInDim S512x9 ![0, 1] bcast_S512x1_S512x9_0_1 main_v30
  let main_v34 : IVec S512x9 32 := broadcastInDim S512x9 ![0, 1] bcast_S1x9_S512x9_0_1 main_v32
  let main_v35 : IVec S512x9 32 := muli main_v33 main_v34
  let main_v36 : FVec F S512x9 .f32 := sitofp .f32 main_v35
  let main_cst_5 : FVec F S_ .f32 := constant S_ .f32 0xBF800000#32
  let main_v37 : FVec F S_ .f32 := Host.acos main_cst_5
  let main_cst_6 : FVec F S_ .f32 := constant S_ .f32 0x40000000#32
  let main_v38 : FVec F S_ .f32 := mulf main_cst_6 main_v37
  let main_cst_7 : FVec F S_ .f32 := constant S_ .f32 0x44000000#32
  fn_part2 (F := F) main_arg2 main_arg3 main_v22 main_v28 main_v36 main_v38 main_cst_7

def fn {F : FTy → Type} [FloatOps F] (main_arg0 : FVec F S4x512x512x16 .f32) (main_arg1 : FVec F S16x16x1x1 .f32) (main_arg2 : FVec F S4x16x16x8x8 .f32) (main_arg3 : FVec F S16x16x8x8 .f32) : IVec S16x16x8x8 1 × IVec S16x16x8x8 1 × IVec S16x16x512x257 1 :=
  let main_cst : FVec F S_ .f32 := constant S_ .f32 0x3F800000#32
  let main_v0 : FVec F S16x16x9x9 .f32 := fn_pad (F := F) main_arg3 main_cst
  let main_v1 : IVec S9 32 := iotaInDim S9 32 0
  let main_v2 : IVec S9x1 32 := broadcastInDim S9x1 ![0] bcast_S9_S9x1_0 main_v1
  let main_v3 : IVec S257 32 := iotaInDim S257 32 0
  let main_v4 : IVec S1x257 32 := broadcastInDim S1x257 ![1] bcast_S257_S1x257_1 main_v3
  let main_v5 : IVec S9x257 32 := broadcastInDim S9x257 ![0, 1] bcast_S9x1_S9x257_0_1 main_v2
  let main_v6 : IVec S9x257 32 := broadcastInDim S9x257 ![0, 1] bcast_S1x257_S9x257_0_1 main_v4
  let main_v7 : IVec S9x257 32 := muli main_v5 main_v6
  let main_v8 : FVec F S9x257 .f32 := sitofp .f32 main_v7
  let main_cst_0 : FVec F S_ .f32 := constant S_ .f32 0xBF800000#32
  let main_v9 : FVec F S_ .f32 := Host.acos main_cst_0
  let main_cst_1 : FVec F S_ .f32 := constant S_ .f32 0x40000000#32
  let main_v10 : FVec F S_ .f32 := mulf main_cst_1 main_v9
  let main_cst_2 : FVec F S_ .f32 := constant S_ .f32 0x44000000#32
  let main_v11 : FVec F S_ .f32 := Host.divf main_v10 main_cst_2
  let main_v12 : FVec F S9x257 .f32 := broadcastInDim S9x257 ![] bcast_S_S9x257 main_v11
  let main_v13 : FVec F S9x257 .f32 := mulf main_v8 main_v12
  let main_v14 : FVec F S9x257 .f32 := Host.cos main_v13
  let main_v15 : FVec F S9x257 .f32 := Host.sin main_v13
  let main_v16 : FVec F S9x257 .f32 := Host.negf main_v15
  let main_v17 : FVec F S16x16x9x9x1 .f32 := broadcastInDim S16x16x9x9x1 ![0, 1, 2, 3] bcast_S16x16x9x9_S16x16x9x9x1_0_1_2_3 main_v0
  let main_v18 : FVec F S1x1x1x9x257 .f32 := broadcastInDim S1x1x1x9x257 ![3, 4] bcast_S9x257_S1x1x1x9x257_3_4 main_v14
  let main_v19 : FVec F S16x16x9x9x257 .f32 := broadcastInDim S16x16x9x9x257 ![0, 1, 2, 3, 4] bcast_S16x16x9x9x1_S16x16x9x9x257_0_1_2_3_4 main_v17
  fn_part1 (F := F) main_arg2 main_arg3 main_v0 main_v16 main_v18 main_v19
-- ==== Kernel.lean ====
abbrev S4x512x512x16 : Shape := ⟨4, ![4, 512, 512, 16]⟩
abbrev S16x16x1x1 : Shape := ⟨4, ![16, 16, 1, 1]⟩
abbrev S4x16x16x8x8 : Shape := ⟨5, ![4, 16, 16, 8, 8]⟩
abbrev S16x16x8x8 : Shape := ⟨4, ![16, 16, 8, 8]⟩
abbrev S_ : Shape := ⟨0, ![]⟩
abbrev S16x16x9x9 : Shape := ⟨4, ![16, 16, 9, 9]⟩
abbrev S1x16x16x8x8 : Shape := ⟨5, ![1, 16, 16, 8, 8]⟩
abbrev S256x9x9 : Shape := ⟨3, ![256, 9, 9]⟩
abbrev S256x16x16 : Shape := ⟨3, ![256, 16, 16]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1024x512 : Shape := ⟨2, ![1024, 512]⟩
abbrev S1024 : Shape := ⟨1, ![1024]⟩
abbrev S1024x1 : Shape := ⟨2, ![1024, 1]⟩
abbrev S513 : Shape := ⟨1, ![513]⟩
abbrev S1x513 : Shape := ⟨2, ![1, 513]⟩
abbrev S512x513 : Shape := ⟨2, ![512, 513]⟩
abbrev S512x1024 : Shape := ⟨2, ![512, 1024]⟩
abbrev S513x1 : Shape := ⟨2, ![513, 1]⟩
abbrev S513x512 : Shape := ⟨2, ![513, 512]⟩
abbrev S1 : Shape := ⟨1, ![1]⟩
abbrev S2 : Shape := ⟨1, ![2]⟩
abbrev S16 : Shape := ⟨1, ![16]⟩
abbrev S1x16 : Shape := ⟨2, ![1, 16]⟩
abbrev S512x16 : Shape := ⟨2, ![512, 16]⟩
abbrev S16x1 : Shape := ⟨2, ![16, 1]⟩
abbrev S257 : Shape := ⟨1, ![257]⟩
abbrev S1x257 : Shape := ⟨2, ![1, 257]⟩
abbrev S16x257 : Shape := ⟨2, ![16, 257]⟩
abbrev S256x512x257 : Shape := ⟨3, ![256, 512, 257]⟩
abbrev S1x16x16 : Shape := ⟨3, ![1, 16, 16]⟩
abbrev S1x512x257 : Shape := ⟨3, ![1, 512, 257]⟩
abbrev S16x16 : Shape := ⟨2, ![16, 16]⟩
abbrev S512x257 : Shape := ⟨2, ![512, 257]⟩
abbrev S256x1x257 : Shape := ⟨3, ![256, 1, 257]⟩
abbrev S256x511x257 : Shape := ⟨3, ![256, 511, 257]⟩
abbrev S256x512x255 : Shape := ⟨3, ![256, 512, 255]⟩
abbrev S256x512x512 : Shape := ⟨3, ![256, 512, 512]⟩
abbrev S256x1024x513 : Shape := ⟨3, ![256, 1024, 513]⟩
abbrev S1x512x512 : Shape := ⟨3, ![1, 512, 512]⟩
abbrev S1x1024x513 : Shape := ⟨3, ![1, 1024, 513]⟩
abbrev S1x512x513 : Shape := ⟨3, ![1, 512, 513]⟩
abbrev S4x16x512x512 : Shape := ⟨4, ![4, 16, 512, 512]⟩
abbrev S64x512x512 : Shape := ⟨3, ![64, 512, 512]⟩
abbrev S64x1024x513 : Shape := ⟨3, ![64, 1024, 513]⟩
abbrev S1024x513 : Shape := ⟨2, ![1024, 513]⟩
abbrev S4x16x1024x513 : Shape := ⟨4, ![4, 16, 1024, 513]⟩
abbrev S16x16x1024x513 : Shape := ⟨4, ![16, 16, 1024, 513]⟩
abbrev S4x16x8x513 : Shape := ⟨4, ![4, 16, 8, 513]⟩
abbrev S16x16x8x513 : Shape := ⟨4, ![16, 16, 8, 513]⟩
abbrev S4x1x8x513 : Shape := ⟨4, ![4, 1, 8, 513]⟩
abbrev S4x8x513 : Shape := ⟨3, ![4, 8, 513]⟩
abbrev S1x16x8x513 : Shape := ⟨4, ![1, 16, 8, 513]⟩
abbrev S16x8x513 : Shape := ⟨3, ![16, 8, 513]⟩
abbrev S16x1x1 : Shape := ⟨3, ![16, 1, 1]⟩

abbrev nBuf : Space → Nat
  | .hbm => 413
  | .vmem => 69
  | .smem => 0
  | _ => 0

abbrev hbmTy0_0 (i : Nat) : BufTy := match i % 128 with
  | 0 => ⟨S4x512x512x16, .f32⟩
  | 1 => ⟨S16x16x1x1, .f32⟩
  | 2 => ⟨S4x16x16x8x8, .f32⟩
  | 3 => ⟨S16x16x8x8, .f32⟩
  | 4 => ⟨S_, .f32⟩
  | 5 => ⟨S_, .f32⟩
  | 6 => ⟨S16x16x9x9, .f32⟩
  | 7 => ⟨S1x16x16x8x8, .f32⟩
  | 8 => ⟨S16x16x8x8, .f32⟩
  | 9 => ⟨S_, .f32⟩
  | 10 => ⟨S_, .f32⟩
  | 11 => ⟨S16x16x9x9, .f32⟩
  | 12 => ⟨S256x9x9, .f32⟩
  | 13 => ⟨S_, .i32⟩
  | 14 => ⟨S_, .f32⟩
  | 15 => ⟨S256x16x16, .f32⟩
  | 16 => ⟨S256x9x9, .f32⟩
  | 17 => ⟨S_, .i32⟩
  | 18 => ⟨S_, .f32⟩
  | 19 => ⟨S256x16x16, .f32⟩
  | 20 => ⟨S512, .i32⟩
  | 21 => ⟨S512x1, .i32⟩
  | 22 => ⟨S512, .i32⟩
  | 23 => ⟨S1x512, .i32⟩
  | 24 => ⟨S512x512, .i32⟩
  | 25 => ⟨S512x512, .i32⟩
  | 26 => ⟨S512x512, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S512x512, .i32⟩
  | 34 => ⟨S512x512, .i32⟩
  | 35 => ⟨S_, .i32⟩
  | 36 => ⟨S512x512, .i32⟩
  | 37 => ⟨S512x512, .i1⟩
  | 38 => ⟨S_, .i32⟩
  | 39 => ⟨S512x512, .i32⟩
  | 40 => ⟨S512x512, .i1⟩
  | 41 => ⟨S_, .i32⟩
  | 42 => ⟨S_, .i1⟩
  | 43 => ⟨S512x512, .i1⟩
  | 44 => ⟨S512x512, .i1⟩
  | 45 => ⟨S512x512, .i1⟩
  | 46 => ⟨S512x512, .i32⟩
  | 47 => ⟨S512x512, .i32⟩
  | 48 => ⟨S512x512, .i32⟩
  | 49 => ⟨S512x512, .f32⟩
  | 50 => ⟨S_, .f32⟩
  | 51 => ⟨S_, .f32⟩
  | 52 => ⟨S_, .f32⟩
  | 53 => ⟨S_, .f32⟩
  | 54 => ⟨S512x512, .f32⟩
  | 55 => ⟨S512x512, .f32⟩
  | 56 => ⟨S512x512, .f32⟩
  | 57 => ⟨S512x512, .f32⟩
  | 58 => ⟨S512x512, .f32⟩
  | 59 => ⟨S512, .i32⟩
  | 60 => ⟨S512, .f32⟩
  | 61 => ⟨S_, .f32⟩
  | 62 => ⟨S_, .f32⟩
  | 63 => ⟨S_, .f32⟩
  | 64 => ⟨S_, .f32⟩
  | 65 => ⟨S512, .f32⟩
  | 66 => ⟨S512, .f32⟩
  | 67 => ⟨S512, .f32⟩
  | 68 => ⟨S1x512, .f32⟩
  | 69 => ⟨S512, .f32⟩
  | 70 => ⟨S1x512, .f32⟩
  | 71 => ⟨S1x512, .f32⟩
  | 72 => ⟨S512x512, .f32⟩
  | 73 => ⟨S512x512, .f32⟩
  | 74 => ⟨S512x512, .f32⟩
  | 75 => ⟨S512x512, .f32⟩
  | 76 => ⟨S512x512, .f32⟩
  | 77 => ⟨S1024x512, .f32⟩
  | 78 => ⟨S512x512, .f32⟩
  | 79 => ⟨S512x512, .f32⟩
  | 80 => ⟨S512x512, .f32⟩
  | 81 => ⟨S512x512, .f32⟩
  | 82 => ⟨S512x512, .f32⟩
  | 83 => ⟨S1024x512, .f32⟩
  | 84 => ⟨S_, .f32⟩
  | 85 => ⟨S512x512, .f32⟩
  | 86 => ⟨S512x512, .f32⟩
  | 87 => ⟨S512x512, .f32⟩
  | 88 => ⟨S_, .f32⟩
  | 89 => ⟨S512x512, .f32⟩
  | 90 => ⟨S512x512, .f32⟩
  | 91 => ⟨S1024, .i32⟩
  | 92 => ⟨S1024x1, .i32⟩
  | 93 => ⟨S512, .i32⟩
  | 94 => ⟨S1x512, .i32⟩
  | 95 => ⟨S1024x512, .i32⟩
  | 96 => ⟨S1024x512, .i32⟩
  | 97 => ⟨S1024x512, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S1024x512, .i32⟩
  | 105 => ⟨S1024x512, .i32⟩
  | 106 => ⟨S_, .i32⟩
  | 107 => ⟨S1024x512, .i32⟩
  | 108 => ⟨S1024x512, .i1⟩
  | 109 => ⟨S_, .i32⟩
  | 110 => ⟨S1024x512, .i32⟩
  | 111 => ⟨S1024x512, .i1⟩
  | 112 => ⟨S_, .i32⟩
  | 113 => ⟨S_, .i1⟩
  | 114 => ⟨S1024x512, .i1⟩
  | 115 => ⟨S1024x512, .i1⟩
  | 116 => ⟨S1024x512, .i1⟩
  | 117 => ⟨S1024x512, .i32⟩
  | 118 => ⟨S1024x512, .i32⟩
  | 119 => ⟨S1024x512, .i32⟩
  | 120 => ⟨S1024x512, .f32⟩
  | 121 => ⟨S_, .f32⟩
  | 122 => ⟨S_, .f32⟩
  | 123 => ⟨S_, .f32⟩
  | 124 => ⟨S_, .f32⟩
  | 125 => ⟨S1024x512, .f32⟩
  | 126 => ⟨S1024x512, .f32⟩
  | 127 => ⟨S1024x512, .f32⟩
  | _ => ⟨S4x512x512x16, .f32⟩

abbrev hbmTy0_1 (i : Nat) : BufTy := match i % 128 with
  | 0 => ⟨S1024x512, .f32⟩
  | 1 => ⟨S1024x512, .f32⟩
  | 2 => ⟨S1024x512, .f32⟩
  | 3 => ⟨S1024x512, .f32⟩
  | 4 => ⟨S512x512, .f32⟩
  | 5 => ⟨S512x512, .f32⟩
  | 6 => ⟨S512, .i32⟩
  | 7 => ⟨S512x1, .i32⟩
  | 8 => ⟨S513, .i32⟩
  | 9 => ⟨S1x513, .i32⟩
  | 10 => ⟨S512x513, .i32⟩
  | 11 => ⟨S512x513, .i32⟩
  | 12 => ⟨S512x513, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S512x513, .i32⟩
  | 20 => ⟨S512x513, .i32⟩
  | 21 => ⟨S_, .i32⟩
  | 22 => ⟨S512x513, .i32⟩
  | 23 => ⟨S512x513, .i1⟩
  | 24 => ⟨S_, .i32⟩
  | 25 => ⟨S512x513, .i32⟩
  | 26 => ⟨S512x513, .i1⟩
  | 27 => ⟨S_, .i32⟩
  | 28 => ⟨S_, .i1⟩
  | 29 => ⟨S512x513, .i1⟩
  | 30 => ⟨S512x513, .i1⟩
  | 31 => ⟨S512x513, .i1⟩
  | 32 => ⟨S512x513, .i32⟩
  | 33 => ⟨S512x513, .i32⟩
  | 34 => ⟨S512x513, .i32⟩
  | 35 => ⟨S512x513, .f32⟩
  | 36 => ⟨S_, .f32⟩
  | 37 => ⟨S_, .f32⟩
  | 38 => ⟨S_, .f32⟩
  | 39 => ⟨S_, .f32⟩
  | 40 => ⟨S512x513, .f32⟩
  | 41 => ⟨S512x513, .f32⟩
  | 42 => ⟨S512x513, .f32⟩
  | 43 => ⟨S512x513, .f32⟩
  | 44 => ⟨S512x513, .f32⟩
  | 45 => ⟨S512x513, .f32⟩
  | 46 => ⟨S512x513, .f32⟩
  | 47 => ⟨S512, .i32⟩
  | 48 => ⟨S512x1, .i32⟩
  | 49 => ⟨S512, .i32⟩
  | 50 => ⟨S1x512, .i32⟩
  | 51 => ⟨S512x512, .i32⟩
  | 52 => ⟨S512x512, .i32⟩
  | 53 => ⟨S512x512, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S512x512, .i32⟩
  | 61 => ⟨S512x512, .i32⟩
  | 62 => ⟨S_, .i32⟩
  | 63 => ⟨S512x512, .i32⟩
  | 64 => ⟨S512x512, .i1⟩
  | 65 => ⟨S_, .i32⟩
  | 66 => ⟨S512x512, .i32⟩
  | 67 => ⟨S512x512, .i1⟩
  | 68 => ⟨S_, .i32⟩
  | 69 => ⟨S_, .i1⟩
  | 70 => ⟨S512x512, .i1⟩
  | 71 => ⟨S512x512, .i1⟩
  | 72 => ⟨S512x512, .i1⟩
  | 73 => ⟨S512x512, .i32⟩
  | 74 => ⟨S512x512, .i32⟩
  | 75 => ⟨S512x512, .i32⟩
  | 76 => ⟨S512x512, .f32⟩
  | 77 => ⟨S_, .f32⟩
  | 78 => ⟨S_, .f32⟩
  | 79 => ⟨S_, .f32⟩
  | 80 => ⟨S_, .f32⟩
  | 81 => ⟨S512x512, .f32⟩
  | 82 => ⟨S512x512, .f32⟩
  | 83 => ⟨S512x512, .f32⟩
  | 84 => ⟨S512x512, .f32⟩
  | 85 => ⟨S512x512, .f32⟩
  | 86 => ⟨S512, .f32⟩
  | 87 => ⟨S512x1, .f32⟩
  | 88 => ⟨S512, .f32⟩
  | 89 => ⟨S512x1, .f32⟩
  | 90 => ⟨S512x512, .f32⟩
  | 91 => ⟨S512x512, .f32⟩
  | 92 => ⟨S512x512, .f32⟩
  | 93 => ⟨S512x512, .f32⟩
  | 94 => ⟨S512x512, .f32⟩
  | 95 => ⟨S512x512, .f32⟩
  | 96 => ⟨S512x512, .f32⟩
  | 97 => ⟨S512x512, .f32⟩
  | 98 => ⟨S512x512, .f32⟩
  | 99 => ⟨S512x512, .f32⟩
  | 100 => ⟨S512x512, .f32⟩
  | 101 => ⟨S512x1024, .f32⟩
  | 102 => ⟨S512x512, .f32⟩
  | 103 => ⟨S512x1024, .f32⟩
  | 104 => ⟨S513, .i32⟩
  | 105 => ⟨S513x1, .i32⟩
  | 106 => ⟨S512, .i32⟩
  | 107 => ⟨S1x512, .i32⟩
  | 108 => ⟨S513x512, .i32⟩
  | 109 => ⟨S513x512, .i32⟩
  | 110 => ⟨S513x512, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S513x512, .i32⟩
  | 118 => ⟨S513x512, .i32⟩
  | 119 => ⟨S_, .i32⟩
  | 120 => ⟨S513x512, .i32⟩
  | 121 => ⟨S513x512, .i1⟩
  | 122 => ⟨S_, .i32⟩
  | 123 => ⟨S513x512, .i32⟩
  | 124 => ⟨S513x512, .i1⟩
  | 125 => ⟨S_, .i32⟩
  | 126 => ⟨S_, .i1⟩
  | 127 => ⟨S513x512, .i1⟩
  | _ => ⟨S4x512x512x16, .f32⟩

abbrev hbmTy0_2 (i : Nat) : BufTy := match i % 128 with
  | 0 => ⟨S513x512, .i1⟩
  | 1 => ⟨S513x512, .i1⟩
  | 2 => ⟨S513x512, .i32⟩
  | 3 => ⟨S513x512, .i32⟩
  | 4 => ⟨S513x512, .i32⟩
  | 5 => ⟨S513x512, .f32⟩
  | 6 => ⟨S_, .f32⟩
  | 7 => ⟨S_, .f32⟩
  | 8 => ⟨S_, .f32⟩
  | 9 => ⟨S_, .f32⟩
  | 10 => ⟨S513x512, .f32⟩
  | 11 => ⟨S513x512, .f32⟩
  | 12 => ⟨S513x512, .f32⟩
  | 13 => ⟨S513x512, .f32⟩
  | 14 => ⟨S513x512, .f32⟩
  | 15 => ⟨S513x512, .f32⟩
  | 16 => ⟨S_, .f32⟩
  | 17 => ⟨S513x1, .f32⟩
  | 18 => ⟨S_, .i32⟩
  | 19 => ⟨S1, .i32⟩
  | 20 => ⟨S_, .i32⟩
  | 21 => ⟨S1, .i32⟩
  | 22 => ⟨S2, .i32⟩
  | 23 => ⟨S_, .f32⟩
  | 24 => ⟨S513x1, .f32⟩
  | 25 => ⟨S_, .i32⟩
  | 26 => ⟨S1, .i32⟩
  | 27 => ⟨S_, .i32⟩
  | 28 => ⟨S1, .i32⟩
  | 29 => ⟨S2, .i32⟩
  | 30 => ⟨S_, .f32⟩
  | 31 => ⟨S513x1, .f32⟩
  | 32 => ⟨S_, .f32⟩
  | 33 => ⟨S513x1, .f32⟩
  | 34 => ⟨S513x1, .f32⟩
  | 35 => ⟨S513x512, .f32⟩
  | 36 => ⟨S513x512, .f32⟩
  | 37 => ⟨S513x512, .f32⟩
  | 38 => ⟨S513x512, .f32⟩
  | 39 => ⟨S512, .i32⟩
  | 40 => ⟨S512x1, .i32⟩
  | 41 => ⟨S16, .i32⟩
  | 42 => ⟨S1x16, .i32⟩
  | 43 => ⟨S512x16, .i32⟩
  | 44 => ⟨S512x16, .i32⟩
  | 45 => ⟨S512x16, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S512x16, .i32⟩
  | 53 => ⟨S512x16, .i32⟩
  | 54 => ⟨S_, .i32⟩
  | 55 => ⟨S512x16, .i32⟩
  | 56 => ⟨S512x16, .i1⟩
  | 57 => ⟨S_, .i32⟩
  | 58 => ⟨S512x16, .i32⟩
  | 59 => ⟨S512x16, .i1⟩
  | 60 => ⟨S_, .i32⟩
  | 61 => ⟨S_, .i1⟩
  | 62 => ⟨S512x16, .i1⟩
  | 63 => ⟨S512x16, .i1⟩
  | 64 => ⟨S512x16, .i1⟩
  | 65 => ⟨S512x16, .i32⟩
  | 66 => ⟨S512x16, .i32⟩
  | 67 => ⟨S512x16, .i32⟩
  | 68 => ⟨S512x16, .f32⟩
  | 69 => ⟨S_, .f32⟩
  | 70 => ⟨S_, .f32⟩
  | 71 => ⟨S_, .f32⟩
  | 72 => ⟨S_, .f32⟩
  | 73 => ⟨S512x16, .f32⟩
  | 74 => ⟨S512x16, .f32⟩
  | 75 => ⟨S512x16, .f32⟩
  | 76 => ⟨S512x16, .f32⟩
  | 77 => ⟨S512x16, .f32⟩
  | 78 => ⟨S16, .i32⟩
  | 79 => ⟨S16x1, .i32⟩
  | 80 => ⟨S257, .i32⟩
  | 81 => ⟨S1x257, .i32⟩
  | 82 => ⟨S16x257, .i32⟩
  | 83 => ⟨S16x257, .i32⟩
  | 84 => ⟨S16x257, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S16x257, .i32⟩
  | 92 => ⟨S16x257, .i32⟩
  | 93 => ⟨S_, .i32⟩
  | 94 => ⟨S16x257, .i32⟩
  | 95 => ⟨S16x257, .i1⟩
  | 96 => ⟨S_, .i32⟩
  | 97 => ⟨S16x257, .i32⟩
  | 98 => ⟨S16x257, .i1⟩
  | 99 => ⟨S_, .i32⟩
  | 100 => ⟨S_, .i1⟩
  | 101 => ⟨S16x257, .i1⟩
  | 102 => ⟨S16x257, .i1⟩
  | 103 => ⟨S16x257, .i1⟩
  | 104 => ⟨S16x257, .i32⟩
  | 105 => ⟨S16x257, .i32⟩
  | 106 => ⟨S16x257, .i32⟩
  | 107 => ⟨S16x257, .f32⟩
  | 108 => ⟨S_, .f32⟩
  | 109 => ⟨S_, .f32⟩
  | 110 => ⟨S_, .f32⟩
  | 111 => ⟨S_, .f32⟩
  | 112 => ⟨S16x257, .f32⟩
  | 113 => ⟨S16x257, .f32⟩
  | 114 => ⟨S16x257, .f32⟩
  | 115 => ⟨S16x257, .f32⟩
  | 116 => ⟨S16x257, .f32⟩
  | 117 => ⟨S256x512x257, .f32⟩
  | 118 => ⟨S256x512x257, .f32⟩
  | 119 => ⟨S256x512x257, .f32⟩
  | 120 => ⟨S256x1x257, .f32⟩
  | 121 => ⟨S256x511x257, .f32⟩
  | 122 => ⟨S256x512x257, .f32⟩
  | 123 => ⟨S256x512x255, .f32⟩
  | 124 => ⟨S256x512x255, .f32⟩
  | 125 => ⟨S_, .f32⟩
  | 126 => ⟨S256x512x255, .f32⟩
  | 127 => ⟨S256x512x255, .f32⟩
  | _ => ⟨S4x512x512x16, .f32⟩

abbrev hbmTy0_3 (i : Nat) : BufTy := match i % 128 with
  | 0 => ⟨S256x512x512, .f32⟩
  | 1 => ⟨S256x512x257, .f32⟩
  | 2 => ⟨S256x1x257, .f32⟩
  | 3 => ⟨S256x511x257, .f32⟩
  | 4 => ⟨S256x512x257, .f32⟩
  | 5 => ⟨S256x512x255, .f32⟩
  | 6 => ⟨S256x512x255, .f32⟩
  | 7 => ⟨S_, .f32⟩
  | 8 => ⟨S256x512x255, .f32⟩
  | 9 => ⟨S256x512x255, .f32⟩
  | 10 => ⟨S256x512x512, .f32⟩
  | 11 => ⟨S256x1024x513, .f32⟩
  | 12 => ⟨S256x1024x513, .f32⟩
  | 13 => ⟨S4x16x512x512, .f32⟩
  | 14 => ⟨S64x512x512, .f32⟩
  | 15 => ⟨S64x1024x513, .f32⟩
  | 16 => ⟨S64x1024x513, .f32⟩
  | 17 => ⟨S4x16x1024x513, .f32⟩
  | 18 => ⟨S4x16x1024x513, .f32⟩
  | 19 => ⟨S16x16x1024x513, .f32⟩
  | 20 => ⟨S16x16x1024x513, .f32⟩
  | 21 => ⟨S16x16, .f32⟩
  | 22 => ⟨S4x16x1024x513, .f32⟩
  | 23 => ⟨S4x16x1024x513, .f32⟩
  | 24 => ⟨S64x1024x513, .f32⟩
  | 25 => ⟨S64x1024x513, .f32⟩
  | 26 => ⟨S64x512x512, .f32⟩
  | 27 => ⟨S4x16x512x512, .f32⟩
  | 28 => ⟨S4x512x512x16, .f32⟩
  | _ => ⟨S4x512x512x16, .f32⟩

abbrev hbmTy (i : Nat) : BufTy := match i / 128 with
  | 0 => hbmTy0_0 i
  | 1 => hbmTy0_1 i
  | 2 => hbmTy0_2 i
  | 3 => hbmTy0_3 i
  | _ => ⟨S4x512x512x16, .f32⟩

abbrev bufTy : (tb : Table) → Fin (tcTables nBuf tb) → BufTy
  | .hbm, ⟨i, _⟩ => hbmTy i
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S512x512, .f32⟩
  | .local _ .vmem, ⟨8, _⟩ => ⟨S512x513, .f32⟩
  | .local _ .vmem, ⟨9, _⟩ => ⟨S512x513, .f32⟩
  | .local _ .vmem, ⟨10, _⟩ => ⟨S512x513, .f32⟩
  | .local _ .vmem, ⟨11, _⟩ => ⟨S512x513, .f32⟩
  | .local _ .vmem, ⟨12, _⟩ => ⟨S1x16x16, .f32⟩
  | .local _ .vmem, ⟨13, _⟩ => ⟨S1x16x16, .f32⟩
  | .local _ .vmem, ⟨14, _⟩ => ⟨S1x16x16, .f32⟩
  | .local _ .vmem, ⟨15, _⟩ => ⟨S1x16x16, .f32⟩
  | .local _ .vmem, ⟨16, _⟩ => ⟨S512x16, .f32⟩
  | .local _ .vmem, ⟨17, _⟩ => ⟨S512x16, .f32⟩
  | .local _ .vmem, ⟨18, _⟩ => ⟨S16x257, .f32⟩
  | .local _ .vmem, ⟨19, _⟩ => ⟨S16x257, .f32⟩
  | .local _ .vmem, ⟨20, _⟩ => ⟨S1x512x257, .f32⟩
  | .local _ .vmem, ⟨21, _⟩ => ⟨S1x512x257, .f32⟩
  | .local _ .vmem, ⟨22, _⟩ => ⟨S1x512x257, .f32⟩
  | .local _ .vmem, ⟨23, _⟩ => ⟨S1x512x257, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S512x512, .f32⟩
  | .local _ .vmem, ⟨29, _⟩ => ⟨S512x512, .f32⟩
  | .local _ .vmem, ⟨30, _⟩ => ⟨S512x513, .f32⟩
  | .local _ .vmem, ⟨31, _⟩ => ⟨S512x513, .f32⟩
  | .local _ .vmem, ⟨32, _⟩ => ⟨S1x1024x513, .f32⟩
  | .local _ .vmem, ⟨33, _⟩ => ⟨S1x1024x513, .f32⟩
  | .local _ .vmem, ⟨34, _⟩ => ⟨S1x1024x513, .f32⟩
  | .local _ .vmem, ⟨35, _⟩ => ⟨S1x1024x513, .f32⟩
  | .local _ .vmem, ⟨36, _⟩ => ⟨S1x512x512, .f32⟩
  | .local _ .vmem, ⟨37, _⟩ => ⟨S1x512x512, .f32⟩
  | .local _ .vmem, ⟨38, _⟩ => ⟨S1024x512, .f32⟩
  | .local _ .vmem, ⟨39, _⟩ => ⟨S1024x512, .f32⟩
  | .local _ .vmem, ⟨40, _⟩ => ⟨S512x513, .f32⟩
  | .local _ .vmem, ⟨41, _⟩ => ⟨S512x513, .f32⟩
  | .local _ .vmem, ⟨42, _⟩ => ⟨S1x1024x513, .f32⟩
  | .local _ .vmem, ⟨43, _⟩ => ⟨S1x1024x513, .f32⟩
  | .local _ .vmem, ⟨44, _⟩ => ⟨S1x1024x513, .f32⟩
  | .local _ .vmem, ⟨45, _⟩ => ⟨S1x1024x513, .f32⟩
  | .local _ .vmem, ⟨46, _⟩ => ⟨S4x16x8x513, .f32⟩
  | .local _ .vmem, ⟨47, _⟩ => ⟨S4x16x8x513, .f32⟩
  | .local _ .vmem, ⟨48, _⟩ => ⟨S4x16x8x513, .f32⟩
  | .local _ .vmem, ⟨49, _⟩ => ⟨S4x16x8x513, .f32⟩
  | .local _ .vmem, ⟨50, _⟩ => ⟨S16x16x8x513, .f32⟩
  | .local _ .vmem, ⟨51, _⟩ => ⟨S16x16x8x513, .f32⟩
  | .local _ .vmem, ⟨52, _⟩ => ⟨S16x16x8x513, .f32⟩
  | .local _ .vmem, ⟨53, _⟩ => ⟨S16x16x8x513, .f32⟩
  | .local _ .vmem, ⟨54, _⟩ => ⟨S16x16, .f32⟩
  | .local _ .vmem, ⟨55, _⟩ => ⟨S4x16x8x513, .f32⟩
  | .local _ .vmem, ⟨56, _⟩ => ⟨S4x16x8x513, .f32⟩
  | .local _ .vmem, ⟨57, _⟩ => ⟨S4x16x8x513, .f32⟩
  | .local _ .vmem, ⟨58, _⟩ => ⟨S4x16x8x513, .f32⟩
  | .local _ .vmem, ⟨59, _⟩ => ⟨S1x1024x513, .f32⟩
  | .local _ .vmem, ⟨60, _⟩ => ⟨S1x1024x513, .f32⟩
  | .local _ .vmem, ⟨61, _⟩ => ⟨S1x1024x513, .f32⟩
  | .local _ .vmem, ⟨62, _⟩ => ⟨S1x1024x513, .f32⟩
  | .local _ .vmem, ⟨63, _⟩ => ⟨S512x1024, .f32⟩
  | .local _ .vmem, ⟨64, _⟩ => ⟨S512x1024, .f32⟩
  | .local _ .vmem, ⟨65, _⟩ => ⟨S513x512, .f32⟩
  | .local _ .vmem, ⟨66, _⟩ => ⟨S513x512, .f32⟩
  | .local _ .vmem, ⟨67, _⟩ => ⟨S1x512x512, .f32⟩
  | .local _ .vmem, ⟨68, _⟩ => ⟨S1x512x512, .f32⟩
  | _, _ => ⟨S4x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call2_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call3_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call4_v0 : Ref sig .tc := ⟨.hbm, 28, rfl⟩
abbrev main_call4_c : Ref sig .tc := ⟨.hbm, 29, rfl⟩
abbrev main_call4_v1 : Ref sig .tc := ⟨.hbm, 30, rfl⟩
abbrev main_call4_c_0 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_call4_c_1 : Ref sig .tc := ⟨.hbm, 35, rfl⟩
abbrev main_call4_v5 : Ref sig .tc := ⟨.hbm, 36, rfl⟩
abbrev main_call4_v6 : Ref sig .tc := ⟨.hbm, 37, rfl⟩
abbrev main_call4_c_2 : Ref sig .tc := ⟨.hbm, 38, rfl⟩
abbrev main_call4_v7 : Ref sig .tc := ⟨.hbm, 39, rfl⟩
abbrev main_call4_v8 : Ref sig .tc := ⟨.hbm, 40, rfl⟩
abbrev main_call4_c_3 : Ref sig .tc := ⟨.hbm, 41, rfl⟩
abbrev main_call4_v9 : Ref sig .tc := ⟨.hbm, 42, rfl⟩
abbrev main_call4_v10 : Ref sig .tc := ⟨.hbm, 43, rfl⟩
abbrev main_call4_v11 : Ref sig .tc := ⟨.hbm, 44, rfl⟩
abbrev main_call4_v12 : Ref sig .tc := ⟨.hbm, 45, rfl⟩
abbrev main_call4_v13 : Ref sig .tc := ⟨.hbm, 46, rfl⟩
abbrev main_call4_v14 : Ref sig .tc := ⟨.hbm, 47, rfl⟩
abbrev main_v15 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_cst_4 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_cst_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_7 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_8 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_c_9 : Ref sig .tc := ⟨.hbm, 98, rfl⟩
abbrev main_call5_v0 : Ref sig .tc := ⟨.hbm, 99, rfl⟩
abbrev main_call5_c : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_c_1 : Ref sig .tc := ⟨.hbm, 106, rfl⟩
abbrev main_call5_v5 : Ref sig .tc := ⟨.hbm, 107, rfl⟩
abbrev main_call5_v6 : Ref sig .tc := ⟨.hbm, 108, rfl⟩
abbrev main_call5_c_2 : Ref sig .tc := ⟨.hbm, 109, rfl⟩
abbrev main_call5_v7 : Ref sig .tc := ⟨.hbm, 110, rfl⟩
abbrev main_call5_v8 : Ref sig .tc := ⟨.hbm, 111, rfl⟩
abbrev main_call5_c_3 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_v12 : Ref sig .tc := ⟨.hbm, 116, rfl⟩
abbrev main_call5_v13 : Ref sig .tc := ⟨.hbm, 117, rfl⟩
abbrev main_call5_v14 : Ref sig .tc := ⟨.hbm, 118, rfl⟩
abbrev main_v59 : Ref sig .tc := ⟨.hbm, 119, rfl⟩
abbrev main_v60 : Ref sig .tc := ⟨.hbm, 120, rfl⟩
abbrev main_cst_10 : Ref sig .tc := ⟨.hbm, 121, rfl⟩
abbrev main_v61 : Ref sig .tc := ⟨.hbm, 122, rfl⟩
abbrev main_cst_11 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68_0 : Ref sig .tc := ⟨.hbm, 130, rfl⟩
abbrev main_v68_1 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_c_12 : Ref sig .tc := ⟨.hbm, 141, rfl⟩
abbrev main_call6_v0 : Ref sig .tc := ⟨.hbm, 142, rfl⟩
abbrev main_call6_c : Ref sig .tc := ⟨.hbm, 143, rfl⟩
abbrev main_call6_v1 : Ref sig .tc := ⟨.hbm, 144, rfl⟩
abbrev main_call6_c_0 : Ref sig .tc := ⟨.hbm, 145, rfl⟩
abbrev main_call6_v2 : Ref sig .tc := ⟨.hbm, 146, rfl⟩
abbrev main_call6_v3 : Ref sig .tc := ⟨.hbm, 147, rfl⟩
abbrev main_call6_v4 : Ref sig .tc := ⟨.hbm, 148, rfl⟩
abbrev main_call6_c_1 : Ref sig .tc := ⟨.hbm, 149, rfl⟩
abbrev main_call6_v5 : Ref sig .tc := ⟨.hbm, 150, rfl⟩
abbrev main_call6_v6 : Ref sig .tc := ⟨.hbm, 151, rfl⟩
abbrev main_call6_c_2 : Ref sig .tc := ⟨.hbm, 152, rfl⟩
abbrev main_call6_v7 : Ref sig .tc := ⟨.hbm, 153, rfl⟩
abbrev main_call6_v8 : Ref sig .tc := ⟨.hbm, 154, rfl⟩
abbrev main_call6_c_3 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_v12 : Ref sig .tc := ⟨.hbm, 159, rfl⟩
abbrev main_call6_v13 : Ref sig .tc := ⟨.hbm, 160, rfl⟩
abbrev main_call6_v14 : Ref sig .tc := ⟨.hbm, 161, rfl⟩
abbrev main_v78 : Ref sig .tc := ⟨.hbm, 162, rfl⟩
abbrev main_v79 : Ref sig .tc := ⟨.hbm, 163, rfl⟩
abbrev main_cst_13 : Ref sig .tc := ⟨.hbm, 164, rfl⟩
abbrev main_v80 : Ref sig .tc := ⟨.hbm, 165, rfl⟩
abbrev main_cst_14 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87_0 : Ref sig .tc := ⟨.hbm, 173, rfl⟩
abbrev main_v87_1 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_c_15 : Ref sig .tc := ⟨.hbm, 182, rfl⟩
abbrev main_call7_v0 : Ref sig .tc := ⟨.hbm, 183, rfl⟩
abbrev main_call7_c : Ref sig .tc := ⟨.hbm, 184, rfl⟩
abbrev main_call7_v1 : Ref sig .tc := ⟨.hbm, 185, rfl⟩
abbrev main_call7_c_0 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_c_1 : Ref sig .tc := ⟨.hbm, 190, rfl⟩
abbrev main_call7_v5 : Ref sig .tc := ⟨.hbm, 191, rfl⟩
abbrev main_call7_v6 : Ref sig .tc := ⟨.hbm, 192, rfl⟩
abbrev main_call7_c_2 : Ref sig .tc := ⟨.hbm, 193, rfl⟩
abbrev main_call7_v7 : Ref sig .tc := ⟨.hbm, 194, rfl⟩
abbrev main_call7_v8 : Ref sig .tc := ⟨.hbm, 195, rfl⟩
abbrev main_call7_c_3 : Ref sig .tc := ⟨.hbm, 196, rfl⟩
abbrev main_call7_v9 : Ref sig .tc := ⟨.hbm, 197, rfl⟩
abbrev main_call7_v10 : Ref sig .tc := ⟨.hbm, 198, rfl⟩
abbrev main_call7_v11 : Ref sig .tc := ⟨.hbm, 199, rfl⟩
abbrev main_call7_v12 : Ref sig .tc := ⟨.hbm, 200, rfl⟩
abbrev main_call7_v13 : Ref sig .tc := ⟨.hbm, 201, rfl⟩
abbrev main_call7_v14 : Ref sig .tc := ⟨.hbm, 202, rfl⟩
abbrev main_v95 : Ref sig .tc := ⟨.hbm, 203, rfl⟩
abbrev main_v96 : Ref sig .tc := ⟨.hbm, 204, rfl⟩
abbrev main_cst_16 : Ref sig .tc := ⟨.hbm, 205, rfl⟩
abbrev main_v97 : Ref sig .tc := ⟨.hbm, 206, rfl⟩
abbrev main_cst_17 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_v101 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_c_18 : Ref sig .tc := ⟨.hbm, 239, rfl⟩
abbrev main_call8_v0 : Ref sig .tc := ⟨.hbm, 240, rfl⟩
abbrev main_call8_c : Ref sig .tc := ⟨.hbm, 241, rfl⟩
abbrev main_call8_v1 : Ref sig .tc := ⟨.hbm, 242, rfl⟩
abbrev main_call8_c_0 : Ref sig .tc := ⟨.hbm, 243, rfl⟩
abbrev main_call8_v2 : Ref sig .tc := ⟨.hbm, 244, rfl⟩
abbrev main_call8_v3 : Ref sig .tc := ⟨.hbm, 245, rfl⟩
abbrev main_call8_v4 : Ref sig .tc := ⟨.hbm, 246, rfl⟩
abbrev main_call8_c_1 : Ref sig .tc := ⟨.hbm, 247, rfl⟩
abbrev main_call8_v5 : Ref sig .tc := ⟨.hbm, 248, rfl⟩
abbrev main_call8_v6 : Ref sig .tc := ⟨.hbm, 249, rfl⟩
abbrev main_call8_c_2 : Ref sig .tc := ⟨.hbm, 250, rfl⟩
abbrev main_call8_v7 : Ref sig .tc := ⟨.hbm, 251, rfl⟩
abbrev main_call8_v8 : Ref sig .tc := ⟨.hbm, 252, rfl⟩
abbrev main_call8_c_3 : Ref sig .tc := ⟨.hbm, 253, rfl⟩
abbrev main_call8_v9 : Ref sig .tc := ⟨.hbm, 254, rfl⟩
abbrev main_call8_v10 : Ref sig .tc := ⟨.hbm, 255, rfl⟩
abbrev main_call8_v11 : Ref sig .tc := ⟨.hbm, 256, rfl⟩
abbrev main_call8_v12 : Ref sig .tc := ⟨.hbm, 257, rfl⟩
abbrev main_call8_v13 : Ref sig .tc := ⟨.hbm, 258, rfl⟩
abbrev main_call8_v14 : Ref sig .tc := ⟨.hbm, 259, rfl⟩
abbrev main_v129 : Ref sig .tc := ⟨.hbm, 260, rfl⟩
abbrev main_v130 : Ref sig .tc := ⟨.hbm, 261, rfl⟩
abbrev main_cst_19 : Ref sig .tc := ⟨.hbm, 262, rfl⟩
abbrev main_v131 : Ref sig .tc := ⟨.hbm, 263, rfl⟩
abbrev main_cst_20 : Ref sig .tc := ⟨.hbm, 264, rfl⟩
abbrev main_v132 : Ref sig .tc := ⟨.hbm, 265, rfl⟩
abbrev main_v133 : Ref sig .tc := ⟨.hbm, 266, rfl⟩
abbrev main_v134 : Ref sig .tc := ⟨.hbm, 267, rfl⟩
abbrev main_v135 : Ref sig .tc := ⟨.hbm, 268, rfl⟩
abbrev main_v136 : Ref sig .tc := ⟨.hbm, 269, rfl⟩
abbrev main_v137 : Ref sig .tc := ⟨.hbm, 270, rfl⟩
abbrev main_v138 : Ref sig .tc := ⟨.hbm, 271, rfl⟩
abbrev main_cst_21 : Ref sig .tc := ⟨.hbm, 272, rfl⟩
abbrev main_v139 : Ref sig .tc := ⟨.hbm, 273, rfl⟩
abbrev main_c_22 : Ref sig .tc := ⟨.hbm, 274, rfl⟩
abbrev main_v140 : Ref sig .tc := ⟨.hbm, 275, rfl⟩
abbrev main_c_23 : Ref sig .tc := ⟨.hbm, 276, rfl⟩
abbrev main_v141 : Ref sig .tc := ⟨.hbm, 277, rfl⟩
abbrev main_v142 : Ref sig .tc := ⟨.hbm, 278, rfl⟩
abbrev main_cst_24 : Ref sig .tc := ⟨.hbm, 279, rfl⟩
abbrev main_v143 : Ref sig .tc := ⟨.hbm, 280, rfl⟩
abbrev main_c_25 : Ref sig .tc := ⟨.hbm, 281, rfl⟩
abbrev main_v144 : Ref sig .tc := ⟨.hbm, 282, rfl⟩
abbrev main_c_26 : Ref sig .tc := ⟨.hbm, 283, rfl⟩
abbrev main_v145 : Ref sig .tc := ⟨.hbm, 284, rfl⟩
abbrev main_v146 : Ref sig .tc := ⟨.hbm, 285, rfl⟩
abbrev main_cst_27 : Ref sig .tc := ⟨.hbm, 286, rfl⟩
abbrev main_v147 : Ref sig .tc := ⟨.hbm, 287, rfl⟩
abbrev main_cst_28 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_c_29 : Ref sig .tc := ⟨.hbm, 302, rfl⟩
abbrev main_call9_v0 : Ref sig .tc := ⟨.hbm, 303, rfl⟩
abbrev main_call9_c : Ref sig .tc := ⟨.hbm, 304, rfl⟩
abbrev main_call9_v1 : Ref sig .tc := ⟨.hbm, 305, rfl⟩
abbrev main_call9_c_0 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_call9_c_1 : Ref sig .tc := ⟨.hbm, 310, rfl⟩
abbrev main_call9_v5 : Ref sig .tc := ⟨.hbm, 311, rfl⟩
abbrev main_call9_v6 : Ref sig .tc := ⟨.hbm, 312, rfl⟩
abbrev main_call9_c_2 : Ref sig .tc := ⟨.hbm, 313, rfl⟩
abbrev main_call9_v7 : Ref sig .tc := ⟨.hbm, 314, rfl⟩
abbrev main_call9_v8 : Ref sig .tc := ⟨.hbm, 315, rfl⟩
abbrev main_call9_c_3 : Ref sig .tc := ⟨.hbm, 316, rfl⟩
abbrev main_call9_v9 : Ref sig .tc := ⟨.hbm, 317, rfl⟩
abbrev main_call9_v10 : Ref sig .tc := ⟨.hbm, 318, rfl⟩
abbrev main_call9_v11 : Ref sig .tc := ⟨.hbm, 319, rfl⟩
abbrev main_call9_v12 : Ref sig .tc := ⟨.hbm, 320, rfl⟩
abbrev main_call9_v13 : Ref sig .tc := ⟨.hbm, 321, rfl⟩
abbrev main_call9_v14 : Ref sig .tc := ⟨.hbm, 322, rfl⟩
abbrev main_v161 : Ref sig .tc := ⟨.hbm, 323, rfl⟩
abbrev main_v162 : Ref sig .tc := ⟨.hbm, 324, rfl⟩
abbrev main_cst_30 : Ref sig .tc := ⟨.hbm, 325, rfl⟩
abbrev main_v163 : Ref sig .tc := ⟨.hbm, 326, rfl⟩
abbrev main_cst_31 : Ref sig .tc := ⟨.hbm, 327, rfl⟩
abbrev main_v164 : Ref sig .tc := ⟨.hbm, 328, rfl⟩
abbrev main_v165 : Ref sig .tc := ⟨.hbm, 329, rfl⟩
abbrev main_v166 : Ref sig .tc := ⟨.hbm, 330, rfl⟩
abbrev main_v167 : Ref sig .tc := ⟨.hbm, 331, rfl⟩
abbrev main_v168 : Ref sig .tc := ⟨.hbm, 332, rfl⟩
abbrev main_v169 : Ref sig .tc := ⟨.hbm, 333, rfl⟩
abbrev main_v170 : Ref sig .tc := ⟨.hbm, 334, rfl⟩
abbrev main_v171 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_v175 : Ref sig .tc := ⟨.hbm, 339, rfl⟩
abbrev main_v176 : Ref sig .tc := ⟨.hbm, 340, rfl⟩
abbrev main_c_32 : Ref sig .tc := ⟨.hbm, 341, rfl⟩
abbrev main_call10_v0 : Ref sig .tc := ⟨.hbm, 342, rfl⟩
abbrev main_call10_c : Ref sig .tc := ⟨.hbm, 343, rfl⟩
abbrev main_call10_v1 : Ref sig .tc := ⟨.hbm, 344, rfl⟩
abbrev main_call10_c_0 : Ref sig .tc := ⟨.hbm, 345, rfl⟩
abbrev main_call10_v2 : Ref sig .tc := ⟨.hbm, 346, rfl⟩
abbrev main_call10_v3 : Ref sig .tc := ⟨.hbm, 347, rfl⟩
abbrev main_call10_v4 : Ref sig .tc := ⟨.hbm, 348, rfl⟩
abbrev main_call10_c_1 : Ref sig .tc := ⟨.hbm, 349, rfl⟩
abbrev main_call10_v5 : Ref sig .tc := ⟨.hbm, 350, rfl⟩
abbrev main_call10_v6 : Ref sig .tc := ⟨.hbm, 351, rfl⟩
abbrev main_call10_c_2 : Ref sig .tc := ⟨.hbm, 352, rfl⟩
abbrev main_call10_v7 : Ref sig .tc := ⟨.hbm, 353, rfl⟩
abbrev main_call10_v8 : Ref sig .tc := ⟨.hbm, 354, rfl⟩
abbrev main_call10_c_3 : Ref sig .tc := ⟨.hbm, 355, rfl⟩
abbrev main_call10_v9 : Ref sig .tc := ⟨.hbm, 356, rfl⟩
abbrev main_call10_v10 : Ref sig .tc := ⟨.hbm, 357, rfl⟩
abbrev main_call10_v11 : Ref sig .tc := ⟨.hbm, 358, rfl⟩
abbrev main_call10_v12 : Ref sig .tc := ⟨.hbm, 359, rfl⟩
abbrev main_call10_v13 : Ref sig .tc := ⟨.hbm, 360, rfl⟩
abbrev main_call10_v14 : Ref sig .tc := ⟨.hbm, 361, rfl⟩
abbrev main_v177 : Ref sig .tc := ⟨.hbm, 362, rfl⟩
abbrev main_v178 : Ref sig .tc := ⟨.hbm, 363, rfl⟩
abbrev main_cst_33 : Ref sig .tc := ⟨.hbm, 364, rfl⟩
abbrev main_v179 : Ref sig .tc := ⟨.hbm, 365, rfl⟩
abbrev main_cst_34 : Ref sig .tc := ⟨.hbm, 366, rfl⟩
abbrev main_v180 : Ref sig .tc := ⟨.hbm, 367, rfl⟩
abbrev main_v181 : Ref sig .tc := ⟨.hbm, 368, rfl⟩
abbrev main_v182 : Ref sig .tc := ⟨.hbm, 369, rfl⟩
abbrev main_v183 : Ref sig .tc := ⟨.hbm, 370, rfl⟩
abbrev main_v184 : Ref sig .tc := ⟨.hbm, 371, rfl⟩
abbrev main_v185 : Ref sig .tc := ⟨.hbm, 372, rfl⟩
abbrev main_v186_0 : Ref sig .tc := ⟨.hbm, 373, rfl⟩
abbrev main_v186_1 : Ref sig .tc := ⟨.hbm, 374, rfl⟩
abbrev main_v187 : Ref sig .tc := ⟨.hbm, 375, rfl⟩
abbrev main_call12_v0 : Ref sig .tc := ⟨.hbm, 376, rfl⟩
abbrev main_call12_v1 : Ref sig .tc := ⟨.hbm, 377, rfl⟩
abbrev main_v188 : Ref sig .tc := ⟨.hbm, 378, rfl⟩
abbrev main_v189 : Ref sig .tc := ⟨.hbm, 379, rfl⟩
abbrev main_v190 : Ref sig .tc := ⟨.hbm, 380, rfl⟩
abbrev main_cst_35 : Ref sig .tc := ⟨.hbm, 381, rfl⟩
abbrev main_v191 : Ref sig .tc := ⟨.hbm, 382, rfl⟩
abbrev main_v192 : Ref sig .tc := ⟨.hbm, 383, rfl⟩
abbrev main_v193 : Ref sig .tc := ⟨.hbm, 384, rfl⟩
abbrev main_v194 : Ref sig .tc := ⟨.hbm, 385, rfl⟩
abbrev main_call15_v0 : Ref sig .tc := ⟨.hbm, 386, rfl⟩
abbrev main_call15_v1 : Ref sig .tc := ⟨.hbm, 387, rfl⟩
abbrev main_v195 : Ref sig .tc := ⟨.hbm, 388, rfl⟩
abbrev main_v196 : Ref sig .tc := ⟨.hbm, 389, rfl⟩
abbrev main_v197 : Ref sig .tc := ⟨.hbm, 390, rfl⟩
abbrev main_cst_36 : Ref sig .tc := ⟨.hbm, 391, rfl⟩
abbrev main_v198 : Ref sig .tc := ⟨.hbm, 392, rfl⟩
abbrev main_v199 : Ref sig .tc := ⟨.hbm, 393, rfl⟩
abbrev main_v200 : Ref sig .tc := ⟨.hbm, 394, rfl⟩
abbrev main_v201_0 : Ref sig .tc := ⟨.hbm, 395, rfl⟩
abbrev main_v201_1 : Ref sig .tc := ⟨.hbm, 396, rfl⟩
abbrev main_v202 : Ref sig .tc := ⟨.hbm, 397, rfl⟩
abbrev main_v203 : Ref sig .tc := ⟨.hbm, 398, rfl⟩
abbrev main_v204_0 : Ref sig .tc := ⟨.hbm, 399, rfl⟩
abbrev main_v204_1 : Ref sig .tc := ⟨.hbm, 400, rfl⟩
abbrev main_v205 : Ref sig .tc := ⟨.hbm, 401, rfl⟩
abbrev main_v206 : Ref sig .tc := ⟨.hbm, 402, rfl⟩
abbrev main_v207 : Ref sig .tc := ⟨.hbm, 403, rfl⟩
abbrev main_v208 : Ref sig .tc := ⟨.hbm, 404, rfl⟩
abbrev main_v209 : Ref sig .tc := ⟨.hbm, 405, rfl⟩
abbrev main_v210_0 : Ref sig .tc := ⟨.hbm, 406, rfl⟩
abbrev main_v210_1 : Ref sig .tc := ⟨.hbm, 407, rfl⟩
abbrev main_v211 : Ref sig .tc := ⟨.hbm, 408, rfl⟩
abbrev main_v212 : Ref sig .tc := ⟨.hbm, 409, rfl⟩
abbrev main_v213 : Ref sig .tc := ⟨.hbm, 410, rfl⟩
abbrev main_v214 : Ref sig .tc := ⟨.hbm, 411, rfl⟩
abbrev main_v215 : Ref sig .tc := ⟨.hbm, 412, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc5_stg6_0 : Ref sig .tc := ⟨.vmem, 57, rfl⟩
abbrev cc5_stg6_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg6_1 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc5_sem3_0 : DmaSem sig := 52
abbrev cc5_sem3_1 : DmaSem sig := 53
abbrev cc5_sem4_0 : DmaSem sig := 54
abbrev cc5_sem5_0 : DmaSem sig := 55
abbrev cc5_sem5_1 : DmaSem sig := 56
abbrev cc5_sem6_0 : DmaSem sig := 57
abbrev cc5_sem6_1 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem6_1 : DmaSem sig := 68

abbrev nD : Nat := 1
abbrev τ : Topo := Topo.v7x

variable {F : FTy → Type} [FloatOps F]

abbrev grid0 : Pipeline.Grid := .none

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := .none

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x513 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x513 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x513 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x513 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![256], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x16x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x257 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x257 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x512x257 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x257 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![256], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x513 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x513 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x1024x513 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1024x513 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x513 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x513 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x1024x513 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1024x513 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![128], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_2 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_6 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage5_0 : Fin 2 → Memref sig .tc .vmem S4x16x8x513 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x16x8x513 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S16x16x8x513 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S16x16x8x513 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S16x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4x16x8x513 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S4x16x8x513 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1024x513 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1024x513 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S513x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S513x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1x512x512 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]
-- ==== ReferenceIdeal.lean ====
abbrev S4x512x512x16 : Shape := ⟨4, ![4, 512, 512, 16]⟩
abbrev S16x16x1x1 : Shape := ⟨4, ![16, 16, 1, 1]⟩
abbrev S4x16x16x8x8 : Shape := ⟨5, ![4, 16, 16, 8, 8]⟩
abbrev S16x16x8x8 : Shape := ⟨4, ![16, 16, 8, 8]⟩
abbrev S_ : Shape := ⟨0, ![]⟩
abbrev S16x16x9x9 : Shape := ⟨4, ![16, 16, 9, 9]⟩
abbrev S4x16x16x9x9 : Shape := ⟨5, ![4, 16, 16, 9, 9]⟩
abbrev S9 : Shape := ⟨1, ![9]⟩
abbrev S9x1 : Shape := ⟨2, ![9, 1]⟩
abbrev S257 : Shape := ⟨1, ![257]⟩
abbrev S1x257 : Shape := ⟨2, ![1, 257]⟩
abbrev S9x257 : Shape := ⟨2, ![9, 257]⟩
abbrev S4x16x16x9x257 : Shape := ⟨5, ![4, 16, 16, 9, 257]⟩
abbrev S512 : Shape := ⟨1, ![512]⟩
abbrev S512x1 : Shape := ⟨2, ![512, 1]⟩
abbrev S1x9 : Shape := ⟨2, ![1, 9]⟩
abbrev S512x9 : Shape := ⟨2, ![512, 9]⟩
abbrev S4x16x16x257x512 : Shape := ⟨5, ![4, 16, 16, 257, 512]⟩
abbrev S4x16x16x512x257 : Shape := ⟨5, ![4, 16, 16, 512, 257]⟩
abbrev S16x16x9x257 : Shape := ⟨4, ![16, 16, 9, 257]⟩
abbrev S16x16x257x512 : Shape := ⟨4, ![16, 16, 257, 512]⟩
abbrev S16x16x512x257 : Shape := ⟨4, ![16, 16, 512, 257]⟩
abbrev S1x16x16x512x257 : Shape := ⟨5, ![1, 16, 16, 512, 257]⟩
abbrev S1x512 : Shape := ⟨2, ![1, 512]⟩
abbrev S512x512 : Shape := ⟨2, ![512, 512]⟩
abbrev S257x1 : Shape := ⟨2, ![257, 1]⟩
abbrev S257x512 : Shape := ⟨2, ![257, 512]⟩
abbrev S4x16x16x512x512 : Shape := ⟨5, ![4, 16, 16, 512, 512]⟩
abbrev S513 : Shape := ⟨1, ![513]⟩
abbrev S1x513 : Shape := ⟨2, ![1, 513]⟩
abbrev S512x513 : Shape := ⟨2, ![512, 513]⟩
abbrev S4x16x16x512x513 : Shape := ⟨5, ![4, 16, 16, 512, 513]⟩
abbrev S1024 : Shape := ⟨1, ![1024]⟩
abbrev S1024x1 : Shape := ⟨2, ![1024, 1]⟩
abbrev S1024x512 : Shape := ⟨2, ![1024, 512]⟩
abbrev S4x16x16x513x1024 : Shape := ⟨5, ![4, 16, 16, 513, 1024]⟩
abbrev S4x16x16x1024x513 : Shape := ⟨5, ![4, 16, 16, 1024, 513]⟩
abbrev S1x16x16x1024x513 : Shape := ⟨5, ![1, 16, 16, 1024, 513]⟩
abbrev S16x16x1024x513 : Shape := ⟨4, ![16, 16, 1024, 513]⟩
abbrev S4x16x512x512 : Shape := ⟨4, ![4, 16, 512, 512]⟩
abbrev S4x16x512x513 : Shape := ⟨4, ![4, 16, 512, 513]⟩
abbrev S4x16x513x1024 : Shape := ⟨4, ![4, 16, 513, 1024]⟩
abbrev S4x16x1024x513 : Shape := ⟨4, ![4, 16, 1024, 513]⟩
abbrev S4x16x1x1024x513 : Shape := ⟨5, ![4, 16, 1, 1024, 513]⟩
abbrev S1x1024 : Shape := ⟨2, ![1, 1024]⟩
abbrev S1024x1024 : Shape := ⟨2, ![1024, 1024]⟩
abbrev S513x1 : Shape := ⟨2, ![513, 1]⟩
abbrev S513x1024 : Shape := ⟨2, ![513, 1024]⟩
abbrev S4x16x1024x1024 : Shape := ⟨4, ![4, 16, 1024, 1024]⟩

abbrev nBuf : Space → Nat
  | .hbm => 422
  | .vmem => 0
  | .smem => 0
  | _ => 0

abbrev hbmTy0_0 (i : Nat) : BufTy := match i % 128 with
  | 0 => ⟨S4x512x512x16, .f32⟩
  | 1 => ⟨S16x16x1x1, .f32⟩
  | 2 => ⟨S4x16x16x8x8, .f32⟩
  | 3 => ⟨S16x16x8x8, .f32⟩
  | 4 => ⟨S_, .f32⟩
  | 5 => ⟨S_, .f32⟩
  | 6 => ⟨S16x16x9x9, .f32⟩
  | 7 => ⟨S_, .f32⟩
  | 8 => ⟨S_, .f32⟩
  | 9 => ⟨S4x16x16x9x9, .f32⟩
  | 10 => ⟨S9, .i32⟩
  | 11 => ⟨S9x1, .i32⟩
  | 12 => ⟨S257, .i32⟩
  | 13 => ⟨S1x257, .i32⟩
  | 14 => ⟨S9x257, .i32⟩
  | 15 => ⟨S9x257, .i32⟩
  | 16 => ⟨S9x257, .i32⟩
  | 17 => ⟨S9x257, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S9x257, .f32⟩
  | 25 => ⟨S9x257, .f32⟩
  | 26 => ⟨S9x257, .f32⟩
  | 27 => ⟨S9x257, .f32⟩
  | 28 => ⟨S9x257, .f32⟩
  | 29 => ⟨S4x16x16x9x257, .f32⟩
  | 30 => ⟨S4x16x16x9x257, .f32⟩
  | 31 => ⟨S512, .i32⟩
  | 32 => ⟨S512x1, .i32⟩
  | 33 => ⟨S9, .i32⟩
  | 34 => ⟨S1x9, .i32⟩
  | 35 => ⟨S512x9, .i32⟩
  | 36 => ⟨S512x9, .i32⟩
  | 37 => ⟨S512x9, .i32⟩
  | 38 => ⟨S512x9, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S512x9, .f32⟩
  | 46 => ⟨S512x9, .f32⟩
  | 47 => ⟨S512x9, .f32⟩
  | 48 => ⟨S512x9, .f32⟩
  | 49 => ⟨S512x9, .f32⟩
  | 50 => ⟨S4x16x16x257x512, .f32⟩
  | 51 => ⟨S4x16x16x512x257, .f32⟩
  | 52 => ⟨S4x16x16x257x512, .f32⟩
  | 53 => ⟨S4x16x16x512x257, .f32⟩
  | 54 => ⟨S4x16x16x512x257, .f32⟩
  | 55 => ⟨S4x16x16x257x512, .f32⟩
  | 56 => ⟨S4x16x16x512x257, .f32⟩
  | 57 => ⟨S4x16x16x257x512, .f32⟩
  | 58 => ⟨S4x16x16x512x257, .f32⟩
  | 59 => ⟨S4x16x16x512x257, .f32⟩
  | 60 => ⟨S9, .i32⟩
  | 61 => ⟨S9x1, .i32⟩
  | 62 => ⟨S257, .i32⟩
  | 63 => ⟨S1x257, .i32⟩
  | 64 => ⟨S9x257, .i32⟩
  | 65 => ⟨S9x257, .i32⟩
  | 66 => ⟨S9x257, .i32⟩
  | 67 => ⟨S9x257, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S9x257, .f32⟩
  | 75 => ⟨S9x257, .f32⟩
  | 76 => ⟨S9x257, .f32⟩
  | 77 => ⟨S9x257, .f32⟩
  | 78 => ⟨S9x257, .f32⟩
  | 79 => ⟨S16x16x9x257, .f32⟩
  | 80 => ⟨S16x16x9x257, .f32⟩
  | 81 => ⟨S512, .i32⟩
  | 82 => ⟨S512x1, .i32⟩
  | 83 => ⟨S9, .i32⟩
  | 84 => ⟨S1x9, .i32⟩
  | 85 => ⟨S512x9, .i32⟩
  | 86 => ⟨S512x9, .i32⟩
  | 87 => ⟨S512x9, .i32⟩
  | 88 => ⟨S512x9, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S512x9, .f32⟩
  | 96 => ⟨S512x9, .f32⟩
  | 97 => ⟨S512x9, .f32⟩
  | 98 => ⟨S512x9, .f32⟩
  | 99 => ⟨S512x9, .f32⟩
  | 100 => ⟨S16x16x257x512, .f32⟩
  | 101 => ⟨S16x16x512x257, .f32⟩
  | 102 => ⟨S16x16x257x512, .f32⟩
  | 103 => ⟨S16x16x512x257, .f32⟩
  | 104 => ⟨S16x16x512x257, .f32⟩
  | 105 => ⟨S16x16x257x512, .f32⟩
  | 106 => ⟨S16x16x512x257, .f32⟩
  | 107 => ⟨S16x16x257x512, .f32⟩
  | 108 => ⟨S16x16x512x257, .f32⟩
  | 109 => ⟨S16x16x512x257, .f32⟩
  | 110 => ⟨S16x16x512x257, .f32⟩
  | 111 => ⟨S16x16x512x257, .f32⟩
  | 112 => ⟨S16x16x512x257, .f32⟩
  | 113 => ⟨S1x16x16x512x257, .f32⟩
  | 114 => ⟨S4x16x16x512x257, .f32⟩
  | 115 => ⟨S4x16x16x512x257, .f32⟩
  | 116 => ⟨S1x16x16x512x257, .f32⟩
  | 117 => ⟨S4x16x16x512x257, .f32⟩
  | 118 => ⟨S4x16x16x512x257, .f32⟩
  | 119 => ⟨S4x16x16x512x257, .f32⟩
  | 120 => ⟨S1x16x16x512x257, .f32⟩
  | 121 => ⟨S4x16x16x512x257, .f32⟩
  | 122 => ⟨S4x16x16x512x257, .f32⟩
  | 123 => ⟨S1x16x16x512x257, .f32⟩
  | 124 => ⟨S4x16x16x512x257, .f32⟩
  | 125 => ⟨S4x16x16x512x257, .f32⟩
  | 126 => ⟨S1x16x16x512x257, .f32⟩
  | 127 => ⟨S4x16x16x512x257, .f32⟩
  | _ => ⟨S4x512x512x16, .f32⟩

abbrev hbmTy0_1 (i : Nat) : BufTy := match i % 128 with
  | 0 => ⟨S4x16x16x512x257, .f32⟩
  | 1 => ⟨S4x16x16x512x257, .f32⟩
  | 2 => ⟨S1x16x16x512x257, .f32⟩
  | 3 => ⟨S4x16x16x512x257, .f32⟩
  | 4 => ⟨S4x16x16x512x257, .f32⟩
  | 5 => ⟨S512, .i32⟩
  | 6 => ⟨S512x1, .i32⟩
  | 7 => ⟨S512, .i32⟩
  | 8 => ⟨S1x512, .i32⟩
  | 9 => ⟨S512x512, .i32⟩
  | 10 => ⟨S512x512, .i32⟩
  | 11 => ⟨S512x512, .i32⟩
  | 12 => ⟨S512x512, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S512x512, .f32⟩
  | 25 => ⟨S4x16x16x257x512, .f32⟩
  | 26 => ⟨S4x16x16x512x257, .f32⟩
  | 27 => ⟨S4x16x16x257x512, .f32⟩
  | 28 => ⟨S4x16x16x512x257, .f32⟩
  | 29 => ⟨S4x16x16x512x257, .f32⟩
  | 30 => ⟨S4x16x16x257x512, .f32⟩
  | 31 => ⟨S4x16x16x512x257, .f32⟩
  | 32 => ⟨S4x16x16x257x512, .f32⟩
  | 33 => ⟨S4x16x16x512x257, .f32⟩
  | 34 => ⟨S4x16x16x512x257, .f32⟩
  | 35 => ⟨S257, .i32⟩
  | 36 => ⟨S257x1, .i32⟩
  | 37 => ⟨S_, .i32⟩
  | 38 => ⟨S257x1, .i32⟩
  | 39 => ⟨S257x1, .i1⟩
  | 40 => ⟨S_, .i32⟩
  | 41 => ⟨S257x1, .i32⟩
  | 42 => ⟨S257x1, .i1⟩
  | 43 => ⟨S257x1, .i1⟩
  | 44 => ⟨S_, .f32⟩
  | 45 => ⟨S_, .f32⟩
  | 46 => ⟨S257x1, .f32⟩
  | 47 => ⟨S257x1, .f32⟩
  | 48 => ⟨S257x1, .f32⟩
  | 49 => ⟨S257, .i32⟩
  | 50 => ⟨S257x1, .i32⟩
  | 51 => ⟨S512, .i32⟩
  | 52 => ⟨S1x512, .i32⟩
  | 53 => ⟨S257x512, .i32⟩
  | 54 => ⟨S257x512, .i32⟩
  | 55 => ⟨S257x512, .i32⟩
  | 56 => ⟨S257x512, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S257x512, .f32⟩
  | 64 => ⟨S257x512, .f32⟩
  | 65 => ⟨S257x512, .f32⟩
  | 66 => ⟨S257x512, .f32⟩
  | 67 => ⟨S257x512, .f32⟩
  | 68 => ⟨S257x512, .f32⟩
  | 69 => ⟨S257x512, .f32⟩
  | 70 => ⟨S_, .f32⟩
  | 71 => ⟨S257x512, .f32⟩
  | 72 => ⟨S257x512, .f32⟩
  | 73 => ⟨S257x512, .f32⟩
  | 74 => ⟨S257x512, .f32⟩
  | 75 => ⟨S257x512, .f32⟩
  | 76 => ⟨S_, .f32⟩
  | 77 => ⟨S257x512, .f32⟩
  | 78 => ⟨S257x512, .f32⟩
  | 79 => ⟨S4x16x16x512x512, .f32⟩
  | 80 => ⟨S4x16x16x512x512, .f32⟩
  | 81 => ⟨S4x16x16x512x512, .f32⟩
  | 82 => ⟨S512, .i32⟩
  | 83 => ⟨S512x1, .i32⟩
  | 84 => ⟨S513, .i32⟩
  | 85 => ⟨S1x513, .i32⟩
  | 86 => ⟨S512x513, .i32⟩
  | 87 => ⟨S512x513, .i32⟩
  | 88 => ⟨S512x513, .i32⟩
  | 89 => ⟨S512x513, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S512x513, .f32⟩
  | 97 => ⟨S512x513, .f32⟩
  | 98 => ⟨S512x513, .f32⟩
  | 99 => ⟨S512x513, .f32⟩
  | 100 => ⟨S512x513, .f32⟩
  | 101 => ⟨S4x16x16x512x513, .f32⟩
  | 102 => ⟨S4x16x16x512x513, .f32⟩
  | 103 => ⟨S1024, .i32⟩
  | 104 => ⟨S1024x1, .i32⟩
  | 105 => ⟨S512, .i32⟩
  | 106 => ⟨S1x512, .i32⟩
  | 107 => ⟨S1024x512, .i32⟩
  | 108 => ⟨S1024x512, .i32⟩
  | 109 => ⟨S1024x512, .i32⟩
  | 110 => ⟨S1024x512, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S1024x512, .f32⟩
  | 118 => ⟨S1024x512, .f32⟩
  | 119 => ⟨S1024x512, .f32⟩
  | 120 => ⟨S1024x512, .f32⟩
  | 121 => ⟨S1024x512, .f32⟩
  | 122 => ⟨S4x16x16x513x1024, .f32⟩
  | 123 => ⟨S4x16x16x1024x513, .f32⟩
  | 124 => ⟨S4x16x16x513x1024, .f32⟩
  | 125 => ⟨S4x16x16x1024x513, .f32⟩
  | 126 => ⟨S4x16x16x1024x513, .f32⟩
  | 127 => ⟨S4x16x16x513x1024, .f32⟩
  | _ => ⟨S4x512x512x16, .f32⟩

abbrev hbmTy0_2 (i : Nat) : BufTy := match i % 128 with
  | 0 => ⟨S4x16x16x1024x513, .f32⟩
  | 1 => ⟨S4x16x16x513x1024, .f32⟩
  | 2 => ⟨S4x16x16x1024x513, .f32⟩
  | 3 => ⟨S4x16x16x1024x513, .f32⟩
  | 4 => ⟨S1x16x16x1024x513, .f32⟩
  | 5 => ⟨S16x16x1024x513, .f32⟩
  | 6 => ⟨S16x16x1024x513, .f32⟩
  | 7 => ⟨S16x16x1024x513, .f32⟩
  | 8 => ⟨S1x16x16x1024x513, .f32⟩
  | 9 => ⟨S16x16x1024x513, .f32⟩
  | 10 => ⟨S4x16x512x512, .f32⟩
  | 11 => ⟨S512, .i32⟩
  | 12 => ⟨S512x1, .i32⟩
  | 13 => ⟨S513, .i32⟩
  | 14 => ⟨S1x513, .i32⟩
  | 15 => ⟨S512x513, .i32⟩
  | 16 => ⟨S512x513, .i32⟩
  | 17 => ⟨S512x513, .i32⟩
  | 18 => ⟨S512x513, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S512x513, .f32⟩
  | 26 => ⟨S512x513, .f32⟩
  | 27 => ⟨S512x513, .f32⟩
  | 28 => ⟨S512x513, .f32⟩
  | 29 => ⟨S512x513, .f32⟩
  | 30 => ⟨S4x16x512x513, .f32⟩
  | 31 => ⟨S4x16x512x513, .f32⟩
  | 32 => ⟨S1024, .i32⟩
  | 33 => ⟨S1024x1, .i32⟩
  | 34 => ⟨S512, .i32⟩
  | 35 => ⟨S1x512, .i32⟩
  | 36 => ⟨S1024x512, .i32⟩
  | 37 => ⟨S1024x512, .i32⟩
  | 38 => ⟨S1024x512, .i32⟩
  | 39 => ⟨S1024x512, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S1024x512, .f32⟩
  | 47 => ⟨S1024x512, .f32⟩
  | 48 => ⟨S1024x512, .f32⟩
  | 49 => ⟨S1024x512, .f32⟩
  | 50 => ⟨S1024x512, .f32⟩
  | 51 => ⟨S4x16x513x1024, .f32⟩
  | 52 => ⟨S4x16x1024x513, .f32⟩
  | 53 => ⟨S4x16x513x1024, .f32⟩
  | 54 => ⟨S4x16x1024x513, .f32⟩
  | 55 => ⟨S4x16x1024x513, .f32⟩
  | 56 => ⟨S4x16x513x1024, .f32⟩
  | 57 => ⟨S4x16x1024x513, .f32⟩
  | 58 => ⟨S4x16x513x1024, .f32⟩
  | 59 => ⟨S4x16x1024x513, .f32⟩
  | 60 => ⟨S4x16x1024x513, .f32⟩
  | 61 => ⟨S4x16x1x1024x513, .f32⟩
  | 62 => ⟨S1x16x16x1024x513, .f32⟩
  | 63 => ⟨S4x16x16x1024x513, .f32⟩
  | 64 => ⟨S4x16x16x1024x513, .f32⟩
  | 65 => ⟨S4x16x16x1024x513, .f32⟩
  | 66 => ⟨S4x16x1x1024x513, .f32⟩
  | 67 => ⟨S1x16x16x1024x513, .f32⟩
  | 68 => ⟨S4x16x16x1024x513, .f32⟩
  | 69 => ⟨S4x16x16x1024x513, .f32⟩
  | 70 => ⟨S4x16x16x1024x513, .f32⟩
  | 71 => ⟨S4x16x16x1024x513, .f32⟩
  | 72 => ⟨S_, .f32⟩
  | 73 => ⟨S4x16x1024x513, .f32⟩
  | 74 => ⟨S4x16x1x1024x513, .f32⟩
  | 75 => ⟨S1x16x16x1024x513, .f32⟩
  | 76 => ⟨S4x16x16x1024x513, .f32⟩
  | 77 => ⟨S4x16x16x1024x513, .f32⟩
  | 78 => ⟨S4x16x16x1024x513, .f32⟩
  | 79 => ⟨S4x16x1x1024x513, .f32⟩
  | 80 => ⟨S1x16x16x1024x513, .f32⟩
  | 81 => ⟨S4x16x16x1024x513, .f32⟩
  | 82 => ⟨S4x16x16x1024x513, .f32⟩
  | 83 => ⟨S4x16x16x1024x513, .f32⟩
  | 84 => ⟨S4x16x16x1024x513, .f32⟩
  | 85 => ⟨S_, .f32⟩
  | 86 => ⟨S4x16x1024x513, .f32⟩
  | 87 => ⟨S1024, .i32⟩
  | 88 => ⟨S1024x1, .i32⟩
  | 89 => ⟨S1024, .i32⟩
  | 90 => ⟨S1x1024, .i32⟩
  | 91 => ⟨S1024x1024, .i32⟩
  | 92 => ⟨S1024x1024, .i32⟩
  | 93 => ⟨S1024x1024, .i32⟩
  | 94 => ⟨S1024x1024, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1024x1024, .f32⟩
  | 102 => ⟨S1024x1024, .f32⟩
  | 103 => ⟨S1024x1024, .f32⟩
  | 104 => ⟨S1024x1024, .f32⟩
  | 105 => ⟨S1024x1024, .f32⟩
  | 106 => ⟨S1024x1024, .f32⟩
  | 107 => ⟨S4x16x513x1024, .f32⟩
  | 108 => ⟨S4x16x1024x513, .f32⟩
  | 109 => ⟨S4x16x513x1024, .f32⟩
  | 110 => ⟨S4x16x1024x513, .f32⟩
  | 111 => ⟨S4x16x1024x513, .f32⟩
  | 112 => ⟨S4x16x513x1024, .f32⟩
  | 113 => ⟨S4x16x1024x513, .f32⟩
  | 114 => ⟨S4x16x513x1024, .f32⟩
  | 115 => ⟨S4x16x1024x513, .f32⟩
  | 116 => ⟨S4x16x1024x513, .f32⟩
  | 117 => ⟨S513, .i32⟩
  | 118 => ⟨S513x1, .i32⟩
  | 119 => ⟨S_, .i32⟩
  | 120 => ⟨S513x1, .i32⟩
  | 121 => ⟨S513x1, .i1⟩
  | 122 => ⟨S_, .i32⟩
  | 123 => ⟨S513x1, .i32⟩
  | 124 => ⟨S513x1, .i1⟩
  | 125 => ⟨S513x1, .i1⟩
  | 126 => ⟨S_, .f32⟩
  | 127 => ⟨S_, .f32⟩
  | _ => ⟨S4x512x512x16, .f32⟩

abbrev hbmTy0_3 (i : Nat) : BufTy := match i % 128 with
  | 0 => ⟨S513x1, .f32⟩
  | 1 => ⟨S513x1, .f32⟩
  | 2 => ⟨S513x1, .f32⟩
  | 3 => ⟨S513, .i32⟩
  | 4 => ⟨S513x1, .i32⟩
  | 5 => ⟨S1024, .i32⟩
  | 6 => ⟨S1x1024, .i32⟩
  | 7 => ⟨S513x1024, .i32⟩
  | 8 => ⟨S513x1024, .i32⟩
  | 9 => ⟨S513x1024, .i32⟩
  | 10 => ⟨S513x1024, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S513x1024, .f32⟩
  | 18 => ⟨S513x1024, .f32⟩
  | 19 => ⟨S513x1024, .f32⟩
  | 20 => ⟨S513x1024, .f32⟩
  | 21 => ⟨S513x1024, .f32⟩
  | 22 => ⟨S513x1024, .f32⟩
  | 23 => ⟨S513x1024, .f32⟩
  | 24 => ⟨S_, .f32⟩
  | 25 => ⟨S513x1024, .f32⟩
  | 26 => ⟨S513x1024, .f32⟩
  | 27 => ⟨S513x1024, .f32⟩
  | 28 => ⟨S513x1024, .f32⟩
  | 29 => ⟨S513x1024, .f32⟩
  | 30 => ⟨S_, .f32⟩
  | 31 => ⟨S513x1024, .f32⟩
  | 32 => ⟨S513x1024, .f32⟩
  | 33 => ⟨S4x16x1024x1024, .f32⟩
  | 34 => ⟨S4x16x1024x1024, .f32⟩
  | 35 => ⟨S4x16x1024x1024, .f32⟩
  | 36 => ⟨S4x16x512x512, .f32⟩
  | 37 => ⟨S4x512x512x16, .f32⟩
  | _ => ⟨S4x512x512x16, .f32⟩

abbrev hbmTy (i : Nat) : BufTy := match i / 128 with
  | 0 => hbmTy0_0 i
  | 1 => hbmTy0_1 i
  | 2 => hbmTy0_2 i
  | 3 => hbmTy0_3 i
  | _ => ⟨S4x512x512x16, .f32⟩

abbrev bufTy : (tb : Table) → Fin (tcTables nBuf tb) → BufTy
  | .hbm, ⟨i, _⟩ => hbmTy i
  | _, _ => ⟨S4x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_cst_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_13 : Ref sig .tc := ⟨.hbm, 141, rfl⟩
abbrev main_v121 : Ref sig .tc := ⟨.hbm, 142, rfl⟩
abbrev main_cst_14 : Ref sig .tc := ⟨.hbm, 143, rfl⟩
abbrev main_v122 : Ref sig .tc := ⟨.hbm, 144, rfl⟩
abbrev main_cst_15 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_c : Ref sig .tc := ⟨.hbm, 165, rfl⟩
abbrev main_v142 : Ref sig .tc := ⟨.hbm, 166, rfl⟩
abbrev main_v143 : Ref sig .tc := ⟨.hbm, 167, rfl⟩
abbrev main_c_16 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_cst_17 : Ref sig .tc := ⟨.hbm, 172, rfl⟩
abbrev main_cst_18 : Ref sig .tc := ⟨.hbm, 173, rfl⟩
abbrev main_call2_v0 : Ref sig .tc := ⟨.hbm, 174, rfl⟩
abbrev main_call2_v1 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_19 : Ref sig .tc := ⟨.hbm, 185, rfl⟩
abbrev main_v156 : Ref sig .tc := ⟨.hbm, 186, rfl⟩
abbrev main_cst_20 : Ref sig .tc := ⟨.hbm, 187, rfl⟩
abbrev main_v157 : Ref sig .tc := ⟨.hbm, 188, rfl⟩
abbrev main_cst_21 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_22 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_23 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_cst_24 : Ref sig .tc := ⟨.hbm, 218, rfl⟩
abbrev main_v184 : Ref sig .tc := ⟨.hbm, 219, rfl⟩
abbrev main_cst_25 : Ref sig .tc := ⟨.hbm, 220, rfl⟩
abbrev main_v185 : Ref sig .tc := ⟨.hbm, 221, rfl⟩
abbrev main_cst_26 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_cst_27 : Ref sig .tc := ⟨.hbm, 239, rfl⟩
abbrev main_v202 : Ref sig .tc := ⟨.hbm, 240, rfl⟩
abbrev main_cst_28 : Ref sig .tc := ⟨.hbm, 241, rfl⟩
abbrev main_v203 : Ref sig .tc := ⟨.hbm, 242, rfl⟩
abbrev main_cst_29 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_cst_30 : Ref sig .tc := ⟨.hbm, 275, rfl⟩
abbrev main_v235 : Ref sig .tc := ⟨.hbm, 276, rfl⟩
abbrev main_cst_31 : Ref sig .tc := ⟨.hbm, 277, rfl⟩
abbrev main_v236 : Ref sig .tc := ⟨.hbm, 278, rfl⟩
abbrev main_cst_32 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_cst_33 : Ref sig .tc := ⟨.hbm, 296, rfl⟩
abbrev main_v253 : Ref sig .tc := ⟨.hbm, 297, rfl⟩
abbrev main_cst_34 : Ref sig .tc := ⟨.hbm, 298, rfl⟩
abbrev main_v254 : Ref sig .tc := ⟨.hbm, 299, rfl⟩
abbrev main_cst_35 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_cst_36 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_v290 : Ref sig .tc := ⟨.hbm, 337, rfl⟩
abbrev main_v291 : Ref sig .tc := ⟨.hbm, 338, rfl⟩
abbrev main_v292 : Ref sig .tc := ⟨.hbm, 339, rfl⟩
abbrev main_v293 : Ref sig .tc := ⟨.hbm, 340, rfl⟩
abbrev main_cst_37 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_v302 : Ref sig .tc := ⟨.hbm, 350, rfl⟩
abbrev main_cst_38 : Ref sig .tc := ⟨.hbm, 351, rfl⟩
abbrev main_v303 : Ref sig .tc := ⟨.hbm, 352, rfl⟩
abbrev main_cst_39 : Ref sig .tc := ⟨.hbm, 353, rfl⟩
abbrev main_v304 : Ref sig .tc := ⟨.hbm, 354, rfl⟩
abbrev main_cst_40 : Ref sig .tc := ⟨.hbm, 355, rfl⟩
abbrev main_v305 : Ref sig .tc := ⟨.hbm, 356, rfl⟩
abbrev main_v306 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_v314 : Ref sig .tc := ⟨.hbm, 365, rfl⟩
abbrev main_v315 : Ref sig .tc := ⟨.hbm, 366, rfl⟩
abbrev main_v316 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_c_41 : Ref sig .tc := ⟨.hbm, 375, rfl⟩
abbrev main_v324 : Ref sig .tc := ⟨.hbm, 376, rfl⟩
abbrev main_v325 : Ref sig .tc := ⟨.hbm, 377, rfl⟩
abbrev main_c_42 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_cst_43 : Ref sig .tc := ⟨.hbm, 382, rfl⟩
abbrev main_cst_44 : Ref sig .tc := ⟨.hbm, 383, rfl⟩
abbrev main_call3_v0 : Ref sig .tc := ⟨.hbm, 384, rfl⟩
abbrev main_call3_v1 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_cst_45 : Ref sig .tc := ⟨.hbm, 395, rfl⟩
abbrev main_v338 : Ref sig .tc := ⟨.hbm, 396, rfl⟩
abbrev main_cst_46 : Ref sig .tc := ⟨.hbm, 397, rfl⟩
abbrev main_v339 : Ref sig .tc := ⟨.hbm, 398, rfl⟩
abbrev main_cst_47 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_cst_48 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_v352 : Ref sig .tc := ⟨.hbm, 413, rfl⟩
abbrev main_cst_49 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩

abbrev nD : Nat := 1
abbrev τ : Topo := Topo.v7x

variable {F : FTy → Type} [FloatOps F]
-- ==== Proof.Fourier.lean ====
/-
  The mathematics of the discrete Fourier transforms, apart from any program: roots of unity, their orthogonality, the
  inverse transform of a half spectrum as the inverse transform of its Hermitian extension, and the transform at twice
  the length of an impulse response given by its spectrum. Everything is over the complex numbers; arrays are functions
  of natural numbers, and a sum runs over `Fin n`.
-/
module

public import Mathlib.Analysis.SpecialFunctions.Trigonometric.Basic
public import Mathlib.Analysis.SpecialFunctions.Complex.Log
public import Mathlib.Algebra.BigOperators.Fin
public import Mathlib.Algebra.Field.GeomSum
public import Mathlib.Data.Matrix.Mul

@[expose] public section

noncomputable section

namespace Lti

open Complex ComplexConjugate

/-- The root of unity `exp (-2 π i / M)`. -/
def root (M : ℕ) : ℂ := exp (-(2 * Real.pi * I / M))

/-- `exp (-2 π i t / M)`. -/
def W (M t : ℕ) : ℂ := root M ^ t

theorem W_eq_exp (M t : ℕ) : W M t = exp (((-(2 * Real.pi * t / M) : ℝ) : ℂ) * I) := by
  rw [W, root, ← exp_nat_mul]
  congr 1
  push_cast
  ring

/-- The real part of a root of unity. -/
theorem W_re (M t : ℕ) : (W M t).re = Real.cos (2 * Real.pi * t / M) := by
  rw [W_eq_exp, exp_ofReal_mul_I_re, Real.cos_neg]

/-- The imaginary part of a root of unity. -/
theorem W_im (M t : ℕ) : (W M t).im = -Real.sin (2 * Real.pi * t / M) := by
  rw [W_eq_exp, exp_ofReal_mul_I_im, Real.sin_neg]

theorem W_add (M s t : ℕ) : W M (s + t) = W M s * W M t := pow_add _ _ _

theorem W_zero (M : ℕ) : W M 0 = 1 := pow_zero _

theorem root_pow {M : ℕ} (hM : M ≠ 0) : root M ^ M = 1 := by
  rw [root, ← exp_nat_mul]
  have h : (M : ℂ) ≠ 0 := Nat.cast_ne_zero.mpr hM
  rw [show (M : ℂ) * -(2 * Real.pi * I / M) = -(2 * Real.pi * I) by field_simp, exp_neg, exp_two_pi_mul_I, inv_one]

/-- A root of unity that is one has an exponent divisible by the order. -/
theorem dvd_of_W_eq_one {M t : ℕ} (hM : M ≠ 0) (h : W M t = 1) : M ∣ t := by
  rw [W_eq_exp, exp_eq_one_iff] at h
  obtain ⟨n, hn⟩ := h
  have h0 : (M : ℝ) ≠ 0 := Nat.cast_ne_zero.mpr hM
  have hp := Real.pi_ne_zero
  have h1 : (-(2 * Real.pi * t / M) : ℝ) = n * (2 * Real.pi) := by
    have := congrArg Complex.im hn
    simpa using this
  have h2 : (t : ℝ) = -n * M := by
    field_simp at h1
    linarith
  have h3 : (t : ℤ) = -n * M := by exact_mod_cast h2
  have h4 : (M : ℤ) ∣ (t : ℤ) := ⟨-n, by rw [h3]; ring⟩
  exact_mod_cast h4

theorem W_self {M : ℕ} (hM : M ≠ 0) : W M M = 1 := root_pow hM

theorem W_mul_self {M : ℕ} (hM : M ≠ 0) (t : ℕ) : W M (M * t) = 1 := by
  rw [W, pow_mul, root_pow hM, one_pow]

/-- A root of unity depends on its exponent modulo the order. -/
theorem W_mod {M : ℕ} (hM : M ≠ 0) (t : ℕ) : W M (t % M) = W M t := by
  conv_rhs => rw [← Nat.mod_add_div t M, W_add, W_mul_self hM, mul_one]

/-- An exponent and an order doubled together change nothing. -/
theorem W_two (M t : ℕ) : W (2 * M) (2 * t) = W M t := by
  rw [W_eq_exp, W_eq_exp]
  congr 3
  push_cast
  rcases Nat.eq_zero_or_pos M with h | h
  · subst h; simp
  · have : (M : ℝ) ≠ 0 := by positivity
    field_simp

theorem W_conj_mul (M t : ℕ) : conj (W M t) * W M t = 1 := by
  rw [W_eq_exp, ← exp_conj, ← exp_add]
  generalize (-(2 * Real.pi * t / M) : ℝ) = x
  rw [map_mul, conj_ofReal, conj_I, mul_neg, neg_add_cancel, exp_zero]

theorem W_mul_conj (M t : ℕ) : W M t * conj (W M t) = 1 := by
  rw [mul_comm, W_conj_mul]

/-- The conjugate is the root of unity at an exponent that completes to a multiple of the order. -/
theorem W_conj_of {M s t : ℕ} (h : W M (s + t) = 1) : conj (W M s) = W M t := by
  have h1 : W M s * W M t = 1 := by rw [← W_add]; exact h
  calc conj (W M s) = conj (W M s) * (W M s * W M t) := by rw [h1, mul_one]
    _ = W M t := by rw [← mul_assoc, W_conj_mul, one_mul]

theorem W_inj {M r k : ℕ} (hM : M ≠ 0) (hr : r < M) (hk : k < M) (h : W M r = W M k) : r = k := by
  have key : ∀ a b : ℕ, a ≤ b → b < M → W M b = W M a → a = b := by
    intro a b hab hb e
    have h1 : W M (b - a) = 1 := by
      have h2 : W M a * W M (b - a) = W M a := by rw [← W_add, Nat.add_sub_cancel' hab, e]
      calc W M (b - a) = conj (W M a) * (W M a * W M (b - a)) := by rw [← mul_assoc, W_conj_mul, one_mul]
        _ = 1 := by rw [h2, W_conj_mul]
    have h3 := dvd_of_W_eq_one hM h1
    have h4 := Nat.eq_zero_of_dvd_of_lt h3 (by omega)
    omega
  rcases Nat.le_total r k with h1 | h1
  · exact key r k h1 hk h.symm
  · exact (key k r h1 hr h).symm

/-- Orthogonality of the characters of order `M`. -/
theorem W_orth {M : ℕ} (hM : M ≠ 0) (r k : ℕ) (hr : r < M) (hk : k < M) :
    ∑ n : Fin M, W M (r * n.val) * conj (W M (n.val * k)) = if r = k then (M : ℂ) else 0 := by
  have hterm : ∀ n : Fin M, W M (r * n.val) * conj (W M (n.val * k)) = (W M r * conj (W M k)) ^ n.val := by
    intro n
    rw [mul_pow, ← map_pow, mul_comm n.val k]
    simp only [W, pow_mul]
  simp only [hterm]
  rw [Fin.sum_univ_eq_sum_range (fun n => (W M r * conj (W M k)) ^ n) M]
  split
  · next h => subst h; simp [W_mul_conj]
  · next h =>
    have hne : W M r * conj (W M k) ≠ 1 := by
      intro e
      apply h
      have : W M r = W M k := by
        calc W M r = W M r * (conj (W M k) * W M k) := by rw [W_conj_mul, mul_one]
          _ = W M k := by rw [← mul_assoc, e, one_mul]
      exact W_inj hM hr hk this
    rw [geom_sum_eq hne]
    have : (W M r * conj (W M k)) ^ M = 1 := by
      rw [mul_pow, ← map_pow]
      simp only [W, ← pow_mul, mul_comm _ M]
      simp only [pow_mul, root_pow hM, one_pow, map_one, mul_one]
    rw [this, sub_self, zero_div]

/-! ## The quotient of two spectra -/

/-- The quotient of complex numbers as the programs spell it. -/
def quo (B A : ℂ) : ℂ :=
  ⟨(B.re * A.re + B.im * A.im) / (A.re * A.re + A.im * A.im), (B.im * A.re - B.re * A.im) / (A.re * A.re + A.im * A.im)⟩

theorem quo_conj (B A : ℂ) : quo (conj B) (conj A) = conj (quo B A) := by
  apply Complex.ext
  · simp [quo]
  · simp [quo]; ring

/-- The transform of order 512 of an array of `p` rows and `p` columns. -/
def spec (p : ℕ) (a : ℕ → ℕ → ℝ) (k l : ℕ) : ℂ :=
  ∑ n : Fin p, W 512 (k * n.val) * ∑ j : Fin p, (a n.val j.val : ℂ) * W 512 (j.val * l)

/-- Rows first or columns first. -/
theorem spec_swap (p : ℕ) (a : ℕ → ℕ → ℝ) (k l : ℕ) :
    ∑ j : Fin p, (∑ n : Fin p, W 512 (k * n.val) * (a n.val j.val : ℂ)) * W 512 (j.val * l) = spec p a k l := by
  simp only [spec, Finset.sum_mul, Finset.mul_sum]
  rw [Finset.sum_comm]
  simp only [mul_assoc]

/-- Zeros appended to both axes change nothing. -/
theorem spec_pad {p : ℕ} (q : ℕ) (a : ℕ → ℕ → ℝ) (hr : ∀ n j, p ≤ n → a n j = 0) (hc : ∀ n j, p ≤ j → a n j = 0)
    (k l : ℕ) : spec (p + q) a k l = spec p a k l := by
  unfold spec
  rw [Fin.sum_univ_add]
  have h2 : ∀ n : ℕ, ∑ j : Fin (p + q), (a n j.val : ℂ) * W 512 (j.val * l)
      = ∑ j : Fin p, (a n j.val : ℂ) * W 512 (j.val * l) := by
    intro n
    rw [Fin.sum_univ_add]
    simp [hc]
  simp only [h2]
  simp [hr]

/-- The transform of a real array at the mirror frequency, on a column that is its own mirror. -/
theorem spec_mirror (p : ℕ) (a : ℕ → ℕ → ℝ) (k l : ℕ) (hk : k < 512) (hl : W 512 (l + l) = 1) :
    spec p a ((512 - k) % 512) l = conj (spec p a k l) := by
  have h1 : ∀ n : ℕ, W 512 ((512 - k) % 512 * n) = conj (W 512 (k * n)) := by
    intro n
    symm
    apply W_conj_of
    rw [← Nat.add_mul]
    have : W 512 (k + (512 - k) % 512) = 1 := by
      rw [W_add, W_mod (by norm_num), ← W_add, show k + (512 - k) = 512 by omega, W_self (by norm_num)]
    rw [W, pow_mul]
    rw [W] at this
    rw [this, one_pow]
  have h2 : ∀ j : ℕ, W 512 (j * l) = conj (W 512 (j * l)) := by
    intro j
    symm
    apply W_conj_of
    rw [← Nat.mul_add, W, Nat.mul_comm, pow_mul]
    rw [W] at hl
    rw [hl, one_pow]
  simp only [spec, map_sum, map_mul, conj_ofReal, h1]
  refine Finset.sum_congr rfl fun n _ => congrArg _ (Finset.sum_congr rfl fun j _ => ?_)
  rw [← h2]

/-! ## The inverse transform of a half spectrum -/

/-- How often a column of a half spectrum of `2 H` columns counts. -/
def cnt (H k : ℕ) : ℝ := if k = 0 ∨ k = H then 1 else 2

/-- The entry of the inverse transform of order 512. -/
def inv512 (a b : ℕ) : ℂ := conj (W 512 (a * b)) / 512

/-- The Hermitian extension of a half spectrum of 257 columns to 512. -/
def ext (al : ℕ → ℕ → ℂ) (k l : ℕ) : ℂ := if l < 257 then al k l else conj (al ((512 - k) % 512) (512 - l))

/-- The first step of the inverse transform: along the first axis. -/
def inv1 (al : ℕ → ℕ → ℂ) (n l : ℕ) : ℂ := ∑ k : Fin 512, conj (W 512 (n * k.val)) * al k.val l

/-- The inverse transform of a half spectrum, a real array. -/
def resp (al : ℕ → ℕ → ℂ) (n m : ℕ) : ℝ :=
  ∑ l : Fin 257, (inv1 al n l.val).re * (cnt 256 l.val * (W 512 (l.val * m)).re / 262144)
    - ∑ l : Fin 257, (inv1 al n l.val).im * (cnt 256 l.val * -(W 512 (l.val * m)).im / 262144)

theorem mirror_sum (f : ℕ → ℂ) (hf : f 512 = f 0) : ∑ k : Fin 512, f ((512 - k.val) % 512) = ∑ k : Fin 512, f k.val := by
  rw [Fin.sum_univ_eq_sum_range (fun k => f ((512 - k) % 512)) 512, Fin.sum_univ_eq_sum_range f 512]
  rw [Finset.sum_range_succ' _ 511, Finset.sum_range_succ' f 511]
  congr 1
  rw [← Finset.sum_range_reflect]
  refine Finset.sum_congr rfl fun k hk => ?_
  have := Finset.mem_range.mp hk
  congr 1
  omega

theorem inv1_mirror (al : ℕ → ℕ → ℂ) (n l : ℕ) :
    inv1 (fun k l => conj (al ((512 - k) % 512) l)) n l = conj (inv1 al n l) := by
  have h1 : ∀ k : Fin 512, conj (W 512 (n * k.val)) = W 512 (n * ((512 - k.val) % 512)) := by
    intro k
    apply W_conj_of
    rw [← Nat.mul_add, W, Nat.mul_comm, pow_mul]
    have : W 512 (k.val + (512 - k.val) % 512) = 1 := by
      rw [W_add, W_mod (by norm_num), ← W_add, show k.val + (512 - k.val) = 512 by omega, W_self (by norm_num)]
    rw [W] at this
    rw [this, one_pow]
  have h2 := mirror_sum (fun k => W 512 (n * (k % 512)) * conj (al (k % 512) l)) (by norm_num)
  simp only [Nat.mod_mod] at h2
  have h3 : conj (inv1 al n l) = ∑ k : Fin 512, W 512 (n * k.val) * conj (al k.val l) := by
    simp only [inv1, map_sum, map_mul, conj_conj]
  have h4 : ∑ k : Fin 512, W 512 (n * (k.val % 512)) * conj (al (k.val % 512) l)
      = ∑ k : Fin 512, W 512 (n * k.val) * conj (al k.val l) :=
    Finset.sum_congr rfl fun k _ => by rw [Nat.mod_eq_of_lt k.isLt]
  rw [h3, ← h4, ← h2]
  exact Finset.sum_congr rfl fun k _ => by rw [h1]

theorem sum_range_mid {A : Type*} [AddCommMonoid A] (f : ℕ → A) :
    ∑ k ∈ Finset.range 257, f k = f 0 + f 256 + ∑ k ∈ Finset.range 255, f (k + 1) := by
  rw [Finset.sum_range_succ, Finset.sum_range_succ' f 255]
  abel

theorem sum_range_mirror {A : Type*} [AddCommMonoid A] (f : ℕ → A) :
    ∑ k ∈ Finset.range 512, f k
      = f 0 + f 256 + ∑ k ∈ Finset.range 255, (f (k + 1) + f (512 - (k + 1))) := by
  rw [show (512 : ℕ) = 257 + 255 from rfl, Finset.sum_range_add, sum_range_mid, Finset.sum_add_distrib, add_assoc]
  congr 2
  rw [← Finset.sum_range_reflect]
  refine Finset.sum_congr rfl fun k hk => ?_
  have := Finset.mem_range.mp hk
  congr 1
  omega

/-- The inverse transform of a half spectrum is the full inverse transform of its Hermitian extension, when the two
columns that are their own mirrors are Hermitian. -/
theorem resp_eq (al : ℕ → ℕ → ℂ) (h0 : ∀ k, k < 512 → al ((512 - k) % 512) 0 = conj (al k 0))
    (h1 : ∀ k, k < 512 → al ((512 - k) % 512) 256 = conj (al k 256)) (n m : ℕ) :
    (resp al n m : ℂ) = ∑ k : Fin 512, inv512 n k.val * ∑ l : Fin 512, ext al k.val l.val * inv512 l.val m := by
  have hre : ∀ l, (∀ k, k < 512 → al ((512 - k) % 512) l = conj (al k l)) → conj (inv1 al n l) = inv1 al n l := by
    intro l h
    rw [← inv1_mirror]
    refine Finset.sum_congr rfl fun k _ => ?_
    show _ * conj (al ((512 - k.val) % 512) l) = _
    rw [h _ k.isLt, conj_conj]
  have hW : ∀ l, W 512 (l + l) = 1 → conj (W 512 (l * m)) = W 512 (l * m) := by
    intro l h
    apply W_conj_of
    rw [← Nat.add_mul, W, pow_mul]
    rw [W] at h
    rw [h, one_pow]
  -- the right-hand side by columns
  have hcol : ∑ k : Fin 512, inv512 n k.val * ∑ l : Fin 512, ext al k.val l.val * inv512 l.val m
      = ∑ l ∈ Finset.range 512, inv1 (ext al) n l * conj (W 512 (l * m)) / 262144 := by
    rw [← Fin.sum_univ_eq_sum_range (fun l => inv1 (ext al) n l * conj (W 512 (l * m)) / 262144) 512]
    simp only [inv512, inv1, Finset.mul_sum, Finset.sum_mul, div_eq_mul_inv]
    rw [Finset.sum_comm]
    refine Finset.sum_congr rfl fun l _ => Finset.sum_congr rfl fun k _ => ?_
    ring
  have hlo : ∀ l, l < 257 → inv1 (ext al) n l = inv1 al n l := by
    intro l h
    simp only [inv1, ext, if_pos h]
  have hhi : ∀ l, l < 255 → inv1 (ext al) n (512 - (l + 1)) = conj (inv1 al n (l + 1)) := by
    intro l h
    rw [← inv1_mirror]
    simp only [inv1, ext]
    simp only [if_neg (show ¬ 512 - (l + 1) < 257 by omega), show 512 - (512 - (l + 1)) = l + 1 by omega]
  rw [hcol, sum_range_mirror]
  have hleft : (resp al n m : ℂ) = ∑ l ∈ Finset.range 257,
      ((((inv1 al n l).re * (cnt 256 l * (W 512 (l * m)).re / 262144)
        - (inv1 al n l).im * (cnt 256 l * -(W 512 (l * m)).im / 262144) : ℝ)) : ℂ) := by
    rw [← Fin.sum_univ_eq_sum_range (fun l => ((((inv1 al n l).re * (cnt 256 l * (W 512 (l * m)).re / 262144)
        - (inv1 al n l).im * (cnt 256 l * -(W 512 (l * m)).im / 262144) : ℝ)) : ℂ)) 257]
    rw [resp, ← Finset.sum_sub_distrib]
    push_cast
    rfl
  rw [hleft, sum_range_mid]
  have hreal : ∀ z w : ℂ, conj z = z → conj w = w → ((z.re * w.re : ℝ) : ℂ) = z * conj w := by
    intro z w hz hw
    rw [hw]
    conv_rhs => rw [← conj_eq_iff_re.mp hz, ← conj_eq_iff_re.mp hw]
    push_cast
    rfl
  have him : ∀ z : ℂ, conj z = z → z.im = 0 := fun z hz => conj_eq_iff_im.mp hz
  congr 1
  · congr 1
    · rw [hlo 0 (by norm_num)]
      have e1 := hre 0 h0
      have e2 := hW 0 (W_zero _)
      rw [him _ e1, ← hreal _ _ e1 e2]
      simp [cnt]
      ring
    · rw [hlo 256 (by norm_num)]
      have e1 := hre 256 h1
      have e2 := hW 256 (W_self (by norm_num))
      rw [him _ e1, ← hreal _ _ e1 e2]
      simp [cnt]
      ring
  · refine Finset.sum_congr rfl fun l hl => ?_
    have hl := Finset.mem_range.mp hl
    rw [hlo _ (by omega), hhi _ hl]
    have e : conj (W 512 ((512 - (l + 1)) * m)) = W 512 ((l + 1) * m) := by
      apply W_conj_of
      rw [← Nat.add_mul, show 512 - (l + 1) + (l + 1) = 512 by omega, W_mul_self (by norm_num)]
    rw [e]
    have hc : cnt 256 (l + 1) = 2 := by
      rw [cnt, if_neg (by omega)]
    rw [hc]
    apply Complex.ext
    · simp
      ring
    · simp
      ring

/-! ## The transform at twice the length -/

/-- The transform of order 1024 along both axes of a real array of 512 rows and columns. -/
def dbl (h : ℕ → ℕ → ℝ) (f q : ℕ) : ℂ :=
  ∑ n : Fin 512, W 1024 (f * n.val) * ∑ m : Fin 512, (h n.val m.val : ℂ) * W 1024 (m.val * q)

/-- A column step: from the spectrum of order 512 to that of order 1024. -/
def colStep (l q : ℕ) : ℂ := ∑ m : Fin 512, inv512 l m.val * W 1024 (m.val * q)

/-- A row step: from the spectrum of order 512 to that of order 1024. -/
def rowStep (f k : ℕ) : ℂ := ∑ n : Fin 512, W 1024 (f * n.val) * inv512 n.val k

theorem dbl_mid (al : ℕ → ℕ → ℂ) (h : ℕ → ℕ → ℝ)
    (hh : ∀ n m, (h n m : ℂ) = ∑ k : Fin 512, inv512 n k.val * ∑ l : Fin 512, al k.val l.val * inv512 l.val m) (n q : ℕ) :
    ∑ m : Fin 512, (h n m.val : ℂ) * W 1024 (m.val * q)
      = ∑ k : Fin 512, inv512 n k.val * ∑ l : Fin 512, al k.val l.val * colStep l.val q := by
  simp only [hh, colStep, Finset.sum_mul, Finset.mul_sum]
  rw [Finset.sum_comm]
  refine Finset.sum_congr rfl fun k _ => ?_
  rw [Finset.sum_comm]
  refine Finset.sum_congr rfl fun l _ => Finset.sum_congr rfl fun m _ => ?_
  ring

/-- The transform at any row, through the row and column steps. -/
theorem dbl_row (al : ℕ → ℕ → ℂ) (h : ℕ → ℕ → ℝ)
    (hh : ∀ n m, (h n m : ℂ) = ∑ k : Fin 512, inv512 n k.val * ∑ l : Fin 512, al k.val l.val * inv512 l.val m) (f q : ℕ) :
    dbl h f q = ∑ k : Fin 512, rowStep f k.val * ∑ l : Fin 512, al k.val l.val * colStep l.val q := by
  simp only [dbl, dbl_mid al h hh]
  simp only [rowStep, Finset.mul_sum, Finset.sum_mul]
  rw [Finset.sum_comm]
  refine Finset.sum_congr rfl fun k _ => ?_
  rw [Finset.sum_comm]
  refine Finset.sum_congr rfl fun l _ => Finset.sum_congr rfl fun m _ => ?_
  rw [mul_assoc]

/-- At an even row the row step is the identity. -/
theorem rowStep_even (r k : ℕ) (hr : r < 512) (hk : k < 512) : rowStep (2 * r) k = if r = k then 1 else 0 := by
  have e : ∀ n : Fin 512, W 1024 (2 * r * n.val) * inv512 n.val k = (W 512 (r * n.val) * conj (W 512 (n.val * k))) / 512 := by
    intro n
    rw [show (1024 : ℕ) = 2 * 512 from rfl, mul_assoc, W_two, inv512]
    ring
  simp only [rowStep, e]
  simp only [div_eq_mul_inv]
  rw [← Finset.sum_mul, W_orth (by norm_num) r k hr hk]
  split <;> norm_num

/-- The transform at an even row needs no row step. -/
theorem dbl_even (al : ℕ → ℕ → ℂ) (h : ℕ → ℕ → ℝ)
    (hh : ∀ n m, (h n m : ℂ) = ∑ k : Fin 512, inv512 n k.val * ∑ l : Fin 512, al k.val l.val * inv512 l.val m) (r q : ℕ)
    (hr : r < 512) : dbl h (2 * r) q = ∑ l : Fin 512, al r l.val * colStep l.val q := by
  rw [dbl_row al h hh, Finset.sum_eq_single (⟨r, hr⟩ : Fin 512)]
  · rw [rowStep_even r r hr hr]; simp
  · intro k _ hk
    rw [rowStep_even r k.val hr k.isLt, if_neg (fun e => hk (Fin.ext e.symm)), zero_mul]
  · intro h; exact absurd (Finset.mem_univ _) h

end Lti

end
-- ==== Proof.Cx.lean ====
/-
  Pairs of extended reals that are the real and the imaginary part of a complex number: what the programs' products of
  pairs compute of them. Also the extended reals' sums of real numbers, and the words of the constants the programs use.
-/
module

public import proofs.«01_k».proof.Proof.Fourier
public import Idealize.ShloMosaic.PureOps.Ideal.Laws
public import Idealize.ShloMosaic.Lib.IdealHost

@[expose] public section

noncomputable section

namespace Lti

open Idealize.ShloMosaic

/-- The pair is the complex number's real and imaginary part. -/
def IsC (r i : EReal) (z : ℂ) : Prop := r = (z.re : EReal) ∧ i = (z.im : EReal)

/-- A sum of real numbers, in the extended reals. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A product of two pairs along an axis, spelt as four sums. -/
theorem IsC.cmm {n : ℕ} {ar ai br bi : Fin n → EReal} {z w : Fin n → ℂ} (ha : ∀ k, IsC (ar k) (ai k) (z k))
    (hb : ∀ k, IsC (br k) (bi k) (w k)) :
    IsC (∑ k, ar k * br k - ∑ k, ai k * bi k) (∑ k, ar k * bi k + ∑ k, ai k * br k) (∑ k, z k * w k) := by
  constructor
  · rw [Finset.sum_congr rfl fun k _ => by rw [(ha k).1, (hb k).1, ← EReal.coe_mul],
      Finset.sum_congr (f := fun k => ai k * bi k) rfl fun k _ => by rw [(ha k).2, (hb k).2, ← EReal.coe_mul],
      coe_sum, coe_sum, ← EReal.coe_sub, ← Finset.sum_sub_distrib, Complex.re_sum]
    simp only [Complex.mul_re]
  · rw [Finset.sum_congr rfl fun k _ => by rw [(ha k).1, (hb k).2, ← EReal.coe_mul],
      Finset.sum_congr (f := fun k => ai k * br k) rfl fun k _ => by rw [(ha k).2, (hb k).1, ← EReal.coe_mul],
      coe_sum, coe_sum, ← EReal.coe_add, ← Finset.sum_add_distrib, Complex.im_sum]
    simp only [Complex.mul_im]

/-- A real array times a pair along an axis. -/
theorem IsC.rmul {n : ℕ} {a br bi : Fin n → EReal} {x : Fin n → ℝ} {w : Fin n → ℂ} (ha : ∀ k, a k = (x k : EReal))
    (hb : ∀ k, IsC (br k) (bi k) (w k)) : IsC (∑ k, a k * br k) (∑ k, a k * bi k) (∑ k, (x k : ℂ) * w k) := by
  constructor
  · rw [Finset.sum_congr rfl fun k _ => by rw [ha k, (hb k).1, ← EReal.coe_mul], coe_sum, Complex.re_sum]
    simp only [Complex.re_ofReal_mul]
  · rw [Finset.sum_congr rfl fun k _ => by rw [ha k, (hb k).2, ← EReal.coe_mul], coe_sum, Complex.im_sum]
    simp only [Complex.im_ofReal_mul]

/-- A pair times a real array along an axis. -/
theorem IsC.mulr {n : ℕ} {a br bi : Fin n → EReal} {x : Fin n → ℝ} {w : Fin n → ℂ} (hb : ∀ k, IsC (br k) (bi k) (w k))
    (ha : ∀ k, a k = (x k : EReal)) : IsC (∑ k, br k * a k) (∑ k, bi k * a k) (∑ k, w k * (x k : ℂ)) := by
  have := IsC.rmul ha hb
  simpa only [mul_comm] using this

/-- The quotient of two pairs, the divisor's square not zero. -/
theorem IsC.quo {br bi ar ai : EReal} {B A : ℂ} (hb : IsC br bi B) (ha : IsC ar ai A)
    (hd : A.re * A.re + A.im * A.im ≠ 0) :
    IsC (Ideal.div (br * ar + bi * ai) (ar * ar + ai * ai)) (Ideal.div (bi * ar - br * ai) (ar * ar + ai * ai))
      (quo B A) := by
  obtain ⟨rfl, rfl⟩ := hb
  obtain ⟨rfl, rfl⟩ := ha
  have h0 : ((A.re * A.re + A.im * A.im : ℝ) : EReal) ≠ 0 := by
    rw [← EReal.coe_zero]; exact fun e => hd (EReal.coe_eq_coe_iff.mp e)
  constructor
  · simp only [← EReal.coe_mul, ← EReal.coe_add]
    rw [Ideal.div, if_neg h0, ← EReal.coe_inv, ← EReal.coe_mul, Lti.quo, div_eq_mul_inv]
  · simp only [← EReal.coe_mul, ← EReal.coe_add, ← EReal.coe_sub]
    rw [Ideal.div, if_neg h0, ← EReal.coe_inv, ← EReal.coe_mul, ← div_eq_mul_inv, Lti.quo]

end Lti

end
-- ==== Proof.Words.lean ====
/-
  The words and numbers a trigonometric table is computed from: the remainder of a product of two indices, the angle it
  stands for, and the cosine and the sine of the angle as the real and the imaginary part of a root of unity.
-/
module

public import proofs.«01_k».proof.Proof.Cx
public import Idealize.ShloMosaic.Lib.StableHlo.Run
public import Idealize.ShloMosaic.Lib.IdealHost
public import Idealize.ShloMosaic.Lib.Pointwise
public import Idealize.ShloMosaic.Lib.Pointwise.Tactic

@[expose] public section

noncomputable section

namespace Lti

open Idealize.ShloMosaic Idealize.ShloMosaic.StableHlo

/-- The product of the words of two numbers is the word of their product. -/
theorem muli_word (a b : ℕ) : IntOp.muli (BitVec.ofNat 32 a) (BitVec.ofNat 32 b) = BitVec.ofNat 32 (a * b) := by
  rw [IntOp.muli, BitVec.ofNat_mul]

/-- The remainder as the host spells it, of a word by a word, at a positive divisor and a dividend that is not
    negative. -/
theorem rem_word (t M : ℕ) (ht : t < 2 ^ 31) (hM : M < 2 ^ 31) (h0 : 0 < M) :
    Scalar.select
      (IntOp.andi
        (IntOp.cmpi CmpIPredicate.ne
          (IntOp.cmpi CmpIPredicate.slt
            (IntOp.remsi ArithUnit.host (BitVec.ofNat 32 t)
              (Scalar.select (IntOp.cmpi CmpIPredicate.eq (BitVec.ofNat 32 M) 0#32) (1#32) (BitVec.ofNat 32 M)))
            0#32)
          (IntOp.cmpi CmpIPredicate.slt
            (Scalar.select (IntOp.cmpi CmpIPredicate.eq (BitVec.ofNat 32 M) 0#32) (1#32) (BitVec.ofNat 32 M)) 0#32))
        (IntOp.cmpi CmpIPredicate.ne
          (IntOp.remsi ArithUnit.host (BitVec.ofNat 32 t)
            (Scalar.select (IntOp.cmpi CmpIPredicate.eq (BitVec.ofNat 32 M) 0#32) (1#32) (BitVec.ofNat 32 M)))
          0#32))
      (IntOp.addi
        (IntOp.remsi ArithUnit.host (BitVec.ofNat 32 t)
          (Scalar.select (IntOp.cmpi CmpIPredicate.eq (BitVec.ofNat 32 M) 0#32) (1#32) (BitVec.ofNat 32 M)))
        (Scalar.select (IntOp.cmpi CmpIPredicate.eq (BitVec.ofNat 32 M) 0#32) (1#32) (BitVec.ofNat 32 M)))
      (IntOp.remsi ArithUnit.host (BitVec.ofNat 32 t)
        (Scalar.select (IntOp.cmpi CmpIPredicate.eq (BitVec.ofNat 32 M) 0#32) (1#32) (BitVec.ofNat 32 M)))
      = BitVec.ofNat 32 (t % M) := by
  have e1 : (BitVec.ofNat 32 M).toNat = M := by rw [BitVec.toNat_ofNat]; omega
  have e2 : (BitVec.ofNat 32 t).toNat = t := by rw [BitVec.toNat_ofNat]; omega
  have i1 : (BitVec.ofNat 32 M).toInt = M := by rw [BitVec.toInt_eq_toNat_of_lt (by omega), e1]
  have i2 : (BitVec.ofNat 32 t).toInt = t := by rw [BitVec.toInt_eq_toNat_of_lt (by omega), e2]
  have m1 : (BitVec.ofNat 32 M).msb = false := by rw [BitVec.msb_eq_false_iff_two_mul_lt]; omega
  have m2 : (BitVec.ofNat 32 t).msb = false := by rw [BitVec.msb_eq_false_iff_two_mul_lt]; omega
  have n0 : (BitVec.ofNat 32 M) ≠ 0#32 := by
    intro h; rw [h] at e1; simp at e1; omega
  have hs : Scalar.select (IntOp.cmpi CmpIPredicate.eq (BitVec.ofNat 32 M) 0#32) (1#32) (BitVec.ofNat 32 M)
      = BitVec.ofNat 32 M := by
    have : (BitVec.ofNat 32 M == 0#32) = false := by simpa using n0
    simp only [Scalar.select, IntOp.cmpi, this]; rfl
  have hr : IntOp.remsi ArithUnit.host (BitVec.ofNat 32 t) (BitVec.ofNat 32 M) = BitVec.ofNat 32 (t % M) := by
    rw [IntOp.remsi, if_neg]
    · rw [BitVec.srem_eq, m1, m2]
      apply BitVec.eq_of_toNat_eq
      simp only [BitVec.toNat_umod, e1, e2, BitVec.toNat_ofNat]
      have := Nat.mod_lt t h0
      omega
    · rintro (h | ⟨h, -⟩)
      · exact n0 h
      · rw [h] at m2; revert m2; decide
  have hl : t % M < M := Nat.mod_lt t h0
  have e3 : (BitVec.ofNat 32 (t % M)).toNat = t % M := by rw [BitVec.toNat_ofNat]; omega
  have i3 : (BitVec.ofNat 32 (t % M)).toInt = (t % M : ℕ) := by rw [BitVec.toInt_eq_toNat_of_lt (by omega), e3]
  have c1 : IntOp.cmpi CmpIPredicate.slt (BitVec.ofNat 32 (t % M)) 0#32 = 0#1 := by
    have : ¬ ((t % M : ℕ) : ℤ) < 0 := by omega
    simp only [IntOp.cmpi, BitVec.slt, i3, BitVec.toInt_zero, this]; rfl
  have c2 : IntOp.cmpi CmpIPredicate.slt (BitVec.ofNat 32 M) 0#32 = 0#1 := by
    have : ¬ ((M : ℕ) : ℤ) < 0 := by omega
    simp only [IntOp.cmpi, BitVec.slt, i1, BitVec.toInt_zero, this]; rfl
  rw [hs, hr, c1, c2]
  simp [Scalar.select, IntOp.cmpi, IntOp.andi]

/-- A nonnegative word converts to its number. -/
theorem sitofp_word (t : ℕ) (ht : t < 2 ^ 31) :
    (FloatOps.sitofp FTy.f32 (BitVec.ofNat 32 t) : Ideal .f32) = ((t : ℝ) : EReal) := by
  have e2 : (BitVec.ofNat 32 t).toNat = t := by rw [BitVec.toNat_ofNat]; omega
  have i2 : (BitVec.ofNat 32 t).toInt = t := by rw [BitVec.toInt_eq_toNat_of_lt (by omega), e2]
  show (((BitVec.ofNat 32 t).toInt : ℝ) : EReal) = _
  rw [i2]; simp

/-- The inverse cosine of minus one. -/
theorem acos_neg_one : Ideal.acos (Ideal.ofBits FTy.f32 3212836864#32) = ((Real.pi : ℝ) : EReal) := by
  have h : Ideal.ofBits FTy.f32 3212836864#32 = ((-1 : ℝ) : EReal) := by
    simp [Ideal.ofBits, Ideal.ieee, -EReal.coe_mul] <;> norm_num
  rw [h, Ideal.acos_coe, if_pos (by norm_num), Real.arccos_neg_one]

/-- The word of 2 / 512. -/
theorem w_256 : Ideal.ofBits FTy.f32 998244352#32 = ((1 / 256 : ℝ) : EReal) := by
  simp [Ideal.ofBits, Ideal.ieee, -EReal.coe_mul] <;> norm_num
/-- The word of 1 / 512. -/
theorem w_512 : Ideal.ofBits FTy.f32 989855744#32 = ((1 / 512 : ℝ) : EReal) := by
  simp [Ideal.ofBits, Ideal.ieee, -EReal.coe_mul] <;> norm_num
/-- The word of 2. -/
theorem w_2 : Ideal.ofBits FTy.f32 1073741824#32 = ((2 : ℝ) : EReal) := by
  simp [Ideal.ofBits, Ideal.ieee, -EReal.coe_mul] <;> norm_num
/-- The word of 512. -/
theorem w_c512 : Ideal.ofBits FTy.f32 1140850688#32 = ((512 : ℝ) : EReal) := by
  simp [Ideal.ofBits, Ideal.ieee, -EReal.coe_mul] <;> norm_num
/-- The word of 1024. -/
theorem w_c1024 : Ideal.ofBits FTy.f32 1149239296#32 = ((1024 : ℝ) : EReal) := by
  simp [Ideal.ofBits, Ideal.ieee, -EReal.coe_mul] <;> norm_num
/-- The word of 1024 × 1024. -/
theorem w_c20 : Ideal.ofBits FTy.f32 1233125376#32 = ((1048576 : ℝ) : EReal) := by
  simp [Ideal.ofBits, Ideal.ieee, -EReal.coe_mul] <;> norm_num
/-- The word of 512 × 512. -/
theorem w_c18 : Ideal.ofBits FTy.f32 1216348160#32 = ((262144 : ℝ) : EReal) := by
  simp [Ideal.ofBits, Ideal.ieee, -EReal.coe_mul] <;> norm_num
/-- The word of 1. -/
theorem w_1 : Ideal.ofBits FTy.f32 1065353216#32 = ((1 : ℝ) : EReal) := by
  simp [Ideal.ofBits, Ideal.ieee, -EReal.coe_mul] <;> norm_num
/-- The word of -1. -/
theorem w_neg_1 : Ideal.ofBits FTy.f32 3212836864#32 = ((-1 : ℝ) : EReal) := by
  simp [Ideal.ofBits, Ideal.ieee, -EReal.coe_mul] <;> norm_num

/-- The cosine and the negated sine of an angle `2 π t / M`. -/
theorem cos_angle (M t : ℕ) : Ideal.cos ((2 * Real.pi * t / M : ℝ) : EReal) = ((W M t).re : EReal) := by
  rw [Ideal.cos_coe, W_re]
theorem sin_angle (M t : ℕ) : -Ideal.sin ((2 * Real.pi * t / M : ℝ) : EReal) = ((W M t).im : EReal) := by
  rw [Ideal.sin_coe, W_im, EReal.coe_neg]

/-- The angle of a word reduced modulo 512, as the kernel computes it. -/
theorem angle_512 (t : ℕ) (ht : t < 2 ^ 31) :
    (FloatOps.sitofp FTy.f32 (BitVec.ofNat 32 t) : Ideal .f32)
      * (Ideal.ofBits FTy.f32 998244352#32 * Ideal.acos (Ideal.ofBits FTy.f32 3212836864#32) : EReal)
      = ((2 * Real.pi * t / (512 : ℕ) : ℝ) : EReal) := by
  rw [sitofp_word t ht, acos_neg_one, w_256, ← EReal.coe_mul, ← EReal.coe_mul]
  congr 1; push_cast; ring
/-- The angle of a word for the order 1024. -/
theorem angle_1024 (t : ℕ) (ht : t < 2 ^ 31) :
    (FloatOps.sitofp FTy.f32 (BitVec.ofNat 32 t) : Ideal .f32)
      * (Ideal.ofBits FTy.f32 989855744#32 * Ideal.acos (Ideal.ofBits FTy.f32 3212836864#32) : EReal)
      = ((2 * Real.pi * t / (1024 : ℕ) : ℝ) : EReal) := by
  rw [sitofp_word t ht, acos_neg_one, w_512, ← EReal.coe_mul, ← EReal.coe_mul]
  congr 1; push_cast; ring
/-- The angle of a word for the order 512 as the reference computes it. -/
theorem ref_angle_512 (t : ℕ) (ht : t < 2 ^ 31) :
    (FloatOps.sitofp FTy.f32 (BitVec.ofNat 32 t) : Ideal .f32)
      * Ideal.div (Ideal.ofBits FTy.f32 1073741824#32 * Ideal.acos (Ideal.ofBits FTy.f32 3212836864#32) : EReal)
          (Ideal.ofBits FTy.f32 1140850688#32)
      = ((2 * Real.pi * t / (512 : ℕ) : ℝ) : EReal) := by
  rw [sitofp_word t ht, acos_neg_one, w_2, w_c512, Ideal.div_coe (by norm_num), ← EReal.coe_mul, ← EReal.coe_mul,
    ← EReal.coe_mul]
  congr 1; push_cast; ring
/-- The angle of a word for the order 1024 as the reference computes it. -/
theorem ref_angle_1024 (t : ℕ) (ht : t < 2 ^ 31) :
    (FloatOps.sitofp FTy.f32 (BitVec.ofNat 32 t) : Ideal .f32)
      * Ideal.div (Ideal.ofBits FTy.f32 1073741824#32 * Ideal.acos (Ideal.ofBits FTy.f32 3212836864#32) : EReal)
          (Ideal.ofBits FTy.f32 1149239296#32)
      = ((2 * Real.pi * t / (1024 : ℕ) : ℝ) : EReal) := by
  rw [sitofp_word t ht, acos_neg_one, w_2, w_c1024, Ideal.div_coe (by norm_num), ← EReal.coe_mul, ← EReal.coe_mul,
    ← EReal.coe_mul]
  congr 1; push_cast; ring

/-- The kernel's cosine and negated sine of a word reduced modulo the order. -/
theorem kcos_512 (t : ℕ) : Ideal.cos ((FloatOps.sitofp FTy.f32 (BitVec.ofNat 32 (t % 512)) : Ideal .f32)
      * (Ideal.ofBits FTy.f32 998244352#32 * Ideal.acos (Ideal.ofBits FTy.f32 3212836864#32) : EReal))
    = ((W 512 t).re : EReal) := by
  rw [angle_512 _ (by omega), cos_angle, W_mod (by norm_num)]
theorem ksin_512 (t : ℕ) : -Ideal.sin ((FloatOps.sitofp FTy.f32 (BitVec.ofNat 32 (t % 512)) : Ideal .f32)
      * (Ideal.ofBits FTy.f32 998244352#32 * Ideal.acos (Ideal.ofBits FTy.f32 3212836864#32) : EReal))
    = ((W 512 t).im : EReal) := by
  rw [angle_512 _ (by omega), sin_angle, W_mod (by norm_num)]
theorem kcos_1024 (t : ℕ) : Ideal.cos ((FloatOps.sitofp FTy.f32 (BitVec.ofNat 32 (t % 1024)) : Ideal .f32)
      * (Ideal.ofBits FTy.f32 989855744#32 * Ideal.acos (Ideal.ofBits FTy.f32 3212836864#32) : EReal))
    = ((W 1024 t).re : EReal) := by
  rw [angle_1024 _ (by omega), cos_angle, W_mod (by norm_num)]
theorem ksin_1024 (t : ℕ) : -Ideal.sin ((FloatOps.sitofp FTy.f32 (BitVec.ofNat 32 (t % 1024)) : Ideal .f32)
      * (Ideal.ofBits FTy.f32 989855744#32 * Ideal.acos (Ideal.ofBits FTy.f32 3212836864#32) : EReal))
    = ((W 1024 t).im : EReal) := by
  rw [angle_1024 _ (by omega), sin_angle, W_mod (by norm_num)]

/-- The reference's cosine and negated sine of a product of two indices. -/
theorem rcos_512 (a b : ℕ) (h : a * b < 2 ^ 31) :
    Ideal.cos ((FloatOps.sitofp FTy.f32 (IntOp.muli (BitVec.ofNat 32 a) (BitVec.ofNat 32 b)) : Ideal .f32)
      * Ideal.div (Ideal.ofBits FTy.f32 1073741824#32 * Ideal.acos (Ideal.ofBits FTy.f32 3212836864#32) : EReal)
          (Ideal.ofBits FTy.f32 1140850688#32)) = ((W 512 (a * b)).re : EReal) := by
  rw [muli_word, ref_angle_512 _ h, cos_angle]
theorem rsin_512 (a b : ℕ) (h : a * b < 2 ^ 31) :
    -Ideal.sin ((FloatOps.sitofp FTy.f32 (IntOp.muli (BitVec.ofNat 32 a) (BitVec.ofNat 32 b)) : Ideal .f32)
      * Ideal.div (Ideal.ofBits FTy.f32 1073741824#32 * Ideal.acos (Ideal.ofBits FTy.f32 3212836864#32) : EReal)
          (Ideal.ofBits FTy.f32 1140850688#32)) = ((W 512 (a * b)).im : EReal) := by
  rw [muli_word, ref_angle_512 _ h, sin_angle]
theorem rcos_1024 (a b : ℕ) (h : a * b < 2 ^ 31) :
    Ideal.cos ((FloatOps.sitofp FTy.f32 (IntOp.muli (BitVec.ofNat 32 a) (BitVec.ofNat 32 b)) : Ideal .f32)
      * Ideal.div (Ideal.ofBits FTy.f32 1073741824#32 * Ideal.acos (Ideal.ofBits FTy.f32 3212836864#32) : EReal)
          (Ideal.ofBits FTy.f32 1149239296#32)) = ((W 1024 (a * b)).re : EReal) := by
  rw [muli_word, ref_angle_1024 _ h, cos_angle]
theorem rsin_1024 (a b : ℕ) (h : a * b < 2 ^ 31) :
    -Ideal.sin ((FloatOps.sitofp FTy.f32 (IntOp.muli (BitVec.ofNat 32 a) (BitVec.ofNat 32 b)) : Ideal .f32)
      * Ideal.div (Ideal.ofBits FTy.f32 1073741824#32 * Ideal.acos (Ideal.ofBits FTy.f32 3212836864#32) : EReal)
          (Ideal.ofBits FTy.f32 1149239296#32)) = ((W 1024 (a * b)).im : EReal) := by
  rw [muli_word, ref_angle_1024 _ h, sin_angle]

end Lti
end
-- ==== Proof.KTables.lean ====
/-
  The kernel's trigonometric tables at an index: each is read off the host operations that compute it, as the real or
  the imaginary part of a root of unity.
-/
module

public import proofs.«01_k».proof.Proof.Words
public import proofs.«01_k».proof.Proof.Gen.KernelIdeal.Frame.Fold0

@[expose] public section

noncomputable section

namespace Lti

open Idealize.ShloMosaic Idealize.ShloMosaic.StableHlo Cert.KernelIdeal Cert.KernelIdeal.Gen
open Idealize.ShloMosaic.TcCoe

variable (m : (ℓ : Loc nD τ sig) → Buf (Elt Ideal) ℓ) (ρ : Dev nD → PrngReg) (c : Dev nD)

set_option maxRecDepth 8192 in
set_option maxHeartbeats 2000000 in
/-- The product of the two indices of table `f`. -/
theorem f_prod (i : S512x512.Idx) :
    (W9 m ρ c (Proc.devRef .tc main_v14) : IVec S512x512 32) i = BitVec.ofNat 32 ((i 0).val * (i 1).val) := by
  show (after (hostOps0_8 : List (HloOp τ sig (Elt Ideal))) (W8 m ρ c) (Proc.devRef .tc main_v14) : IVec S512x512 32) i = _
  simp only [hostOps0_8, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `f`. -/
theorem f_order (i : S_.Idx) :
    (W9 m ρ c (Proc.devRef .tc main_c_2) : IVec S_ 32) i = BitVec.ofNat 32 512 := by
  show (after (hostOps0_8 : List (HloOp τ sig (Elt Ideal))) (W8 m ρ c) (Proc.devRef .tc main_c_2) : IVec S_ 32) i = _
  simp only [hostOps0_8, TRef.ternary, TRef.unary, TRef.binary, TRef.nullary, TRef.toBuf, TRef.ofBuf, cast_eq]
  after_results_simp
  rfl
set_option maxRecDepth 8192 in
set_option maxHeartbeats 2000000 in
/-- The product reduced modulo the order. -/
theorem f_rem (i : S512x512.Idx) :
    (W10 m ρ c (Proc.devRef .tc main_v15) : IVec S512x512 32) i = BitVec.ofNat 32 (((i 0).val * (i 1).val) % 512) := by
  have h1 := f_prod m ρ c i
  have h2 := f_order m ρ c
  revert h1 h2
  show _ → _ → (after (hostOps0_9 : List (HloOp τ sig (Elt Ideal))) (W9 m ρ c) (Proc.devRef .tc main_v15) : IVec S512x512 32) i = _
  generalize W9 m ρ c = V
  intro h1 h2
  simp only [hostOps0_9, TRef.ternary, TRef.unary, TRef.binary, TRef.nullary, TRef.toBuf, TRef.ofBuf, cast_eq]
  after_results_simp
  pointwise
  simp only [id, h1, h2]
  have b0 : (i 0).val < 512 := (i 0).isLt
  have b1 : (i 1).val < 512 := (i 1).isLt
  exact rem_word _ _ (by nlinarith) (by norm_num) (by norm_num)
set_option maxRecDepth 8192 in
set_option maxHeartbeats 2000000 in
/-- The table's cosine. -/
theorem f_cos (i : S512x512.Idx) :
    (W11 m ρ c (Proc.devRef .tc main_v21) : FVec Ideal S512x512 .f32) i = ((W 512 ((i 0).val * (i 1).val)).re : EReal) := by
  have h1 := f_rem m ρ c i
  revert h1
  show _ → (after (hostOps0_10 : List (HloOp τ sig (Elt Ideal))) (W10 m ρ c) (Proc.devRef .tc main_v21) : FVec Ideal S512x512 .f32) i = _
  generalize W10 m ρ c = V
  intro h1
  simp only [hostOps0_10, TRef.ternary, TRef.unary, TRef.binary, TRef.nullary, TRef.toBuf, TRef.ofBuf, cast_eq]
  after_results_simp
  pointwise
  simp only [h1]
  exact kcos_512 _
set_option maxRecDepth 8192 in
set_option maxHeartbeats 2000000 in
/-- The table's negated sine. -/
theorem f_sin (i : S512x512.Idx) :
    (W11 m ρ c (Proc.devRef .tc main_v23) : FVec Ideal S512x512 .f32) i = ((W 512 ((i 0).val * (i 1).val)).im : EReal) := by
  have h1 := f_rem m ρ c i
  revert h1
  show _ → (after (hostOps0_10 : List (HloOp τ sig (Elt Ideal))) (W10 m ρ c) (Proc.devRef .tc main_v23) : FVec Ideal S512x512 .f32) i = _
  generalize W10 m ρ c = V
  intro h1
  simp only [hostOps0_10, TRef.ternary, TRef.unary, TRef.binary, TRef.nullary, TRef.toBuf, TRef.ofBuf, cast_eq]
  after_results_simp
  pointwise
  simp only [h1]
  exact ksin_512 _

set_option maxRecDepth 8192 in
set_option maxHeartbeats 2000000 in
/-- The product of the two indices of table `e10`. -/
theorem e10_prod (i : S1024x512.Idx) :
    (W11 m ρ c (Proc.devRef .tc main_v58) : IVec S1024x512 32) i = BitVec.ofNat 32 ((i 0).val * (i 1).val) := by
  show (after (hostOps0_10 : List (HloOp τ sig (Elt Ideal))) (W10 m ρ c) (Proc.devRef .tc main_v58) : IVec S1024x512 32) i = _
  simp only [hostOps0_10, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `e10`. -/
theorem e10_order (i : S_.Idx) :
    (W11 m ρ c (Proc.devRef .tc main_c_9) : IVec S_ 32) i = BitVec.ofNat 32 1024 := by
  show (after (hostOps0_10 : List (HloOp τ sig (Elt Ideal))) (W10 m ρ c) (Proc.devRef .tc main_c_9) : IVec S_ 32) i = _
  simp only [hostOps0_10, TRef.ternary, TRef.unary, TRef.binary, TRef.nullary, TRef.toBuf, TRef.ofBuf, cast_eq]
  after_results_simp
  rfl
set_option maxRecDepth 8192 in
set_option maxHeartbeats 2000000 in
/-- The product reduced modulo the order. -/
theorem e10_rem (i : S1024x512.Idx) :
    (W12 m ρ c (Proc.devRef .tc main_v59) : IVec S1024x512 32) i = BitVec.ofNat 32 (((i 0).val * (i 1).val) % 1024) := by
  have h1 := e10_prod m ρ c i
  have h2 := e10_order m ρ c
  revert h1 h2
  show _ → _ → (after (hostOps0_11 : List (HloOp τ sig (Elt Ideal))) (W11 m ρ c) (Proc.devRef .tc main_v59) : IVec S1024x512 32) i = _
  generalize W11 m ρ c = V
  intro h1 h2
  simp only [hostOps0_11, TRef.ternary, TRef.unary, TRef.binary, TRef.nullary, TRef.toBuf, TRef.ofBuf, cast_eq]
  after_results_simp
  pointwise
  simp only [id, h1, h2]
  have b0 : (i 0).val < 1024 := (i 0).isLt
  have b1 : (i 1).val < 512 := (i 1).isLt
  exact rem_word _ _ (by nlinarith) (by norm_num) (by norm_num)
set_option maxRecDepth 8192 in
set_option maxHeartbeats 2000000 in
/-- The table's cosine. -/
theorem e10_cos (i : S1024x512.Idx) :
    (W13 m ρ c (Proc.devRef .tc main_v65) : FVec Ideal S1024x512 .f32) i = ((W 1024 ((i 0).val * (i 1).val)).re : EReal) := by
  have h1 := e10_rem m ρ c i
  revert h1
  show _ → (after (hostOps0_12 : List (HloOp τ sig (Elt Ideal))) (W12 m ρ c) (Proc.devRef .tc main_v65) : FVec Ideal S1024x512 .f32) i = _
  generalize W12 m ρ c = V
  intro h1
  simp only [hostOps0_12, TRef.ternary, TRef.unary, TRef.binary, TRef.nullary, TRef.toBuf, TRef.ofBuf, cast_eq]
  after_results_simp
  pointwise
  simp only [h1]
  exact kcos_1024 _
set_option maxRecDepth 8192 in
set_option maxHeartbeats 2000000 in
/-- The table's negated sine. -/
theorem e10_sin (i : S1024x512.Idx) :
    (W13 m ρ c (Proc.devRef .tc main_v67) : FVec Ideal S1024x512 .f32) i = ((W 1024 ((i 0).val * (i 1).val)).im : EReal) := by
  have h1 := e10_rem m ρ c i
  revert h1
  show _ → (after (hostOps0_12 : List (HloOp τ sig (Elt Ideal))) (W12 m ρ c) (Proc.devRef .tc main_v67) : FVec Ideal S1024x512 .f32) i = _
  generalize W12 m ρ c = V
  intro h1
  simp only [hostOps0_12, TRef.ternary, TRef.unary, TRef.binary, TRef.nullary, TRef.toBuf, TRef.ofBuf, cast_eq]
  after_results_simp
  pointwise
  simp only [h1]
  exact ksin_1024 _

set_option maxRecDepth 8192 in
set_option maxHeartbeats 2000000 in
/-- The product of the two indices of table `c`. -/
theorem c_prod (i : S512x513.Idx) :
    (W15 m ρ c (Proc.devRef .tc main_v77) : IVec S512x513 32) i = BitVec.ofNat 32 ((i 0).val * (i 1).val) := by
  show (after (hostOps1 : List (HloOp τ sig (Elt Ideal))) (W14 m ρ c) (Proc.devRef .tc main_v77) : IVec S512x513 32) i = _
  simp only [hostOps1, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `c`. -/
theorem c_order (i : S_.Idx) :
    (W15 m ρ c (Proc.devRef .tc main_c_12) : IVec S_ 32) i = BitVec.ofNat 32 1024 := by
  show (after (hostOps1 : List (HloOp τ sig (Elt Ideal))) (W14 m ρ c) (Proc.devRef .tc main_c_12) : IVec S_ 32) i = _
  simp only [hostOps1, TRef.ternary, TRef.unary, TRef.binary, TRef.nullary, TRef.toBuf, TRef.ofBuf, cast_eq]
  after_results_simp
  rfl
set_option maxRecDepth 8192 in
set_option maxHeartbeats 2000000 in
/-- The product reduced modulo the order. -/
theorem c_rem (i : S512x513.Idx) :
    (W16 m ρ c (Proc.devRef .tc main_v78) : IVec S512x513 32) i = BitVec.ofNat 32 (((i 0).val * (i 1).val) % 1024) := by
  have h1 := c_prod m ρ c i
  have h2 := c_order m ρ c
  revert h1 h2
  show _ → _ → (after (hostOps1_1 : List (HloOp τ sig (Elt Ideal))) (W15 m ρ c) (Proc.devRef .tc main_v78) : IVec S512x513 32) i = _
  generalize W15 m ρ c = V
  intro h1 h2
  simp only [hostOps1_1, TRef.ternary, TRef.unary, TRef.binary, TRef.nullary, TRef.toBuf, TRef.ofBuf, cast_eq]
  after_results_simp
  pointwise
  simp only [id, h1, h2]
  have b0 : (i 0).val < 512 := (i 0).isLt
  have b1 : (i 1).val < 513 := (i 1).isLt
  exact rem_word _ _ (by nlinarith) (by norm_num) (by norm_num)
set_option maxRecDepth 8192 in
set_option maxHeartbeats 2000000 in
/-- The table's cosine. -/
theorem c_cos (i : S512x513.Idx) :
    (W17 m ρ c (Proc.devRef .tc main_v84) : FVec Ideal S512x513 .f32) i = ((W 1024 ((i 0).val * (i 1).val)).re : EReal) := by
  have h1 := c_rem m ρ c i
  revert h1
  show _ → (after (hostOps1_2 : List (HloOp τ sig (Elt Ideal))) (W16 m ρ c) (Proc.devRef .tc main_v84) : FVec Ideal S512x513 .f32) i = _
  generalize W16 m ρ c = V
  intro h1
  simp only [hostOps1_2, TRef.ternary, TRef.unary, TRef.binary, TRef.nullary, TRef.toBuf, TRef.ofBuf, cast_eq]
  after_results_simp
  pointwise
  simp only [h1]
  exact kcos_1024 _
set_option maxRecDepth 8192 in
set_option maxHeartbeats 2000000 in
/-- The table's negated sine. -/
theorem c_sin (i : S512x513.Idx) :
    (W17 m ρ c (Proc.devRef .tc main_v86) : FVec Ideal S512x513 .f32) i = ((W 1024 ((i 0).val * (i 1).val)).im : EReal) := by
  have h1 := c_rem m ρ c i
  revert h1
  show _ → (after (hostOps1_2 : List (HloOp τ sig (Elt Ideal))) (W16 m ρ c) (Proc.devRef .tc main_v86) : FVec Ideal S512x513 .f32) i = _
  generalize W16 m ρ c = V
  intro h1
  simp only [hostOps1_2, TRef.ternary, TRef.unary, TRef.binary, TRef.nullary, TRef.toBuf, TRef.ofBuf, cast_eq]
  after_results_simp
  pointwise
  simp only [h1]
  exact ksin_1024 _

set_option maxRecDepth 8192 in
set_option maxHeartbeats 2000000 in
/-- The product of the two indices of table `ve`. -/
theorem ve_prod (i : S512x512.Idx) :
    (W19 m ρ c (Proc.devRef .tc main_v94) : IVec S512x512 32) i = BitVec.ofNat 32 ((i 0).val * (i 1).val) := by
  show (after (hostOps2 : List (HloOp τ sig (Elt Ideal))) (W18 m ρ c) (Proc.devRef .tc main_v94) : IVec S512x512 32) i = _
  simp only [hostOps2, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `ve`. -/
theorem ve_order (i : S_.Idx) :
    (W19 m ρ c (Proc.devRef .tc main_c_15) : IVec S_ 32) i = BitVec.ofNat 32 512 := by
  show (after (hostOps2 : List (HloOp τ sig (Elt Ideal))) (W18 m ρ c) (Proc.devRef .tc main_c_15) : IVec S_ 32) i = _
  simp only [hostOps2, TRef.ternary, TRef.unary, TRef.binary, TRef.nullary, TRef.toBuf, TRef.ofBuf, cast_eq]
  after_results_simp
  rfl
set_option maxRecDepth 8192 in
set_option maxHeartbeats 2000000 in
/-- The product reduced modulo the order. -/
theorem ve_rem (i : S512x512.Idx) :
    (W20 m ρ c (Proc.devRef .tc main_v95) : IVec S512x512 32) i = BitVec.ofNat 32 (((i 0).val * (i 1).val) % 512) := by
  have h1 := ve_prod m ρ c i
  have h2 := ve_order m ρ c
  revert h1 h2
  show _ → _ → (after (hostOps2_1 : List (HloOp τ sig (Elt Ideal))) (W19 m ρ c) (Proc.devRef .tc main_v95) : IVec S512x512 32) i = _
  generalize W19 m ρ c = V
  intro h1 h2
  simp only [hostOps2_1, TRef.ternary, TRef.unary, TRef.binary, TRef.nullary, TRef.toBuf, TRef.ofBuf, cast_eq]
  after_results_simp
  pointwise
  simp only [id, h1, h2]
  have b0 : (i 0).val < 512 := (i 0).isLt
  have b1 : (i 1).val < 512 := (i 1).isLt
  exact rem_word _ _ (by nlinarith) (by norm_num) (by norm_num)
set_option maxRecDepth 8192 in
set_option maxHeartbeats 2000000 in
/-- The table's cosine. -/
theorem ve_cos (i : S512x512.Idx) :
    (W21 m ρ c (Proc.devRef .tc main_v101) : FVec Ideal S512x512 .f32) i = ((W 512 ((i 0).val * (i 1).val)).re : EReal) := by
  have h1 := ve_rem m ρ c i
  revert h1
  show _ → (after (hostOps2_2 : List (HloOp τ sig (Elt Ideal))) (W20 m ρ c) (Proc.devRef .tc main_v101) : FVec Ideal S512x512 .f32) i = _
  generalize W20 m ρ c = V
  intro h1
  simp only [hostOps2_2, TRef.ternary, TRef.unary, TRef.binary, TRef.nullary, TRef.toBuf, TRef.ofBuf, cast_eq]
  after_results_simp
  pointwise
  simp only [h1]
  exact kcos_512 _
set_option maxRecDepth 8192 in
set_option maxHeartbeats 2000000 in
/-- The table's negated sine. -/
theorem ve_sin (i : S512x512.Idx) :
    (W21 m ρ c (Proc.devRef .tc main_v103) : FVec Ideal S512x512 .f32) i = ((W 512 ((i 0).val * (i 1).val)).im : EReal) := by
  have h1 := ve_rem m ρ c i
  revert h1
  show _ → (after (hostOps2_2 : List (HloOp τ sig (Elt Ideal))) (W20 m ρ c) (Proc.devRef .tc main_v103) : FVec Ideal S512x512 .f32) i = _
  generalize W20 m ρ c = V
  intro h1
  simp only [hostOps2_2, TRef.ternary, TRef.unary, TRef.binary, TRef.nullary, TRef.toBuf, TRef.ofBuf, cast_eq]
  after_results_simp
  pointwise
  simp only [h1]
  exact ksin_512 _

set_option maxRecDepth 8192 in
set_option maxHeartbeats 2000000 in
/-- The product of the two indices of table `w`. -/
theorem w_prod (i : S513x512.Idx) :
    (W21 m ρ c (Proc.devRef .tc main_v128) : IVec S513x512 32) i = BitVec.ofNat 32 ((i 0).val * (i 1).val) := by
  show (after (hostOps2_2 : List (HloOp τ sig (Elt Ideal))) (W20 m ρ c) (Proc.devRef .tc main_v128) : IVec S513x512 32) i = _
  simp only [hostOps2_2, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `w`. -/
theorem w_order (i : S_.Idx) :
    (W21 m ρ c (Proc.devRef .tc main_c_18) : IVec S_ 32) i = BitVec.ofNat 32 1024 := by
  show (after (hostOps2_2 : List (HloOp τ sig (Elt Ideal))) (W20 m ρ c) (Proc.devRef .tc main_c_18) : IVec S_ 32) i = _
  simp only [hostOps2_2, TRef.ternary, TRef.unary, TRef.binary, TRef.nullary, TRef.toBuf, TRef.ofBuf, cast_eq]
  after_results_simp
  rfl
set_option maxRecDepth 8192 in
set_option maxHeartbeats 2000000 in
/-- The product reduced modulo the order. -/
theorem w_rem (i : S513x512.Idx) :
    (W22 m ρ c (Proc.devRef .tc main_v129) : IVec S513x512 32) i = BitVec.ofNat 32 (((i 0).val * (i 1).val) % 1024) := by
  have h1 := w_prod m ρ c i
  have h2 := w_order m ρ c
  revert h1 h2
  show _ → _ → (after (hostOps2_3 : List (HloOp τ sig (Elt Ideal))) (W21 m ρ c) (Proc.devRef .tc main_v129) : IVec S513x512 32) i = _
  generalize W21 m ρ c = V
  intro h1 h2
  simp only [hostOps2_3, TRef.ternary, TRef.unary, TRef.binary, TRef.nullary, TRef.toBuf, TRef.ofBuf, cast_eq]
  after_results_simp
  pointwise
  simp only [id, h1, h2]
  have b0 : (i 0).val < 513 := (i 0).isLt
  have b1 : (i 1).val < 512 := (i 1).isLt
  exact rem_word _ _ (by nlinarith) (by norm_num) (by norm_num)
set_option maxRecDepth 8192 in
set_option maxHeartbeats 2000000 in
/-- The table's cosine. -/
theorem w_cos (i : S513x512.Idx) :
    (W23 m ρ c (Proc.devRef .tc main_v135) : FVec Ideal S513x512 .f32) i = ((W 1024 ((i 0).val * (i 1).val)).re : EReal) := by
  have h1 := w_rem m ρ c i
  revert h1
  show _ → (after (hostOps2_4 : List (HloOp τ sig (Elt Ideal))) (W22 m ρ c) (Proc.devRef .tc main_v135) : FVec Ideal S513x512 .f32) i = _
  generalize W22 m ρ c = V
  intro h1
  simp only [hostOps2_4, TRef.ternary, TRef.unary, TRef.binary, TRef.nullary, TRef.toBuf, TRef.ofBuf, cast_eq]
  after_results_simp
  pointwise
  simp only [h1]
  exact kcos_1024 _
set_option maxRecDepth 8192 in
set_option maxHeartbeats 2000000 in
/-- The table's negated sine. -/
theorem w_sin (i : S513x512.Idx) :
    (W23 m ρ c (Proc.devRef .tc main_v137) : FVec Ideal S513x512 .f32) i = ((W 1024 ((i 0).val * (i 1).val)).im : EReal) := by
  have h1 := w_rem m ρ c i
  revert h1
  show _ → (after (hostOps2_4 : List (HloOp τ sig (Elt Ideal))) (W22 m ρ c) (Proc.devRef .tc main_v137) : FVec Ideal S513x512 .f32) i = _
  generalize W22 m ρ c = V
  intro h1
  simp only [hostOps2_4, TRef.ternary, TRef.unary, TRef.binary, TRef.nullary, TRef.toBuf, TRef.ofBuf, cast_eq]
  after_results_simp
  pointwise
  simp only [h1]
  exact ksin_1024 _

set_option maxRecDepth 8192 in
set_option maxHeartbeats 2000000 in
/-- The product of the two indices of table `w1`. -/
theorem w1_prod (i : S512x16.Idx) :
    (W23 m ρ c (Proc.devRef .tc main_v160) : IVec S512x16 32) i = BitVec.ofNat 32 ((i 0).val * (i 1).val) := by
  show (after (hostOps2_4 : List (HloOp τ sig (Elt Ideal))) (W22 m ρ c) (Proc.devRef .tc main_v160) : IVec S512x16 32) i = _
  simp only [hostOps2_4, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `w1`. -/
theorem w1_order (i : S_.Idx) :
    (W23 m ρ c (Proc.devRef .tc main_c_29) : IVec S_ 32) i = BitVec.ofNat 32 512 := by
  show (after (hostOps2_4 : List (HloOp τ sig (Elt Ideal))) (W22 m ρ c) (Proc.devRef .tc main_c_29) : IVec S_ 32) i = _
  simp only [hostOps2_4, TRef.ternary, TRef.unary, TRef.binary, TRef.nullary, TRef.toBuf, TRef.ofBuf, cast_eq]
  after_results_simp
  rfl
set_option maxRecDepth 8192 in
set_option maxHeartbeats 2000000 in
/-- The product reduced modulo the order. -/
theorem w1_rem (i : S512x16.Idx) :
    (W24 m ρ c (Proc.devRef .tc main_v161) : IVec S512x16 32) i = BitVec.ofNat 32 (((i 0).val * (i 1).val) % 512) := by
  have h1 := w1_prod m ρ c i
  have h2 := w1_order m ρ c
  revert h1 h2
  show _ → _ → (after (hostOps2_5 : List (HloOp τ sig (Elt Ideal))) (W23 m ρ c) (Proc.devRef .tc main_v161) : IVec S512x16 32) i = _
  generalize W23 m ρ c = V
  intro h1 h2
  simp only [hostOps2_5, TRef.ternary, TRef.unary, TRef.binary, TRef.nullary, TRef.toBuf, TRef.ofBuf, cast_eq]
  after_results_simp
  pointwise
  simp only [id, h1, h2]
  have b0 : (i 0).val < 512 := (i 0).isLt
  have b1 : (i 1).val < 16 := (i 1).isLt
  exact rem_word _ _ (by nlinarith) (by norm_num) (by norm_num)
set_option maxRecDepth 8192 in
set_option maxHeartbeats 2000000 in
/-- The table's cosine. -/
theorem w1_cos (i : S512x16.Idx) :
    (W25 m ρ c (Proc.devRef .tc main_v167) : FVec Ideal S512x16 .f32) i = ((W 512 ((i 0).val * (i 1).val)).re : EReal) := by
  have h1 := w1_rem m ρ c i
  revert h1
  show _ → (after (hostOps2_6 : List (HloOp τ sig (Elt Ideal))) (W24 m ρ c) (Proc.devRef .tc main_v167) : FVec Ideal S512x16 .f32) i = _
  generalize W24 m ρ c = V
  intro h1
  simp only [hostOps2_6, TRef.ternary, TRef.unary, TRef.binary, TRef.nullary, TRef.toBuf, TRef.ofBuf, cast_eq]
  after_results_simp
  pointwise
  simp only [h1]
  exact kcos_512 _
set_option maxRecDepth 8192 in
set_option maxHeartbeats 2000000 in
/-- The table's negated sine. -/
theorem w1_sin (i : S512x16.Idx) :
    (W25 m ρ c (Proc.devRef .tc main_v169) : FVec Ideal S512x16 .f32) i = ((W 512 ((i 0).val * (i 1).val)).im : EReal) := by
  have h1 := w1_rem m ρ c i
  revert h1
  show _ → (after (hostOps2_6 : List (HloOp τ sig (Elt Ideal))) (W24 m ρ c) (Proc.devRef .tc main_v169) : FVec Ideal S512x16 .f32) i = _
  generalize W24 m ρ c = V
  intro h1
  simp only [hostOps2_6, TRef.ternary, TRef.unary, TRef.binary, TRef.nullary, TRef.toBuf, TRef.ofBuf, cast_eq]
  after_results_simp
  pointwise
  simp only [h1]
  exact ksin_512 _

set_option maxRecDepth 8192 in
set_option maxHeartbeats 2000000 in
/-- The product of the two indices of table `w2`. -/
theorem w2_prod (i : S16x257.Idx) :
    (W25 m ρ c (Proc.devRef .tc main_v176) : IVec S16x257 32) i = BitVec.ofNat 32 ((i 0).val * (i 1).val) := by
  show (after (hostOps2_6 : List (HloOp τ sig (Elt Ideal))) (W24 m ρ c) (Proc.devRef .tc main_v176) : IVec S16x257 32) i = _
  simp only [hostOps2_6, TRef.ternary, TRef.unary, TRef.binary, TRef.nullary, TRef.toBuf, TRef.ofBuf, cast_eq]
  after_results_simp
  pointwise
  exact muli_word _ _
set_option maxRecDepth 8192 in
set_option maxHeartbeats 2000000 in
/-- The divisor of table `w2`. -/
theorem w2_order (i : S_.Idx) :
    (W25 m ρ c (Proc.devRef .tc main_c_32) : IVec S_ 32) i = BitVec.ofNat 32 512 := by
  show (after (hostOps2_6 : List (HloOp τ sig (Elt Ideal))) (W24 m ρ c) (Proc.devRef .tc main_c_32) : IVec S_ 32) i = _
  simp only [hostOps2_6, TRef.ternary, TRef.unary, TRef.binary, TRef.nullary, TRef.toBuf, TRef.ofBuf, cast_eq]
  after_results_simp
  rfl
set_option maxRecDepth 8192 in
set_option maxHeartbeats 2000000 in
/-- The product reduced modulo the order. -/
theorem w2_rem (i : S16x257.Idx) :
    (W26 m ρ c (Proc.devRef .tc main_v177) : IVec S16x257 32) i = BitVec.ofNat 32 (((i 0).val * (i 1).val) % 512) := by
  have h1 := w2_prod m ρ c i
  have h2 := w2_order m ρ c
  revert h1 h2
  show _ → _ → (after (hostOps2_7 : List (HloOp τ sig (Elt Ideal))) (W25 m ρ c) (Proc.devRef .tc main_v177) : IVec S16x257 32) i = _
  generalize W25 m ρ c = V
  intro h1 h2
  simp only [hostOps2_7, TRef.ternary, TRef.unary, TRef.binary, TRef.nullary, TRef.toBuf, TRef.ofBuf, cast_eq]
  after_results_simp
  pointwise
  simp only [id, h1, h2]
  have b0 : (i 0).val < 16 := (i 0).isLt
  have b1 : (i 1).val < 257 := (i 1).isLt
  exact rem_word _ _ (by nlinarith) (by norm_num) (by norm_num)
set_option maxRecDepth 8192 in
set_option maxHeartbeats 2000000 in
/-- The table's cosine. -/
theorem w2_cos (i : S16x257.Idx) :
    (W27 m ρ c (Proc.devRef .tc main_v183) : FVec Ideal S16x257 .f32) i = ((W 512 ((i 0).val * (i 1).val)).re : EReal) := by
  have h1 := w2_rem m ρ c i
  revert h1
  show _ → (after (hostOps2_8 : List (HloOp τ sig (Elt Ideal))) (W26 m ρ c) (Proc.devRef .tc main_v183) : FVec Ideal S16x257 .f32) i = _
  generalize W26 m ρ c = V
  intro h1
  simp only [hostOps2_8, TRef.ternary, TRef.unary, TRef.binary, TRef.nullary, TRef.toBuf, TRef.ofBuf, cast_eq]
  after_results_simp
  pointwise
  simp only [h1]
  exact kcos_512 _
set_option maxRecDepth 8192 in
set_option maxHeartbeats 2000000 in
/-- The table's negated sine. -/
theorem w2_sin (i : S16x257.Idx) :
    (W27 m ρ c (Proc.devRef .tc main_v185) : FVec Ideal S16x257 .f32) i = ((W 512 ((i 0).val * (i 1).val)).im : EReal) := by
  have h1 := w2_rem m ρ c i
  revert h1
  show _ → (after (hostOps2_8 : List (HloOp τ sig (Elt Ideal))) (W26 m ρ c) (Proc.devRef .tc main_v185) : FVec Ideal S16x257 .f32) i = _
  generalize W26 m ρ c = V
  intro h1
  simp only [hostOps2_8, TRef.ternary, TRef.unary, TRef.binary, TRef.nullary, TRef.toBuf, TRef.ofBuf, cast_eq]
  after_results_simp
  pointwise
  simp only [h1]
  exact ksin_512 _

end Lti
end
-- ==== Proof.KRows.lean ====
/-
  The kernel's tables made out of the trigonometric ones: the rows of the double length transform with the even
  frequencies first and the odd ones after them, the inverse transform's, and the inverse half transform with the count
  of each frequency.
-/
module

public import proofs.«01_k».proof.Proof.KTables
public import Idealize.ShloMosaic.Lib.Routing.OpsOne

@[expose] public section

noncomputable section

namespace Lti

open Idealize.ShloMosaic Idealize.ShloMosaic.StableHlo Cert.KernelIdeal Cert.KernelIdeal.Gen
open Idealize.ShloMosaic.TcCoe ComplexConjugate

/-- Row `r` of the kernel's spectra holds this frequency: the even ones first, then the odd ones. -/
def perm (r : ℕ) : ℕ := if r < 512 then 2 * r else 2 * (r - 512) + 1

theorem W_even (r n : ℕ) : W 512 (r * n) = W 1024 (2 * r * n) := by
  rw [show (1024 : ℕ) = 2 * 512 from rfl, mul_assoc, W_two]

theorem W_odd (r n : ℕ) : W 1024 ((2 * r + 1) * n) = W 512 (r * n) * W 1024 n := by
  rw [add_mul, one_mul, W_add, W_even]

theorem inv512_re (a b : ℕ) : (inv512 a b).re = (W 512 (a * b)).re * (1 / 512) := by
  simp [inv512, div_eq_mul_inv]
theorem inv512_im (a b : ℕ) : (inv512 a b).im = -(W 512 (a * b)).im * (1 / 512) := by
  simp [inv512, div_eq_mul_inv]
theorem row_re (r n : ℕ) : (W 1024 ((2 * r + 1) * n)).re
    = (W 512 (r * n)).re * (W 1024 n).re - (W 512 (r * n)).im * - -(W 1024 n).im := by
  rw [W_odd, Complex.mul_re]; ring
theorem row_im (r n : ℕ) : (W 1024 ((2 * r + 1) * n)).im
    = (W 512 (r * n)).re * - -(W 1024 n).im + (W 512 (r * n)).im * (W 1024 n).re := by
  rw [W_odd, Complex.mul_im]; ring
theorem row_odd_re (n r : ℕ) : (conj (W 1024 (n * (2 * r + 1)))).re
    = (W 512 (n * r)).re * (W 1024 n).re + (W 512 (n * r)).im * -(W 1024 n).im := by
  rw [mul_comm n, W_odd, mul_comm n, Complex.conj_re, Complex.mul_re]; ring
theorem row_odd_im (n r : ℕ) : (conj (W 1024 (n * (2 * r + 1)))).im
    = -(W 512 (n * r)).im * (W 1024 n).re + (W 512 (n * r)).re * -(W 1024 n).im := by
  rw [mul_comm n, W_odd, mul_comm n, Complex.conj_im, Complex.mul_im]; ring
theorem row_even_re (n r : ℕ) : (conj (W 1024 (n * (2 * r)))).re = (W 512 (n * r)).re := by
  rw [mul_comm n, ← W_even, mul_comm n, Complex.conj_re]
theorem row_even_im (n r : ℕ) : (conj (W 1024 (n * (2 * r)))).im = -(W 512 (n * r)).im := by
  rw [mul_comm n, ← W_even, mul_comm n, Complex.conj_im]
theorem sin_angle_pos (M t : ℕ) : Ideal.sin ((2 * Real.pi * t / M : ℝ) : EReal) = ((-(W M t).im : ℝ) : EReal) := by
  rw [EReal.coe_neg, ← sin_angle, neg_neg]

variable (m : (ℓ : Loc nD τ sig) → Buf (Elt Ideal) ℓ) (ρ : Dev nD → PrngReg) (c : Dev nD)

/-- The half step angle's cosine and sine. -/
theorem half_cos (t : ℕ) (ht : t < 512) :
    Ideal.cos ((FloatOps.sitofp FTy.f32 (BitVec.ofNat 32 t) : Ideal .f32)
      * (Ideal.ofBits FTy.f32 989855744#32 * Ideal.acos (Ideal.ofBits FTy.f32 3212836864#32) : EReal))
      = ((W 1024 t).re : EReal) := by
  rw [angle_1024 _ (by omega), cos_angle]
theorem half_sin (t : ℕ) (ht : t < 512) :
    Ideal.sin ((FloatOps.sitofp FTy.f32 (BitVec.ofNat 32 t) : Ideal .f32)
      * (Ideal.ofBits FTy.f32 989855744#32 * Ideal.acos (Ideal.ofBits FTy.f32 3212836864#32) : EReal))
      = ((-(W 1024 t).im : ℝ) : EReal) := by
  rw [EReal.coe_neg, ← sin_angle, neg_neg, angle_1024 _ (by omega)]

set_option maxRecDepth 8192 in
set_option maxHeartbeats 2000000 in
/-- The forward rows: the real part. -/
theorem e_re (i : S1024x512.Idx) :
    (W11 m ρ c (Proc.devRef .tc main_v40) : FVec Ideal S1024x512 .f32) i = ((W 1024 (perm (i 0).val * (i 1).val)).re : EReal) := by
  have h1 := f_rem m ρ c
  revert h1
  show _ → (after (hostOps0_10 : List (HloOp τ sig (Elt Ideal))) (W10 m ρ c) (Proc.devRef .tc main_v40) : FVec Ideal S1024x512 .f32) i = _
  generalize W10 m ρ c = V
  intro h1
  simp only [hostOps0_10, TRef.ternary, TRef.unary, TRef.binary, TRef.nullary, TRef.toBuf, TRef.ofBuf, cast_eq]
  after_results_simp
  pointwise
  have b1 : (i 1).val < 512 := (i 1).isLt
  simp only [h1, kcos_512, ksin_512, half_cos _ b1, half_sin _ b1, perm]
  split
  · rw [← W_even]; rfl
  · rw [row_re, EReal.coe_sub, EReal.coe_mul, EReal.coe_mul, EReal.coe_neg]; rfl
set_option maxRecDepth 8192 in
set_option maxHeartbeats 2000000 in
/-- The forward rows: the imaginary part. -/
theorem e_im (i : S1024x512.Idx) :
    (W11 m ρ c (Proc.devRef .tc main_v46) : FVec Ideal S1024x512 .f32) i = ((W 1024 (perm (i 0).val * (i 1).val)).im : EReal) := by
  have h1 := f_rem m ρ c
  revert h1
  show _ → (after (hostOps0_10 : List (HloOp τ sig (Elt Ideal))) (W10 m ρ c) (Proc.devRef .tc main_v46) : FVec Ideal S1024x512 .f32) i = _
  generalize W10 m ρ c = V
  intro h1
  simp only [hostOps0_10, TRef.ternary, TRef.unary, TRef.binary, TRef.nullary, TRef.toBuf, TRef.ofBuf, cast_eq]
  after_results_simp
  pointwise
  have b1 : (i 1).val < 512 := (i 1).isLt
  simp only [h1, kcos_512, ksin_512, half_cos _ b1, half_sin _ b1, perm]
  split
  · rw [← W_even]; rfl
  · rw [row_im, EReal.coe_add, EReal.coe_mul, EReal.coe_mul, EReal.coe_neg]; rfl
set_option maxRecDepth 8192 in
set_option maxHeartbeats 2000000 in
/-- The inverse transform of length 512: the real part. -/
theorem inv_re (i : S512x512.Idx) :
    (W11 m ρ c (Proc.devRef .tc main_v48) : FVec Ideal S512x512 .f32) i = ((inv512 (i 0).val (i 1).val).re : EReal) := by
  have h1 := f_rem m ρ c
  revert h1
  show _ → (after (hostOps0_10 : List (HloOp τ sig (Elt Ideal))) (W10 m ρ c) (Proc.devRef .tc main_v48) : FVec Ideal S512x512 .f32) i = _
  generalize W10 m ρ c = V
  intro h1
  simp only [hostOps0_10, TRef.ternary, TRef.unary, TRef.binary, TRef.nullary, TRef.toBuf, TRef.ofBuf, cast_eq]
  after_results_simp
  pointwise
  simp only [h1, kcos_512, w_c512]
  rw [inv512_re, EReal.coe_mul, Ideal.div_coe (by norm_num)]
set_option maxRecDepth 8192 in
set_option maxHeartbeats 2000000 in
/-- The inverse transform of length 512: the imaginary part. -/
theorem inv_im (i : S512x512.Idx) :
    (W11 m ρ c (Proc.devRef .tc main_v51) : FVec Ideal S512x512 .f32) i = ((inv512 (i 0).val (i 1).val).im : EReal) := by
  have h1 := f_rem m ρ c
  revert h1
  show _ → (after (hostOps0_10 : List (HloOp τ sig (Elt Ideal))) (W10 m ρ c) (Proc.devRef .tc main_v51) : FVec Ideal S512x512 .f32) i = _
  generalize W10 m ρ c = V
  intro h1
  simp only [hostOps0_10, TRef.ternary, TRef.unary, TRef.binary, TRef.nullary, TRef.toBuf, TRef.ofBuf, cast_eq]
  after_results_simp
  pointwise
  simp only [h1, ksin_512, w_c512]
  rw [inv512_im, EReal.coe_mul, EReal.coe_neg, Ideal.div_coe (by norm_num)]
set_option maxRecDepth 8192 in
set_option maxHeartbeats 2000000 in
/-- The half step angle. -/
theorem half_angle (i : S512.Idx) :
    (W20 m ρ c (Proc.devRef .tc main_v29) : FVec Ideal S512 .f32) i = ((2 * Real.pi * (i 0).val / (1024 : ℕ) : ℝ) : EReal) := by
  have e : W20 m ρ c (Proc.devRef .tc main_v29) = W11 m ρ c (Proc.devRef .tc main_v29) := by
    rw [W20_of m ρ c main_v29 (by decide), W19_of m ρ c main_v29 (by decide), W18_of m ρ c main_v29 (by decide), W17_of m ρ c main_v29 (by decide),
      W16_of m ρ c main_v29 (by decide), W15_of m ρ c main_v29 (by decide), W14_of m ρ c main_v29 (by decide), W13_of m ρ c main_v29 (by decide),
      W12_of m ρ c main_v29 (by decide)]
  rw [e]
  show (after (hostOps0_10 : List (HloOp τ sig (Elt Ideal))) (W10 m ρ c) (Proc.devRef .tc main_v29) : FVec Ideal S512 .f32) i = _
  generalize W10 m ρ c = V
  simp only [hostOps0_10, TRef.ternary, TRef.unary, TRef.binary, TRef.nullary, TRef.toBuf, TRef.ofBuf, cast_eq]
  after_results_simp
  pointwise
  have b0 : (i 0).val < 512 := (i 0).isLt
  exact angle_1024 _ (by omega)
set_option maxRecDepth 8192 in
set_option maxHeartbeats 2000000 in
/-- The inverse rows: the real part. -/
theorem v_re (i : S512x1024.Idx) :
    (W21 m ρ c (Proc.devRef .tc main_v119) : FVec Ideal S512x1024 .f32) i = ((conj (W 1024 ((i 0).val * perm (i 1).val))).re : EReal) := by
  have h1 := ve_rem m ρ c
  have h2 := half_angle m ρ c
  revert h1 h2
  show _ → _ → (after (hostOps2_2 : List (HloOp τ sig (Elt Ideal))) (W20 m ρ c) (Proc.devRef .tc main_v119) : FVec Ideal S512x1024 .f32) i = _
  generalize W20 m ρ c = V
  intro h1 h2
  simp only [hostOps2_2, TRef.ternary, TRef.unary, TRef.binary, TRef.nullary, TRef.toBuf, TRef.ofBuf, cast_eq]
  after_results_simp
  pointwise
  simp only [h1, h2, kcos_512, ksin_512, perm, cos_angle, sin_angle_pos]
  split
  · rename_i h
    rw [row_even_re]; rfl
  · rename_i h
    rw [row_odd_re, EReal.coe_add, EReal.coe_mul, EReal.coe_mul]
    rfl
set_option maxRecDepth 8192 in
set_option maxHeartbeats 2000000 in
/-- The inverse rows: the imaginary part. -/
theorem v_im (i : S512x1024.Idx) :
    (W21 m ρ c (Proc.devRef .tc main_v121) : FVec Ideal S512x1024 .f32) i = ((conj (W 1024 ((i 0).val * perm (i 1).val))).im : EReal) := by
  have h1 := ve_rem m ρ c
  have h2 := half_angle m ρ c
  revert h1 h2
  show _ → _ → (after (hostOps2_2 : List (HloOp τ sig (Elt Ideal))) (W20 m ρ c) (Proc.devRef .tc main_v121) : FVec Ideal S512x1024 .f32) i = _
  generalize W20 m ρ c = V
  intro h1 h2
  simp only [hostOps2_2, TRef.ternary, TRef.unary, TRef.binary, TRef.nullary, TRef.toBuf, TRef.ofBuf, cast_eq]
  after_results_simp
  pointwise
  simp only [h1, h2, kcos_512, ksin_512, perm, cos_angle, sin_angle_pos]
  split
  · rename_i h
    rw [row_even_im, EReal.coe_neg]; rfl
  · rename_i h
    rw [row_odd_im, EReal.coe_add, EReal.coe_mul, EReal.coe_mul, EReal.coe_neg (W _ (_ * _)).im]
    rfl
set_option maxRecDepth 8192 in
set_option maxHeartbeats 2000000 in
/-- The count of each frequency over the size of the transform. -/
theorem w_count (i : S513x1.Idx) :
    (W23 m ρ c (Proc.devRef .tc main_v149) : FVec Ideal S513x1 .f32) i = ((cnt 512 (i 0).val / 1048576 : ℝ) : EReal) := by
  show (after (hostOps2_4 : List (HloOp τ sig (Elt Ideal))) (W22 m ρ c) (Proc.devRef .tc main_v149) : FVec Ideal S513x1 .f32) i = _
  generalize W22 m ρ c = V
  simp only [hostOps2_4, TRef.ternary, TRef.unary, TRef.binary, TRef.nullary, TRef.toBuf, TRef.ofBuf, cast_eq]
  after_results_simp
  obtain ⟨r, q, rfl⟩ : ∃ (r : Fin 513) (q : Fin 1), i = ValueIdx.ix2 r q := ⟨i 0, i 1, ValueIdx.eq_ix2 i⟩
  rw [ValueIdx.hostDivf_apply, Routing.scatter_cell_signed _ rfl rfl rfl, Routing.scatter_cell_signed _ rfl rfl rfl]
  pointwise
  after_results_simp
  pointwise
  simp only [w_c20, w_2, ← EReal.coe_one]
  rw [Ideal.div_coe (by norm_num)]
  have e1 : (512#32).toInt = 512 := rfl
  have e0 : (0#32).toInt = 0 := rfl
  simp only [e1, e0, cnt]
  have g0 : ((ValueIdx.ix2 r q : S513x1.Idx) 0).val = r.val := rfl
  have g1 : (0 : ℤ) = ((((ValueIdx.ix2 r q : S513x1.Idx) 1).val : ℕ) : ℤ) := by
    have : q.val = 0 := by have := q.isLt; omega
    show (0 : ℤ) = ((q.val : ℕ) : ℤ)
    rw [this]; rfl
  rw [g0]
  by_cases a : r.val = 512
  · have a1 : (512 : ℤ) = ((r.val : ℕ) : ℤ) := by omega
    rw [if_pos ⟨a1, rfl⟩, if_pos (Or.inr a), ← EReal.coe_mul]; norm_num
  · have a1 : ¬ (512 : ℤ) = ((r.val : ℕ) : ℤ) := by omega
    rw [if_neg (fun h => a1 h.1)]
    by_cases b : r.val = 0
    · have b1 : (0 : ℤ) = ((r.val : ℕ) : ℤ) := by omega
      rw [if_pos ⟨b1, rfl⟩, if_pos (Or.inl b), ← EReal.coe_mul]; norm_num
    · have b1 : ¬ (0 : ℤ) = ((r.val : ℕ) : ℤ) := by omega
      rw [if_neg (fun h => b1 h.1), if_neg (by tauto), ← EReal.coe_mul]; norm_num
set_option maxRecDepth 8192 in
set_option maxHeartbeats 2000000 in
/-- The real part is scaled by the count. -/
theorem w_re_split (i : S513x512.Idx) :
    (W23 m ρ c (Proc.devRef .tc main_v151) : FVec Ideal S513x512 .f32) i
      = @HMul.hMul EReal EReal EReal _ ((W23 m ρ c (Proc.devRef .tc main_v135) : FVec Ideal S513x512 .f32) i)
        ((W23 m ρ c (Proc.devRef .tc main_v149) : FVec Ideal S513x1 .f32) (ValueIdx.ix2 (i 0) 0)) := by
  show (after (hostOps2_4 : List (HloOp τ sig (Elt Ideal))) (W22 m ρ c) (Proc.devRef .tc main_v151) : FVec Ideal S513x512 .f32) i
    = @HMul.hMul EReal EReal EReal _ ((after (hostOps2_4 : List (HloOp τ sig (Elt Ideal))) (W22 m ρ c) (Proc.devRef .tc main_v135) : FVec Ideal S513x512 .f32) i)
      ((after (hostOps2_4 : List (HloOp τ sig (Elt Ideal))) (W22 m ρ c) (Proc.devRef .tc main_v149) : FVec Ideal S513x1 .f32) (ValueIdx.ix2 (i 0) 0))
  generalize W22 m ρ c = V
  simp only [hostOps2_4, TRef.ternary, TRef.unary, TRef.binary, TRef.nullary, TRef.toBuf, TRef.ofBuf, cast_eq]
  after_results_simp
  pointwise
  rfl
/-- The inverse half transform: the real part. -/
theorem w_re (i : S513x512.Idx) :
    (W23 m ρ c (Proc.devRef .tc main_v151) : FVec Ideal S513x512 .f32) i
      = (((W 1024 ((i 0).val * (i 1).val)).re * (cnt 512 (i 0).val / 1048576) : ℝ) : EReal) := by
  rw [w_re_split, w_count, EReal.coe_mul]
  congr 1
  exact w_cos m ρ c i
set_option maxRecDepth 8192 in
set_option maxHeartbeats 2000000 in
/-- The conjugate's imaginary part. -/
theorem w_neg (i : S513x512.Idx) :
    (W23 m ρ c (Proc.devRef .tc main_v138) : FVec Ideal S513x512 .f32) i
      = @Neg.neg EReal _ ((W23 m ρ c (Proc.devRef .tc main_v137) : FVec Ideal S513x512 .f32) i) := by
  show (after (hostOps2_4 : List (HloOp τ sig (Elt Ideal))) (W22 m ρ c) (Proc.devRef .tc main_v138) : FVec Ideal S513x512 .f32) i = @Neg.neg EReal _ ((after (hostOps2_4 : List (HloOp τ sig (Elt Ideal))) (W22 m ρ c) (Proc.devRef .tc main_v137) : FVec Ideal S513x512 .f32) i)
  generalize W22 m ρ c = V
  simp only [hostOps2_4, TRef.ternary, TRef.unary, TRef.binary, TRef.nullary, TRef.toBuf, TRef.ofBuf, cast_eq]
  after_results_simp
  pointwise
set_option maxRecDepth 8192 in
set_option maxHeartbeats 2000000 in
/-- The imaginary part is scaled by the count. -/
theorem w_im_split (i : S513x512.Idx) :
    (W23 m ρ c (Proc.devRef .tc main_v153) : FVec Ideal S513x512 .f32) i
      = @HMul.hMul EReal EReal EReal _ ((W23 m ρ c (Proc.devRef .tc main_v138) : FVec Ideal S513x512 .f32) i)
        ((W23 m ρ c (Proc.devRef .tc main_v149) : FVec Ideal S513x1 .f32) (ValueIdx.ix2 (i 0) 0)) := by
  show (after (hostOps2_4 : List (HloOp τ sig (Elt Ideal))) (W22 m ρ c) (Proc.devRef .tc main_v153) : FVec Ideal S513x512 .f32) i
    = @HMul.hMul EReal EReal EReal _ ((after (hostOps2_4 : List (HloOp τ sig (Elt Ideal))) (W22 m ρ c) (Proc.devRef .tc main_v138) : FVec Ideal S513x512 .f32) i)
      ((after (hostOps2_4 : List (HloOp τ sig (Elt Ideal))) (W22 m ρ c) (Proc.devRef .tc main_v149) : FVec Ideal S513x1 .f32) (ValueIdx.ix2 (i 0) 0))
  generalize W22 m ρ c = V
  simp only [hostOps2_4, TRef.ternary, TRef.unary, TRef.binary, TRef.nullary, TRef.toBuf, TRef.ofBuf, cast_eq]
  after_results_simp
  pointwise
  rfl
/-- The inverse half transform: the imaginary part. -/
theorem w_im (i : S513x512.Idx) :
    (W23 m ρ c (Proc.devRef .tc main_v153) : FVec Ideal S513x512 .f32) i
      = ((-(W 1024 ((i 0).val * (i 1).val)).im * (cnt 512 (i 0).val / 1048576) : ℝ) : EReal) := by
  rw [w_im_split, w_count, EReal.coe_mul]
  congr 1
  rw [w_neg, w_sin, EReal.coe_neg]
end Lti
end
-- ==== Proof.Keep.lean ====
/-
  Buffers that stay as they are between the place where they are written and the place where they are read.
-/
module

public import proofs.«01_k».proof.Proof.KRows

@[expose] public section

noncomputable section

namespace Lti

open Idealize.ShloMosaic Idealize.ShloMosaic.StableHlo Idealize.ShloMosaic.TcCoe Cert.KernelIdeal Cert.KernelIdeal.Gen

variable (m : (ℓ : Loc nD τ sig) → Buf (Elt Ideal) ℓ) (ρ : Dev nD → PrngReg) (c : Dev nD)

theorem keep_v5_27 : W27 m ρ c (Proc.devRef .tc main_v5) = W6 m ρ c (Proc.devRef .tc main_v5) := by
  rw [W27_of m ρ c main_v5 (by decide), W26_of m ρ c main_v5 (by decide), W25_of m ρ c main_v5 (by decide), W24_of m ρ c main_v5 (by decide), W23_of m ρ c main_v5 (by decide), W22_of m ρ c main_v5 (by decide), W21_of m ρ c main_v5 (by decide), W20_of m ρ c main_v5 (by decide), W19_of m ρ c main_v5 (by decide), W18_of m ρ c main_v5 (by decide), W17_of m ρ c main_v5 (by decide), W16_of m ρ c main_v5 (by decide), W15_of m ρ c main_v5 (by decide), W14_of m ρ c main_v5 (by decide), W13_of m ρ c main_v5 (by decide), W12_of m ρ c main_v5 (by decide), W11_of m ρ c main_v5 (by decide), W10_of m ρ c main_v5 (by decide), W9_of m ρ c main_v5 (by decide), W8_of m ρ c main_v5 (by decide), W7_of m ρ c main_v5 (by decide)]

theorem keep_v7_27 : W27 m ρ c (Proc.devRef .tc main_v7) = W8 m ρ c (Proc.devRef .tc main_v7) := by
  rw [W27_of m ρ c main_v7 (by decide), W26_of m ρ c main_v7 (by decide), W25_of m ρ c main_v7 (by decide), W24_of m ρ c main_v7 (by decide), W23_of m ρ c main_v7 (by decide), W22_of m ρ c main_v7 (by decide), W21_of m ρ c main_v7 (by decide), W20_of m ρ c main_v7 (by decide), W19_of m ρ c main_v7 (by decide), W18_of m ρ c main_v7 (by decide), W17_of m ρ c main_v7 (by decide), W16_of m ρ c main_v7 (by decide), W15_of m ρ c main_v7 (by decide), W14_of m ρ c main_v7 (by decide), W13_of m ρ c main_v7 (by decide), W12_of m ρ c main_v7 (by decide), W11_of m ρ c main_v7 (by decide), W10_of m ρ c main_v7 (by decide), W9_of m ρ c main_v7 (by decide)]

theorem keep_v48_13 : W13 m ρ c (Proc.devRef .tc main_v48) = W11 m ρ c (Proc.devRef .tc main_v48) := by
  rw [W13_of m ρ c main_v48 (by decide), W12_of m ρ c main_v48 (by decide)]

theorem keep_v51_13 : W13 m ρ c (Proc.devRef .tc main_v51) = W11 m ρ c (Proc.devRef .tc main_v51) := by
  rw [W13_of m ρ c main_v51 (by decide), W12_of m ρ c main_v51 (by decide)]

theorem keep_v48_17 : W17 m ρ c (Proc.devRef .tc main_v48) = W11 m ρ c (Proc.devRef .tc main_v48) := by
  rw [W17_of m ρ c main_v48 (by decide), W16_of m ρ c main_v48 (by decide), W15_of m ρ c main_v48 (by decide), W14_of m ρ c main_v48 (by decide), W13_of m ρ c main_v48 (by decide), W12_of m ρ c main_v48 (by decide)]

theorem keep_v51_17 : W17 m ρ c (Proc.devRef .tc main_v51) = W11 m ρ c (Proc.devRef .tc main_v51) := by
  rw [W17_of m ρ c main_v51 (by decide), W16_of m ρ c main_v51 (by decide), W15_of m ρ c main_v51 (by decide), W14_of m ρ c main_v51 (by decide), W13_of m ρ c main_v51 (by decide), W12_of m ρ c main_v51 (by decide)]

theorem keep_v167_27 : W27 m ρ c (Proc.devRef .tc main_v167) = W25 m ρ c (Proc.devRef .tc main_v167) := by
  rw [W27_of m ρ c main_v167 (by decide), W26_of m ρ c main_v167 (by decide)]

theorem keep_v169_27 : W27 m ρ c (Proc.devRef .tc main_v169) = W25 m ρ c (Proc.devRef .tc main_v169) := by
  rw [W27_of m ρ c main_v169 (by decide), W26_of m ρ c main_v169 (by decide)]

theorem keep_v69_38 : W38 m ρ c (Proc.devRef .tc main_v69) = W15 m ρ c (Proc.devRef .tc main_v69) := by
  rw [W38_of m ρ c main_v69 (by decide), W37_of m ρ c main_v69 (by decide), W36_of m ρ c main_v69 (by decide), W35_of m ρ c main_v69 (by decide), W34_of m ρ c main_v69 (by decide), W33_of m ρ c main_v69 (by decide), W32_of m ρ c main_v69 (by decide), W31_of m ρ c main_v69 (by decide), W30_of m ρ c main_v69 (by decide), W29_of m ρ c main_v69 (by decide), W28_of m ρ c main_v69 (by decide), W27_of m ρ c main_v69 (by decide), W26_of m ρ c main_v69 (by decide), W25_of m ρ c main_v69 (by decide), W24_of m ρ c main_v69 (by decide), W23_of m ρ c main_v69 (by decide), W22_of m ρ c main_v69 (by decide), W21_of m ρ c main_v69 (by decide), W20_of m ρ c main_v69 (by decide), W19_of m ρ c main_v69 (by decide), W18_of m ρ c main_v69 (by decide), W17_of m ρ c main_v69 (by decide), W16_of m ρ c main_v69 (by decide)]

theorem keep_v70_38 : W38 m ρ c (Proc.devRef .tc main_v70) = W15 m ρ c (Proc.devRef .tc main_v70) := by
  rw [W38_of m ρ c main_v70 (by decide), W37_of m ρ c main_v70 (by decide), W36_of m ρ c main_v70 (by decide), W35_of m ρ c main_v70 (by decide), W34_of m ρ c main_v70 (by decide), W33_of m ρ c main_v70 (by decide), W32_of m ρ c main_v70 (by decide), W31_of m ρ c main_v70 (by decide), W30_of m ρ c main_v70 (by decide), W29_of m ρ c main_v70 (by decide), W28_of m ρ c main_v70 (by decide), W27_of m ρ c main_v70 (by decide), W26_of m ρ c main_v70 (by decide), W25_of m ρ c main_v70 (by decide), W24_of m ρ c main_v70 (by decide), W23_of m ρ c main_v70 (by decide), W22_of m ρ c main_v70 (by decide), W21_of m ρ c main_v70 (by decide), W20_of m ρ c main_v70 (by decide), W19_of m ρ c main_v70 (by decide), W18_of m ρ c main_v70 (by decide), W17_of m ρ c main_v70 (by decide), W16_of m ρ c main_v70 (by decide)]

theorem keep_v87_0_38 : W38 m ρ c (Proc.devRef .tc main_v87_0) = W18 m ρ c (Proc.devRef .tc main_v87_0) := by
  rw [W38_of m ρ c main_v87_0 (by decide), W37_of m ρ c main_v87_0 (by decide), W36_of m ρ c main_v87_0 (by decide), W35_of m ρ c main_v87_0 (by decide), W34_of m ρ c main_v87_0 (by decide), W33_of m ρ c main_v87_0 (by decide), W32_of m ρ c main_v87_0 (by decide), W31_of m ρ c main_v87_0 (by decide), W30_of m ρ c main_v87_0 (by decide), W29_of m ρ c main_v87_0 (by decide), W28_of m ρ c main_v87_0 (by decide), W27_of m ρ c main_v87_0 (by decide), W26_of m ρ c main_v87_0 (by decide), W25_of m ρ c main_v87_0 (by decide), W24_of m ρ c main_v87_0 (by decide), W23_of m ρ c main_v87_0 (by decide), W22_of m ρ c main_v87_0 (by decide), W21_of m ρ c main_v87_0 (by decide), W20_of m ρ c main_v87_0 (by decide), W19_of m ρ c main_v87_0 (by decide)]

theorem keep_v87_1_38 : W38 m ρ c (Proc.devRef .tc main_v87_1) = W18 m ρ c (Proc.devRef .tc main_v87_1) := by
  rw [W38_of m ρ c main_v87_1 (by decide), W37_of m ρ c main_v87_1 (by decide), W36_of m ρ c main_v87_1 (by decide), W35_of m ρ c main_v87_1 (by decide), W34_of m ρ c main_v87_1 (by decide), W33_of m ρ c main_v87_1 (by decide), W32_of m ρ c main_v87_1 (by decide), W31_of m ρ c main_v87_1 (by decide), W30_of m ρ c main_v87_1 (by decide), W29_of m ρ c main_v87_1 (by decide), W28_of m ρ c main_v87_1 (by decide), W27_of m ρ c main_v87_1 (by decide), W26_of m ρ c main_v87_1 (by decide), W25_of m ρ c main_v87_1 (by decide), W24_of m ρ c main_v87_1 (by decide), W23_of m ρ c main_v87_1 (by decide), W22_of m ρ c main_v87_1 (by decide), W21_of m ρ c main_v87_1 (by decide), W20_of m ρ c main_v87_1 (by decide), W19_of m ρ c main_v87_1 (by decide)]

theorem keep_v40_40 : W40 m ρ c (Proc.devRef .tc main_v40) = W11 m ρ c (Proc.devRef .tc main_v40) := by
  rw [W40_of m ρ c main_v40 (by decide), W39_of m ρ c main_v40 (by decide), W38_of m ρ c main_v40 (by decide), W37_of m ρ c main_v40 (by decide), W36_of m ρ c main_v40 (by decide), W35_of m ρ c main_v40 (by decide), W34_of m ρ c main_v40 (by decide), W33_of m ρ c main_v40 (by decide), W32_of m ρ c main_v40 (by decide), W31_of m ρ c main_v40 (by decide), W30_of m ρ c main_v40 (by decide), W29_of m ρ c main_v40 (by decide), W28_of m ρ c main_v40 (by decide), W27_of m ρ c main_v40 (by decide), W26_of m ρ c main_v40 (by decide), W25_of m ρ c main_v40 (by decide), W24_of m ρ c main_v40 (by decide), W23_of m ρ c main_v40 (by decide), W22_of m ρ c main_v40 (by decide), W21_of m ρ c main_v40 (by decide), W20_of m ρ c main_v40 (by decide), W19_of m ρ c main_v40 (by decide), W18_of m ρ c main_v40 (by decide), W17_of m ρ c main_v40 (by decide), W16_of m ρ c main_v40 (by decide), W15_of m ρ c main_v40 (by decide), W14_of m ρ c main_v40 (by decide), W13_of m ρ c main_v40 (by decide), W12_of m ρ c main_v40 (by decide)]

theorem keep_v46_40 : W40 m ρ c (Proc.devRef .tc main_v46) = W11 m ρ c (Proc.devRef .tc main_v46) := by
  rw [W40_of m ρ c main_v46 (by decide), W39_of m ρ c main_v46 (by decide), W38_of m ρ c main_v46 (by decide), W37_of m ρ c main_v46 (by decide), W36_of m ρ c main_v46 (by decide), W35_of m ρ c main_v46 (by decide), W34_of m ρ c main_v46 (by decide), W33_of m ρ c main_v46 (by decide), W32_of m ρ c main_v46 (by decide), W31_of m ρ c main_v46 (by decide), W30_of m ρ c main_v46 (by decide), W29_of m ρ c main_v46 (by decide), W28_of m ρ c main_v46 (by decide), W27_of m ρ c main_v46 (by decide), W26_of m ρ c main_v46 (by decide), W25_of m ρ c main_v46 (by decide), W24_of m ρ c main_v46 (by decide), W23_of m ρ c main_v46 (by decide), W22_of m ρ c main_v46 (by decide), W21_of m ρ c main_v46 (by decide), W20_of m ρ c main_v46 (by decide), W19_of m ρ c main_v46 (by decide), W18_of m ρ c main_v46 (by decide), W17_of m ρ c main_v46 (by decide), W16_of m ρ c main_v46 (by decide), W15_of m ρ c main_v46 (by decide), W14_of m ρ c main_v46 (by decide), W13_of m ρ c main_v46 (by decide), W12_of m ρ c main_v46 (by decide)]

theorem keep_v84_40 : W40 m ρ c (Proc.devRef .tc main_v84) = W17 m ρ c (Proc.devRef .tc main_v84) := by
  rw [W40_of m ρ c main_v84 (by decide), W39_of m ρ c main_v84 (by decide), W38_of m ρ c main_v84 (by decide), W37_of m ρ c main_v84 (by decide), W36_of m ρ c main_v84 (by decide), W35_of m ρ c main_v84 (by decide), W34_of m ρ c main_v84 (by decide), W33_of m ρ c main_v84 (by decide), W32_of m ρ c main_v84 (by decide), W31_of m ρ c main_v84 (by decide), W30_of m ρ c main_v84 (by decide), W29_of m ρ c main_v84 (by decide), W28_of m ρ c main_v84 (by decide), W27_of m ρ c main_v84 (by decide), W26_of m ρ c main_v84 (by decide), W25_of m ρ c main_v84 (by decide), W24_of m ρ c main_v84 (by decide), W23_of m ρ c main_v84 (by decide), W22_of m ρ c main_v84 (by decide), W21_of m ρ c main_v84 (by decide), W20_of m ρ c main_v84 (by decide), W19_of m ρ c main_v84 (by decide), W18_of m ρ c main_v84 (by decide)]

theorem keep_v86_40 : W40 m ρ c (Proc.devRef .tc main_v86) = W17 m ρ c (Proc.devRef .tc main_v86) := by
  rw [W40_of m ρ c main_v86 (by decide), W39_of m ρ c main_v86 (by decide), W38_of m ρ c main_v86 (by decide), W37_of m ρ c main_v86 (by decide), W36_of m ρ c main_v86 (by decide), W35_of m ρ c main_v86 (by decide), W34_of m ρ c main_v86 (by decide), W33_of m ρ c main_v86 (by decide), W32_of m ρ c main_v86 (by decide), W31_of m ρ c main_v86 (by decide), W30_of m ρ c main_v86 (by decide), W29_of m ρ c main_v86 (by decide), W28_of m ρ c main_v86 (by decide), W27_of m ρ c main_v86 (by decide), W26_of m ρ c main_v86 (by decide), W25_of m ρ c main_v86 (by decide), W24_of m ρ c main_v86 (by decide), W23_of m ρ c main_v86 (by decide), W22_of m ρ c main_v86 (by decide), W21_of m ρ c main_v86 (by decide), W20_of m ρ c main_v86 (by decide), W19_of m ρ c main_v86 (by decide), W18_of m ρ c main_v86 (by decide)]

theorem keep_v119_44 : W44 m ρ c (Proc.devRef .tc main_v119) = W21 m ρ c (Proc.devRef .tc main_v119) := by
  rw [W44_of m ρ c main_v119 (by decide), W43_of m ρ c main_v119 (by decide), W42_of m ρ c main_v119 (by decide), W41_of m ρ c main_v119 (by decide), W40_of m ρ c main_v119 (by decide), W39_of m ρ c main_v119 (by decide), W38_of m ρ c main_v119 (by decide), W37_of m ρ c main_v119 (by decide), W36_of m ρ c main_v119 (by decide), W35_of m ρ c main_v119 (by decide), W34_of m ρ c main_v119 (by decide), W33_of m ρ c main_v119 (by decide), W32_of m ρ c main_v119 (by decide), W31_of m ρ c main_v119 (by decide), W30_of m ρ c main_v119 (by decide), W29_of m ρ c main_v119 (by decide), W28_of m ρ c main_v119 (by decide), W27_of m ρ c main_v119 (by decide), W26_of m ρ c main_v119 (by decide), W25_of m ρ c main_v119 (by decide), W24_of m ρ c main_v119 (by decide), W23_of m ρ c main_v119 (by decide), W22_of m ρ c main_v119 (by decide)]

theorem keep_v121_44 : W44 m ρ c (Proc.devRef .tc main_v121) = W21 m ρ c (Proc.devRef .tc main_v121) := by
  rw [W44_of m ρ c main_v121 (by decide), W43_of m ρ c main_v121 (by decide), W42_of m ρ c main_v121 (by decide), W41_of m ρ c main_v121 (by decide), W40_of m ρ c main_v121 (by decide), W39_of m ρ c main_v121 (by decide), W38_of m ρ c main_v121 (by decide), W37_of m ρ c main_v121 (by decide), W36_of m ρ c main_v121 (by decide), W35_of m ρ c main_v121 (by decide), W34_of m ρ c main_v121 (by decide), W33_of m ρ c main_v121 (by decide), W32_of m ρ c main_v121 (by decide), W31_of m ρ c main_v121 (by decide), W30_of m ρ c main_v121 (by decide), W29_of m ρ c main_v121 (by decide), W28_of m ρ c main_v121 (by decide), W27_of m ρ c main_v121 (by decide), W26_of m ρ c main_v121 (by decide), W25_of m ρ c main_v121 (by decide), W24_of m ρ c main_v121 (by decide), W23_of m ρ c main_v121 (by decide), W22_of m ρ c main_v121 (by decide)]

theorem keep_v151_44 : W44 m ρ c (Proc.devRef .tc main_v151) = W23 m ρ c (Proc.devRef .tc main_v151) := by
  rw [W44_of m ρ c main_v151 (by decide), W43_of m ρ c main_v151 (by decide), W42_of m ρ c main_v151 (by decide), W41_of m ρ c main_v151 (by decide), W40_of m ρ c main_v151 (by decide), W39_of m ρ c main_v151 (by decide), W38_of m ρ c main_v151 (by decide), W37_of m ρ c main_v151 (by decide), W36_of m ρ c main_v151 (by decide), W35_of m ρ c main_v151 (by decide), W34_of m ρ c main_v151 (by decide), W33_of m ρ c main_v151 (by decide), W32_of m ρ c main_v151 (by decide), W31_of m ρ c main_v151 (by decide), W30_of m ρ c main_v151 (by decide), W29_of m ρ c main_v151 (by decide), W28_of m ρ c main_v151 (by decide), W27_of m ρ c main_v151 (by decide), W26_of m ρ c main_v151 (by decide), W25_of m ρ c main_v151 (by decide), W24_of m ρ c main_v151 (by decide)]

theorem keep_v153_44 : W44 m ρ c (Proc.devRef .tc main_v153) = W23 m ρ c (Proc.devRef .tc main_v153) := by
  rw [W44_of m ρ c main_v153 (by decide), W43_of m ρ c main_v153 (by decide), W42_of m ρ c main_v153 (by decide), W41_of m ρ c main_v153 (by decide), W40_of m ρ c main_v153 (by decide), W39_of m ρ c main_v153 (by decide), W38_of m ρ c main_v153 (by decide), W37_of m ρ c main_v153 (by decide), W36_of m ρ c main_v153 (by decide), W35_of m ρ c main_v153 (by decide), W34_of m ρ c main_v153 (by decide), W33_of m ρ c main_v153 (by decide), W32_of m ρ c main_v153 (by decide), W31_of m ρ c main_v153 (by decide), W30_of m ρ c main_v153 (by decide), W29_of m ρ c main_v153 (by decide), W28_of m ρ c main_v153 (by decide), W27_of m ρ c main_v153 (by decide), W26_of m ρ c main_v153 (by decide), W25_of m ρ c main_v153 (by decide), W24_of m ρ c main_v153 (by decide)]

theorem keep_v201_0_41 : W41 m ρ c (Proc.devRef .tc main_v201_0) = W39 m ρ c (Proc.devRef .tc main_v201_0) := by
  rw [W41_of m ρ c main_v201_0 (by decide), W40_of m ρ c main_v201_0 (by decide)]

theorem keep_v201_1_41 : W41 m ρ c (Proc.devRef .tc main_v201_1) = W39 m ρ c (Proc.devRef .tc main_v201_1) := by
  rw [W41_of m ρ c main_v201_1 (by decide), W40_of m ρ c main_v201_1 (by decide)]

theorem keep_v193_38 : W38 m ρ c (Proc.devRef .tc main_v193) = W33 m ρ c (Proc.devRef .tc main_v193) := by
  rw [W38_of m ρ c main_v193 (by decide), W37_of m ρ c main_v193 (by decide), W36_of m ρ c main_v193 (by decide), W35_of m ρ c main_v193 (by decide), W34_of m ρ c main_v193 (by decide)]

theorem keep_v186_0_32 : W32 m ρ c (Proc.devRef .tc main_v186_0) = W28 m ρ c (Proc.devRef .tc main_v186_0) := by
  rw [W32_of m ρ c main_v186_0 (by decide), W31_of m ρ c main_v186_0 (by decide), W30_of m ρ c main_v186_0 (by decide), W29_of m ρ c main_v186_0 (by decide)]

theorem keep_v186_1_37 : W37 m ρ c (Proc.devRef .tc main_v186_1) = W28 m ρ c (Proc.devRef .tc main_v186_1) := by
  rw [W37_of m ρ c main_v186_1 (by decide), W36_of m ρ c main_v186_1 (by decide), W35_of m ρ c main_v186_1 (by decide), W34_of m ρ c main_v186_1 (by decide), W33_of m ρ c main_v186_1 (by decide), W32_of m ρ c main_v186_1 (by decide), W31_of m ρ c main_v186_1 (by decide), W30_of m ρ c main_v186_1 (by decide), W29_of m ρ c main_v186_1 (by decide)]

theorem keep_v186_1_33 : W33 m ρ c (Proc.devRef .tc main_v186_1) = W28 m ρ c (Proc.devRef .tc main_v186_1) := by
  rw [W33_of m ρ c main_v186_1 (by decide), W32_of m ρ c main_v186_1 (by decide), W31_of m ρ c main_v186_1 (by decide), W30_of m ρ c main_v186_1 (by decide), W29_of m ρ c main_v186_1 (by decide)]

theorem keep_arg0_39 : W39 m ρ c (Proc.devRef .tc main_arg0) = W0 m ρ c (Proc.devRef .tc main_arg0) := by
  rw [W39_of m ρ c main_arg0 (by decide), W38_of m ρ c main_arg0 (by decide), W37_of m ρ c main_arg0 (by decide), W36_of m ρ c main_arg0 (by decide), W35_of m ρ c main_arg0 (by decide), W34_of m ρ c main_arg0 (by decide), W33_of m ρ c main_arg0 (by decide), W32_of m ρ c main_arg0 (by decide), W31_of m ρ c main_arg0 (by decide), W30_of m ρ c main_arg0 (by decide), W29_of m ρ c main_arg0 (by decide), W28_of m ρ c main_arg0 (by decide), W27_of m ρ c main_arg0 (by decide), W26_of m ρ c main_arg0 (by decide), W25_of m ρ c main_arg0 (by decide), W24_of m ρ c main_arg0 (by decide), W23_of m ρ c main_arg0 (by decide), W22_of m ρ c main_arg0 (by decide), W21_of m ρ c main_arg0 (by decide), W20_of m ρ c main_arg0 (by decide), W19_of m ρ c main_arg0 (by decide), W18_of m ρ c main_arg0 (by decide), W17_of m ρ c main_arg0 (by decide), W16_of m ρ c main_arg0 (by decide), W15_of m ρ c main_arg0 (by decide), W14_of m ρ c main_arg0 (by decide), W13_of m ρ c main_arg0 (by decide), W12_of m ρ c main_arg0 (by decide), W11_of m ρ c main_arg0 (by decide), W10_of m ρ c main_arg0 (by decide), W9_of m ρ c main_arg0 (by decide), W8_of m ρ c main_arg0 (by decide), W7_of m ρ c main_arg0 (by decide), W6_of m ρ c main_arg0 (by decide), W5_of m ρ c main_arg0 (by decide), W4_of m ρ c main_arg0 (by decide), W3_of m ρ c main_arg0 (by decide), W2_of m ρ c main_arg0 (by decide), W1_of m ρ c main_arg0 (by decide)]

theorem keep_arg1_41 : W41 m ρ c (Proc.devRef .tc main_arg1) = W0 m ρ c (Proc.devRef .tc main_arg1) := by
  rw [W41_of m ρ c main_arg1 (by decide), W40_of m ρ c main_arg1 (by decide), W39_of m ρ c main_arg1 (by decide), W38_of m ρ c main_arg1 (by decide), W37_of m ρ c main_arg1 (by decide), W36_of m ρ c main_arg1 (by decide), W35_of m ρ c main_arg1 (by decide), W34_of m ρ c main_arg1 (by decide), W33_of m ρ c main_arg1 (by decide), W32_of m ρ c main_arg1 (by decide), W31_of m ρ c main_arg1 (by decide), W30_of m ρ c main_arg1 (by decide), W29_of m ρ c main_arg1 (by decide), W28_of m ρ c main_arg1 (by decide), W27_of m ρ c main_arg1 (by decide), W26_of m ρ c main_arg1 (by decide), W25_of m ρ c main_arg1 (by decide), W24_of m ρ c main_arg1 (by decide), W23_of m ρ c main_arg1 (by decide), W22_of m ρ c main_arg1 (by decide), W21_of m ρ c main_arg1 (by decide), W20_of m ρ c main_arg1 (by decide), W19_of m ρ c main_arg1 (by decide), W18_of m ρ c main_arg1 (by decide), W17_of m ρ c main_arg1 (by decide), W16_of m ρ c main_arg1 (by decide), W15_of m ρ c main_arg1 (by decide), W14_of m ρ c main_arg1 (by decide), W13_of m ρ c main_arg1 (by decide), W12_of m ρ c main_arg1 (by decide), W11_of m ρ c main_arg1 (by decide), W10_of m ρ c main_arg1 (by decide), W9_of m ρ c main_arg1 (by decide), W8_of m ρ c main_arg1 (by decide), W7_of m ρ c main_arg1 (by decide), W6_of m ρ c main_arg1 (by decide), W5_of m ρ c main_arg1 (by decide), W4_of m ρ c main_arg1 (by decide), W3_of m ρ c main_arg1 (by decide), W2_of m ρ c main_arg1 (by decide), W1_of m ρ c main_arg1 (by decide)]

end Lti
end
-- ==== Proof.Coef.lean ====
/-
  The coefficients of the causal branch, padded.
-/
module

public import proofs.«01_k».proof.Proof.Fourier

@[expose] public section

noncomputable section

namespace Lti

/-- Eight rows and columns of coefficients after a first row and a first column of constants; zero outside. -/
def padR (d : ℝ) (f : Fin 8 → Fin 8 → ℝ) (n j : ℕ) : ℝ :=
  if n < 9 ∧ j < 9 then
    if h : (1 ≤ n ∧ n - 1 < 8) ∧ 1 ≤ j ∧ j - 1 < 8 then f ⟨n - 1, h.1.2⟩ ⟨j - 1, h.2.2⟩ else d
  else 0

theorem padR_row (d : ℝ) (f : Fin 8 → Fin 8 → ℝ) (n j : ℕ) (h : 9 ≤ n) : padR d f n j = 0 := by
  unfold padR; rw [if_neg (by omega)]
theorem padR_col (d : ℝ) (f : Fin 8 → Fin 8 → ℝ) (n j : ℕ) (h : 9 ≤ j) : padR d f n j = 0 := by
  unfold padR; rw [if_neg (by omega)]

/-- The spectrum on sixteen rows and columns, of which nine are not zero. -/
theorem spec_padR (d : ℝ) (f : Fin 8 → Fin 8 → ℝ) (k l : ℕ) : spec 16 (padR d f) k l = spec 9 (padR d f) k l :=
  spec_pad 7 (padR d f) (fun n j h => padR_row d f n j h) (fun n j h => padR_col d f n j h) k l

/-- The quotient's spectrum. -/
def alpha (g3 g2 : Fin 8 → Fin 8 → ℝ) (k l : ℕ) : ℂ := quo (spec 9 (padR 0 g2) k l) (spec 9 (padR 1 g3) k l)

theorem alpha_mirror (g3 g2 : Fin 8 → Fin 8 → ℝ) (l : ℕ) (hl : W 512 (l + l) = 1) (k : ℕ) (hk : k < 512) :
    alpha g3 g2 ((512 - k) % 512) l = (starRingEnd ℂ) (alpha g3 g2 k l) := by
  unfold alpha
  rw [spec_mirror 9 _ k l hk hl, spec_mirror 9 _ k l hk hl, quo_conj]

/-- Where the quotient's denominator is not zero. -/
def Nz (g3 : Fin 8 → Fin 8 → ℝ) : Prop := ∀ k < 512, ∀ l < 257,
  (spec 9 (padR 1 g3) k l).re * (spec 9 (padR 1 g3) k l).re + (spec 9 (padR 1 g3) k l).im * (spec 9 (padR 1 g3) k l).im ≠ 0

end Lti
end
-- ==== Proof.KHead.lean ====
/-
  The kernel's padded coefficients.
-/
module

public import proofs.«01_k».proof.Proof.Keep
public import proofs.«01_k».proof.Proof.Coef

@[expose] public section

noncomputable section

namespace Lti

open Idealize.ShloMosaic Idealize.ShloMosaic.StableHlo Cert.KernelIdeal Cert.KernelIdeal.Gen
open Idealize.ShloMosaic.TcCoe

variable (m : (ℓ : Loc nD τ sig) → Buf (Elt Ideal) ℓ) (ρ : Dev nD → PrngReg) (c : Dev nD)

/-- The denominator's coefficients are real numbers. -/
def DenReal (g : Fin 16 → Fin 16 → Fin 8 → Fin 8 → ℝ) : Prop := ∀ i o n j,
  @Eq EReal ((m ((c : Thread nD τ).loc main_arg3) : FVec Ideal S16x16x8x8 .f32) (ix4 i o n j)) (g i o n j : ℝ)
/-- The first set of numerators' coefficients are real numbers. -/
def NumReal (g : Fin 16 → Fin 16 → Fin 8 → Fin 8 → ℝ) : Prop := ∀ i o n j,
  @Eq EReal ((m ((c : Thread nD τ).loc main_arg2) : FVec Ideal S4x16x16x8x8 .f32) (ix5 0 i o n j)) (g i o n j : ℝ)

def chI (t : Fin 256) : Fin 16 := ⟨t.val / 16, by omega⟩
def chO (t : Fin 256) : Fin 16 := ⟨t.val % 16, by omega⟩

theorem v0_at (g : Fin 16 → Fin 16 → Fin 8 → Fin 8 → ℝ) (hg : DenReal m c g) (i o : Fin 16) (n j : Fin 9) :
    @Eq EReal ((W2 m ρ c (Proc.devRef .tc main_v0) : FVec Ideal S16x16x9x9 .f32) (ix4 i o n j)) (padR 1 (g i o) n.val j.val : ℝ) := by
  have hg' : ∀ i o n j, @Eq EReal ((W0 m ρ c (Proc.devRef .tc main_arg3) : FVec Ideal S16x16x8x8 .f32) (ix4 i o n j)) (g i o n j : ℝ) := hg
  revert hg'
  show _ → @Eq EReal ((after (hostOps0_1 : List (HloOp τ sig (Elt Ideal))) (after (hostOps0 : List (HloOp τ sig (Elt Ideal))) (W0 m ρ c)) (Proc.devRef .tc main_v0) : FVec Ideal S16x16x9x9 .f32) _) _
  generalize W0 m ρ c = V
  intro hg
  simp only [hostOps0_1, hostOps0, TRef.ternary, TRef.unary, TRef.binary, TRef.nullary, TRef.toBuf, TRef.ofBuf, cast_eq]
  after_results_simp
  pointwise
  rw [padR, if_pos ⟨n.isLt, j.isLt⟩]
  split
  · exact hg _ _ _ _
  · exact w_1

theorem v2_at (i o : Fin 16) (n j : Fin 8) :
    @Eq EReal ((W3 m ρ c (Proc.devRef .tc main_v2) : FVec Ideal S16x16x8x8 .f32) (ix4 i o n j))
      ((m ((c : Thread nD τ).loc main_arg2) : FVec Ideal S4x16x16x8x8 .f32) (ix5 0 i o n j)) := by
  have e : W2 m ρ c (Proc.devRef .tc main_arg2) = m ((c : Thread nD τ).loc main_arg2) := by
    rw [W2_of m ρ c main_arg2 (by decide), W1_of m ρ c main_arg2 (by decide)]
  rw [← e]
  show @Eq EReal ((after (hostOps0_2 : List (HloOp τ sig (Elt Ideal))) (W2 m ρ c) (Proc.devRef .tc main_v2) : FVec Ideal S16x16x8x8 .f32) _) _
  generalize W2 m ρ c = V
  simp only [hostOps0_2, TRef.ternary, TRef.unary, TRef.binary, TRef.nullary, TRef.toBuf, TRef.ofBuf, cast_eq]
  after_results_simp
  pointwise

theorem v3_at (g : Fin 16 → Fin 16 → Fin 8 → Fin 8 → ℝ) (hg : NumReal m c g) (i o : Fin 16) (n j : Fin 9) :
    @Eq EReal ((W4 m ρ c (Proc.devRef .tc main_v3) : FVec Ideal S16x16x9x9 .f32) (ix4 i o n j)) (padR 0 (g i o) n.val j.val : ℝ) := by
  have hg' : ∀ i o n j, @Eq EReal ((W3 m ρ c (Proc.devRef .tc main_v2) : FVec Ideal S16x16x8x8 .f32) (ix4 i o n j)) (g i o n j : ℝ) :=
    fun i o n j => (v2_at m ρ c i o n j).trans (hg i o n j)
  have h0 : @Eq EReal ((W3 m ρ c (Proc.devRef .tc main_cst_0) : FVec Ideal S_ .f32) ix0) 0 := by
    show @Eq EReal ((after (hostOps0_2 : List (HloOp τ sig (Elt Ideal))) (W2 m ρ c) (Proc.devRef .tc main_cst_0) : FVec Ideal S_ .f32) _) _
    generalize W2 m ρ c = V
    simp only [hostOps0_2, reshape, TRef.ternary, TRef.unary, TRef.binary, TRef.nullary, TRef.toBuf, TRef.ofBuf, cast_eq]
    after_results_simp
    pointwise
  revert hg' h0
  show _ → _ → @Eq EReal ((after (hostOps0_3 : List (HloOp τ sig (Elt Ideal))) (W3 m ρ c) (Proc.devRef .tc main_v3) : FVec Ideal S16x16x9x9 .f32) _) _
  generalize W3 m ρ c = V
  intro hg h0
  simp only [hostOps0_3, TRef.ternary, TRef.unary, TRef.binary, TRef.nullary, TRef.toBuf, TRef.ofBuf, cast_eq]
  after_results_simp
  pointwise
  rw [padR, if_pos ⟨n.isLt, j.isLt⟩]
  split
  · exact hg _ _ _ _
  · refine Eq.trans ?_ (h0.trans EReal.coe_zero.symm)
    exact congrArg (V (Proc.devRef .tc main_cst_0)) (show (_ : S_.Idx) = ix0 from funext fun a => a.elim0)

theorem v4_at (t : Fin 256) (n j : Fin 9) :
    @Eq EReal ((W5 m ρ c (Proc.devRef .tc main_v4) : FVec Ideal S256x9x9 .f32) (ix3 t n j))
      ((W2 m ρ c (Proc.devRef .tc main_v0) : FVec Ideal S16x16x9x9 .f32) (ix4 (chI t) (chO t) n j)) := by
  have e : W4 m ρ c (Proc.devRef .tc main_v0) = W2 m ρ c (Proc.devRef .tc main_v0) := by
    rw [W4_of m ρ c main_v0 (by decide), W3_of m ρ c main_v0 (by decide)]
  rw [← e]
  show @Eq EReal ((after (hostOps0_4 : List (HloOp τ sig (Elt Ideal))) (W4 m ρ c) (Proc.devRef .tc main_v4) : FVec Ideal S256x9x9 .f32) _) _
  generalize W4 m ρ c = V
  simp only [hostOps0_4, reshape, TRef.ternary, TRef.unary, TRef.binary, TRef.nullary, TRef.toBuf, TRef.ofBuf, cast_eq]
  after_results_simp
  pointwise
  rfl

theorem v6_at (t : Fin 256) (n j : Fin 9) :
    @Eq EReal ((W7 m ρ c (Proc.devRef .tc main_v6) : FVec Ideal S256x9x9 .f32) (ix3 t n j))
      ((W4 m ρ c (Proc.devRef .tc main_v3) : FVec Ideal S16x16x9x9 .f32) (ix4 (chI t) (chO t) n j)) := by
  have e : W6 m ρ c (Proc.devRef .tc main_v3) = W4 m ρ c (Proc.devRef .tc main_v3) := by
    rw [W6_of m ρ c main_v3 (by decide), W5_of m ρ c main_v3 (by decide)]
  rw [← e]
  show @Eq EReal ((after (hostOps0_6 : List (HloOp τ sig (Elt Ideal))) (W6 m ρ c) (Proc.devRef .tc main_v6) : FVec Ideal S256x9x9 .f32) _) _
  generalize W6 m ρ c = V
  simp only [hostOps0_6, reshape, TRef.ternary, TRef.unary, TRef.binary, TRef.nullary, TRef.toBuf, TRef.ofBuf, cast_eq]
  after_results_simp
  pointwise
  rfl

theorem sitofp_zero : @Eq EReal (FloatOps.sitofp (F := Ideal) FTy.f32 (0#32)) ((0 : ℝ) : EReal) := by
  show (((0#32 : BitVec 32).toInt : ℝ) : EReal) = _
  simp

theorem v5_at (g : Fin 16 → Fin 16 → Fin 8 → Fin 8 → ℝ) (hg : DenReal m c g) (t : Fin 256) (n j : Fin 16) :
    @Eq EReal ((W27 m ρ c (Proc.devRef .tc main_v5) : FVec Ideal S256x16x16 .f32) (ix3 t n j))
      (padR 1 (g (chI t) (chO t)) n.val j.val : ℝ) := by
  rw [keep_v5_27]
  have h0 : (W5 m ρ c (Proc.devRef .tc main_c) : IVec S_ 32) ix0 = 0#32 := by
    show (after (hostOps0_4 : List (HloOp τ sig (Elt Ideal))) (W4 m ρ c) (Proc.devRef .tc main_c) : IVec S_ 32) _ = _
    generalize W4 m ρ c = V
    simp only [hostOps0_4, reshape, TRef.ternary, TRef.unary, TRef.binary, TRef.nullary, TRef.toBuf, TRef.ofBuf, cast_eq]
    after_results_simp
    rfl
  have hv : ∀ t n j, @Eq EReal ((W5 m ρ c (Proc.devRef .tc main_v4) : FVec Ideal S256x9x9 .f32) (ix3 t n j)) (padR 1 (g (chI t) (chO t)) n.val j.val : ℝ) :=
    fun t n j => (v4_at m ρ c t n j).trans (v0_at m ρ c g hg _ _ n j)
  revert hv h0
  show _ → _ → @Eq EReal ((after (hostOps0_5 : List (HloOp τ sig (Elt Ideal))) (W5 m ρ c) (Proc.devRef .tc main_v5) : FVec Ideal S256x16x16 .f32) _) _
  generalize W5 m ρ c = V
  intro h0 hv
  simp only [hostOps0_5, TRef.ternary, TRef.unary, TRef.binary, TRef.nullary, TRef.toBuf, TRef.ofBuf, cast_eq]
  after_results_simp
  pointwise
  split
  · exact hv _ _ _
  · rename_i h
    rw [show padR 1 (g (chI t) (chO t)) n.val j.val = 0 by unfold padR; rw [if_neg h]]
    refine Eq.trans ?_ sitofp_zero
    refine congrArg (FloatOps.sitofp (F := Ideal) FTy.f32) (Eq.trans ?_ h0)
    exact congrArg (V (Proc.devRef .tc main_c)) (show (_ : S_.Idx) = ix0 from funext fun a => a.elim0)

theorem v7_at (g : Fin 16 → Fin 16 → Fin 8 → Fin 8 → ℝ) (hg : NumReal m c g) (t : Fin 256) (n j : Fin 16) :
    @Eq EReal ((W27 m ρ c (Proc.devRef .tc main_v7) : FVec Ideal S256x16x16 .f32) (ix3 t n j))
      (padR 0 (g (chI t) (chO t)) n.val j.val : ℝ) := by
  rw [keep_v7_27]
  have h0 : (W7 m ρ c (Proc.devRef .tc main_c_1) : IVec S_ 32) ix0 = 0#32 := by
    show (after (hostOps0_6 : List (HloOp τ sig (Elt Ideal))) (W6 m ρ c) (Proc.devRef .tc main_c_1) : IVec S_ 32) _ = _
    generalize W6 m ρ c = V
    simp only [hostOps0_6, reshape, TRef.ternary, TRef.unary, TRef.binary, TRef.nullary, TRef.toBuf, TRef.ofBuf, cast_eq]
    after_results_simp
    rfl
  have hv : ∀ t n j, @Eq EReal ((W7 m ρ c (Proc.devRef .tc main_v6) : FVec Ideal S256x9x9 .f32) (ix3 t n j)) (padR 0 (g (chI t) (chO t)) n.val j.val : ℝ) :=
    fun t n j => (v6_at m ρ c t n j).trans (v3_at m ρ c g hg _ _ n j)
  revert hv h0
  show _ → _ → @Eq EReal ((after (hostOps0_7 : List (HloOp τ sig (Elt Ideal))) (W7 m ρ c) (Proc.devRef .tc main_v7) : FVec Ideal S256x16x16 .f32) _) _
  generalize W7 m ρ c = V
  intro h0 hv
  simp only [hostOps0_7, TRef.ternary, TRef.unary, TRef.binary, TRef.nullary, TRef.toBuf, TRef.ofBuf, cast_eq]
  after_results_simp
  pointwise
  split
  · exact hv _ _ _
  · rename_i h
    rw [show padR 0 (g (chI t) (chO t)) n.val j.val = 0 by unfold padR; rw [if_neg h]]
    refine Eq.trans ?_ sitofp_zero
    refine congrArg (FloatOps.sitofp (F := Ideal) FTy.f32) (Eq.trans ?_ h0)
    exact congrArg (V (Proc.devRef .tc main_c_1)) (show (_ : S_.Idx) = ix0 from funext fun a => a.elim0)

end Lti
end
-- ==== Proof.KRun.lean ====
/-
  Every run of the kernel ends, and ends with the result that the last step's contents hold.
-/
module

public import proofs.«01_k».proof.Proof.Gen.KernelIdeal.Frame
public import proofs.«01_k».proof.Proof.KHead

@[expose] public section

set_option maxRecDepth 16384
noncomputable section

namespace Lti

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The result at the end of a run, the arguments as launched, and every counter at zero. -/
theorem kernel_run : θ_run defs (onTc (τ := τ) (main (F := Ideal))) ⟨m, fun _ => 0, ρ⟩ (fun r => (∀ c : Dev nD,
      r.2.mem ((c.tc : Thread nD τ).loc main_v215) = W46 m ρ c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W46 m ρ c b)
    (hfin := fun c s' => by
      iintro ⟨⟨Hh, -⟩, HSI⟩
      unfold StableHlo.held
      imodintro
      iapply (pointsTo_read_all (Pipeline.ucRefs τ sig) (fun b => (((c : Thread nD τ)).1, b)) (W46 m ρ c) s')
      isplitl [Hh] <;> iassumption)
    (hQ := fun s h hz => ⟨(fun c =>
      ⟨h c _ (mem_uc main_v215 (by decide)),
       (h c _ (mem_uc main_arg0 (by decide))).trans (W46_main_arg0 m ρ c),
       (h c _ (mem_uc main_arg1 (by decide))).trans (W46_main_arg1 m ρ c),
       (h c _ (mem_uc main_arg2 (by decide))).trans (W46_main_arg2 m ρ c),
       (h c _ (mem_uc main_arg3 (by decide))).trans (W46_main_arg3 m ρ c)⟩), funext fun g => hz g (.inr (no_unscoped g.2))⟩)

end Lti
end
-- ==== Proof.Reg.lean ====
/-
  Zero offsets, and the bodies' whole loads and stores.
-/
module

public import proofs.«01_k».proof.Proof.Cx
public import Idealize.ShloMosaic.Lib.Pointwise
public import Idealize.ShloMosaic.Lib.Pipeline.Value

@[expose] public section

noncomputable section

namespace Lti

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

open Idealize.ShloMosaic

/-- The real and the imaginary part of a product of two pairs along an axis, as the programs spell it. -/
def cre {n : ℕ} (ar ai br bi : Fin n → EReal) : EReal := ∑ k, ar k * br k - ∑ k, ai k * bi k
def cim {n : ℕ} (ar ai br bi : Fin n → EReal) : EReal := ∑ k, ar k * bi k + ∑ k, ai k * br k

theorem IsC.mm {n : ℕ} {ar ai br bi : Fin n → EReal} {z w : Fin n → ℂ} (ha : ∀ k, IsC (ar k) (ai k) (z k))
    (hb : ∀ k, IsC (br k) (bi k) (w k)) : IsC (cre ar ai br bi) (cim ar ai br bi) (∑ k, z k * w k) := IsC.cmm ha hb

/-- A row of an array, and a column, as extended reals. -/
def row {p n : ℕ} (x : FVec Ideal ⟨2, ![p, n]⟩ .f32) (r : Fin p) : Fin n → EReal := fun k => x (ix2 r k)
def col {p n : ℕ} (x : FVec Ideal ⟨2, ![p, n]⟩ .f32) (q : Fin n) : Fin p → EReal := fun k => x (ix2 k q)
/-- The same of one array of a stack. -/
def row3 {b p n : ℕ} (x : FVec Ideal ⟨3, ![b, p, n]⟩ .f32) (t : Fin b) (r : Fin p) : Fin n → EReal := fun k => x (ix3 t r k)
def col3 {b p n : ℕ} (x : FVec Ideal ⟨3, ![b, p, n]⟩ .f32) (t : Fin b) (q : Fin n) : Fin p → EReal := fun k => x (ix3 t k q)
/-- A sum of products along an axis. -/
def dotp {n : ℕ} (a b : Fin n → EReal) : EReal := ∑ k, a k * b k

end Lti

end
-- ==== Proof.Reg0.lean ====
/-
  The first product of tables: what its windows hold.
-/
module

public import proofs.«01_k».proof.Proof.Reg
public import proofs.«01_k».proof.Proof.Gen.KernelIdeal.Frame.Region0

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index0_0 (t : Fin grid0.N) : win0_0.index t = ![0, 0] := by
  revert t; decide +kernel

/-- Where window 0's block lies in its array. -/
theorem emb0_0 (t : Fin grid0.N) (a : Fin 1024) (b : Fin 512) :
    (win0_0.rect t).emb (ix2 a b : S1024x512.Idx) = (ix2 a b : S1024x512.Idx) := by
  funext z
  apply Fin.ext
  refine (Pipeline.Window.rect_emb_val win0_0 t _ z).trans ?_
  rw [index0_0]
  fin_cases z
  · show 0 * 1024 + a.val = a.val
    omega
  · show 0 * 512 + b.val = b.val
    omega

/-- Window 0's block at an index. -/
theorem iblk0_0_at (t : Fin cfg0.N) (a : Fin 1024) (b : Fin 512) :
    (iblk0 V c 0 t : FVec Ideal S1024x512 .f32) (ix2 a b) = (V c main_v65 : FVec Ideal S1024x512 .f32) (ix2 a b : S1024x512.Idx) := by
  show (V c main_v65 : FVec Ideal S1024x512 .f32) ((win0_0.rect t).emb (ix2 a b)) = _
  rw [emb0_0]

theorem index0_1 (t : Fin grid0.N) : win0_1.index t = ![0, 0] := by
  revert t; decide +kernel

/-- Where window 1's block lies in its array. -/
theorem emb0_1 (t : Fin grid0.N) (a : Fin 1024) (b : Fin 512) :
    (win0_1.rect t).emb (ix2 a b : S1024x512.Idx) = (ix2 a b : S1024x512.Idx) := by
  funext z
  apply Fin.ext
  refine (Pipeline.Window.rect_emb_val win0_1 t _ z).trans ?_
  rw [index0_1]
  fin_cases z
  · show 0 * 1024 + a.val = a.val
    omega
  · show 0 * 512 + b.val = b.val
    omega

/-- Window 1's block at an index. -/
theorem iblk0_1_at (t : Fin cfg0.N) (a : Fin 1024) (b : Fin 512) :
    (iblk0 V c 1 t : FVec Ideal S1024x512 .f32) (ix2 a b) = (V c main_v67 : FVec Ideal S1024x512 .f32) (ix2 a b : S1024x512.Idx) := by
  show (V c main_v67 : FVec Ideal S1024x512 .f32) ((win0_1.rect t).emb (ix2 a b)) = _
  rw [emb0_1]

theorem index0_2 (t : Fin grid0.N) : win0_2.index t = ![0, 0] := by
  revert t; decide +kernel

/-- Where window 2's block lies in its array. -/
theorem emb0_2 (t : Fin grid0.N) (a : Fin 512) (b : Fin 512) :
    (win0_2.rect t).emb (ix2 a b : S512x512.Idx) = (ix2 a b : S512x512.Idx) := by
  funext z
  apply Fin.ext
  refine (Pipeline.Window.rect_emb_val win0_2 t _ z).trans ?_
  rw [index0_2]
  fin_cases z
  · show 0 * 512 + a.val = a.val
    omega
  · show 0 * 512 + b.val = b.val
    omega

/-- Window 2's block at an index. -/
theorem iblk0_2_at (t : Fin cfg0.N) (a : Fin 512) (b : Fin 512) :
    (iblk0 V c 2 t : FVec Ideal S512x512 .f32) (ix2 a b) = (V c main_v48 : FVec Ideal S512x512 .f32) (ix2 a b : S512x512.Idx) := by
  show (V c main_v48 : FVec Ideal S512x512 .f32) ((win0_2.rect t).emb (ix2 a b)) = _
  rw [emb0_2]

theorem index0_3 (t : Fin grid0.N) : win0_3.index t = ![0, 0] := by
  revert t; decide +kernel

/-- Where window 3's block lies in its array. -/
theorem emb0_3 (t : Fin grid0.N) (a : Fin 512) (b : Fin 512) :
    (win0_3.rect t).emb (ix2 a b : S512x512.Idx) = (ix2 a b : S512x512.Idx) := by
  funext z
  apply Fin.ext
  refine (Pipeline.Window.rect_emb_val win0_3 t _ z).trans ?_
  rw [index0_3]
  fin_cases z
  · show 0 * 512 + a.val = a.val
    omega
  · show 0 * 512 + b.val = b.val
    omega

/-- Window 3's block at an index. -/
theorem iblk0_3_at (t : Fin cfg0.N) (a : Fin 512) (b : Fin 512) :
    (iblk0 V c 3 t : FVec Ideal S512x512 .f32) (ix2 a b) = (V c main_v51 : FVec Ideal S512x512 .f32) (ix2 a b : S512x512.Idx) := by
  show (V c main_v51 : FVec Ideal S512x512 .f32) ((win0_3.rect t).emb (ix2 a b)) = _
  rw [emb0_3]

theorem index0_4 (t : Fin grid0.N) : win0_4.index t = ![0, 0] := by
  revert t; decide +kernel

/-- Where window 4's block lies in its array. -/
theorem emb0_4 (t : Fin grid0.N) (a : Fin 1024) (b : Fin 512) :
    (win0_4.rect t).emb (ix2 a b : S1024x512.Idx) = (ix2 a b : S1024x512.Idx) := by
  funext z
  apply Fin.ext
  refine (Pipeline.Window.rect_emb_val win0_4 t _ z).trans ?_
  rw [index0_4]
  fin_cases z
  · show 0 * 1024 + a.val = a.val
    omega
  · show 0 * 512 + b.val = b.val
    omega

/-- What window 4's array holds at the end: at each index the body's result at the point whose block holds it. -/
def final0_4 : FVec Ideal S1024x512 .f32 := fun i =>
  let t : Fin cfg0.N := t0_0
  out0_4 (iblk0 V c 0 t) (iblk0 V c 1 t) (iblk0 V c 2 t) (iblk0 V c 3 t) (ix2 (i 0) (i 1) : S1024x512.Idx)

theorem final0_4_at (t : Fin cfg0.N) (a : Fin 1024) (b : Fin 512) :
    final0_4 V c (ix2 a b : S1024x512.Idx) = out0_4 (iblk0 V c 0 t) (iblk0 V c 1 t) (iblk0 V c 2 t) (iblk0 V c 3 t) (ix2 a b) := by
  obtain rfl := fin_N0 t
  rfl

theorem arr0_4 : (dat0 V c).arrAt 4 cfg0.N = final0_4 V c := by
  refine (dat0 V c).arrAt_eq_of_cover 4 (final0_4 V c) (fun t _ => ?_) (fun i => ?_)
  · show (cfg0.win 4).cut (grid0.coords t) ((dat0 V c).after 4 t) = _
    rw [after0_4]
    have key : ∀ y : S1024x512.Idx, out0_4 (iblk0 V c 0 t) (iblk0 V c 1 t) (iblk0 V c 2 t) (iblk0 V c 3 t) y = final0_4 V c ((win0_4.rect t).emb y) := by
      intro y
      obtain ⟨a, b, rfl⟩ : ∃ (a : Fin 1024) (b : Fin 512), y = (ix2 a b : S1024x512.Idx) := ⟨y 0, y 1, eq_ix2 y⟩
      rw [emb0_4, final0_4_at]
    revert key
    generalize out0_4 (iblk0 V c 0 t) (iblk0 V c 1 t) (iblk0 V c 2 t) (iblk0 V c 3 t) = O
    generalize final0_4 V c = G
    intro key
    exact funext key
  · refine ⟨t0_0, flush0_4 _, ?_⟩
    refine Finset.mem_map.mpr ⟨(ix2 (i 0) (i 1) : S1024x512.Idx), Finset.mem_univ _, ?_⟩
    refine (emb0_4 t0_0 (i 0) (i 1)).trans ?_
    exact (eq_ix2 i).symm

theorem index0_5 (t : Fin grid0.N) : win0_5.index t = ![0, 0] := by
  revert t; decide +kernel

/-- Where window 5's block lies in its array. -/
theorem emb0_5 (t : Fin grid0.N) (a : Fin 1024) (b : Fin 512) :
    (win0_5.rect t).emb (ix2 a b : S1024x512.Idx) = (ix2 a b : S1024x512.Idx) := by
  funext z
  apply Fin.ext
  refine (Pipeline.Window.rect_emb_val win0_5 t _ z).trans ?_
  rw [index0_5]
  fin_cases z
  · show 0 * 1024 + a.val = a.val
    omega
  · show 0 * 512 + b.val = b.val
    omega

/-- What window 5's array holds at the end: at each index the body's result at the point whose block holds it. -/
def final0_5 : FVec Ideal S1024x512 .f32 := fun i =>
  let t : Fin cfg0.N := t0_0
  out0_5 (iblk0 V c 0 t) (iblk0 V c 1 t) (iblk0 V c 2 t) (iblk0 V c 3 t) (ix2 (i 0) (i 1) : S1024x512.Idx)

theorem final0_5_at (t : Fin cfg0.N) (a : Fin 1024) (b : Fin 512) :
    final0_5 V c (ix2 a b : S1024x512.Idx) = out0_5 (iblk0 V c 0 t) (iblk0 V c 1 t) (iblk0 V c 2 t) (iblk0 V c 3 t) (ix2 a b) := by
  obtain rfl := fin_N0 t
  rfl

theorem arr0_5 : (dat0 V c).arrAt 5 cfg0.N = final0_5 V c := by
  refine (dat0 V c).arrAt_eq_of_cover 5 (final0_5 V c) (fun t _ => ?_) (fun i => ?_)
  · show (cfg0.win 5).cut (grid0.coords t) ((dat0 V c).after 5 t) = _
    rw [after0_5]
    have key : ∀ y : S1024x512.Idx, out0_5 (iblk0 V c 0 t) (iblk0 V c 1 t) (iblk0 V c 2 t) (iblk0 V c 3 t) y = final0_5 V c ((win0_5.rect t).emb y) := by
      intro y
      obtain ⟨a, b, rfl⟩ : ∃ (a : Fin 1024) (b : Fin 512), y = (ix2 a b : S1024x512.Idx) := ⟨y 0, y 1, eq_ix2 y⟩
      rw [emb0_5, final0_5_at]
    revert key
    generalize out0_5 (iblk0 V c 0 t) (iblk0 V c 1 t) (iblk0 V c 2 t) (iblk0 V c 3 t) = O
    generalize final0_5 V c = G
    intro key
    exact funext key
  · refine ⟨t0_0, flush0_5 _, ?_⟩
    refine Finset.mem_map.mpr ⟨(ix2 (i 0) (i 1) : S1024x512.Idx), Finset.mem_univ _, ?_⟩
    refine (emb0_5 t0_0 (i 0) (i 1)).trans ?_
    exact (eq_ix2 i).symm

end Lti
end
-- ==== Proof.Reg1.lean ====
/-
  The second product of tables: what its windows hold.
-/
module

public import proofs.«01_k».proof.Proof.Reg
public import proofs.«01_k».proof.Proof.Gen.KernelIdeal.Frame.Region1

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index1_0 (t : Fin grid1.N) : win1_0.index t = ![0, 0] := by
  revert t; decide +kernel

/-- Where window 0's block lies in its array. -/
theorem emb1_0 (t : Fin grid1.N) (a : Fin 512) (b : Fin 512) :
    (win1_0.rect t).emb (ix2 a b : S512x512.Idx) = (ix2 a b : S512x512.Idx) := by
  funext z
  apply Fin.ext
  refine (Pipeline.Window.rect_emb_val win1_0 t _ z).trans ?_
  rw [index1_0]
  fin_cases z
  · show 0 * 512 + a.val = a.val
    omega
  · show 0 * 512 + b.val = b.val
    omega

/-- Window 0's block at an index. -/
theorem iblk1_0_at (t : Fin cfg1.N) (a : Fin 512) (b : Fin 512) :
    (iblk1 V c 0 t : FVec Ideal S512x512 .f32) (ix2 a b) = (V c main_v48 : FVec Ideal S512x512 .f32) (ix2 a b : S512x512.Idx) := by
  show (V c main_v48 : FVec Ideal S512x512 .f32) ((win1_0.rect t).emb (ix2 a b)) = _
  rw [emb1_0]

theorem index1_1 (t : Fin grid1.N) : win1_1.index t = ![0, 0] := by
  revert t; decide +kernel

/-- Where window 1's block lies in its array. -/
theorem emb1_1 (t : Fin grid1.N) (a : Fin 512) (b : Fin 512) :
    (win1_1.rect t).emb (ix2 a b : S512x512.Idx) = (ix2 a b : S512x512.Idx) := by
  funext z
  apply Fin.ext
  refine (Pipeline.Window.rect_emb_val win1_1 t _ z).trans ?_
  rw [index1_1]
  fin_cases z
  · show 0 * 512 + a.val = a.val
    omega
  · show 0 * 512 + b.val = b.val
    omega

/-- Window 1's block at an index. -/
theorem iblk1_1_at (t : Fin cfg1.N) (a : Fin 512) (b : Fin 512) :
    (iblk1 V c 1 t : FVec Ideal S512x512 .f32) (ix2 a b) = (V c main_v51 : FVec Ideal S512x512 .f32) (ix2 a b : S512x512.Idx) := by
  show (V c main_v51 : FVec Ideal S512x512 .f32) ((win1_1.rect t).emb (ix2 a b)) = _
  rw [emb1_1]

theorem index1_2 (t : Fin grid1.N) : win1_2.index t = ![0, 0] := by
  revert t; decide +kernel

/-- Where window 2's block lies in its array. -/
theorem emb1_2 (t : Fin grid1.N) (a : Fin 512) (b : Fin 513) :
    (win1_2.rect t).emb (ix2 a b : S512x513.Idx) = (ix2 a b : S512x513.Idx) := by
  funext z
  apply Fin.ext
  refine (Pipeline.Window.rect_emb_val win1_2 t _ z).trans ?_
  rw [index1_2]
  fin_cases z
  · show 0 * 512 + a.val = a.val
    omega
  · show 0 * 513 + b.val = b.val
    omega

/-- Window 2's block at an index. -/
theorem iblk1_2_at (t : Fin cfg1.N) (a : Fin 512) (b : Fin 513) :
    (iblk1 V c 2 t : FVec Ideal S512x513 .f32) (ix2 a b) = (V c main_v84 : FVec Ideal S512x513 .f32) (ix2 a b : S512x513.Idx) := by
  show (V c main_v84 : FVec Ideal S512x513 .f32) ((win1_2.rect t).emb (ix2 a b)) = _
  rw [emb1_2]

theorem index1_3 (t : Fin grid1.N) : win1_3.index t = ![0, 0] := by
  revert t; decide +kernel

/-- Where window 3's block lies in its array. -/
theorem emb1_3 (t : Fin grid1.N) (a : Fin 512) (b : Fin 513) :
    (win1_3.rect t).emb (ix2 a b : S512x513.Idx) = (ix2 a b : S512x513.Idx) := by
  funext z
  apply Fin.ext
  refine (Pipeline.Window.rect_emb_val win1_3 t _ z).trans ?_
  rw [index1_3]
  fin_cases z
  · show 0 * 512 + a.val = a.val
    omega
  · show 0 * 513 + b.val = b.val
    omega

/-- Window 3's block at an index. -/
theorem iblk1_3_at (t : Fin cfg1.N) (a : Fin 512) (b : Fin 513) :
    (iblk1 V c 3 t : FVec Ideal S512x513 .f32) (ix2 a b) = (V c main_v86 : FVec Ideal S512x513 .f32) (ix2 a b : S512x513.Idx) := by
  show (V c main_v86 : FVec Ideal S512x513 .f32) ((win1_3.rect t).emb (ix2 a b)) = _
  rw [emb1_3]

theorem index1_4 (t : Fin grid1.N) : win1_4.index t = ![0, 0] := by
  revert t; decide +kernel

/-- Where window 4's block lies in its array. -/
theorem emb1_4 (t : Fin grid1.N) (a : Fin 512) (b : Fin 513) :
    (win1_4.rect t).emb (ix2 a b : S512x513.Idx) = (ix2 a b : S512x513.Idx) := by
  funext z
  apply Fin.ext
  refine (Pipeline.Window.rect_emb_val win1_4 t _ z).trans ?_
  rw [index1_4]
  fin_cases z
  · show 0 * 512 + a.val = a.val
    omega
  · show 0 * 513 + b.val = b.val
    omega

/-- What window 4's array holds at the end: at each index the body's result at the point whose block holds it. -/
def final1_4 : FVec Ideal S512x513 .f32 := fun i =>
  let t : Fin cfg1.N := t1_0
  out1_4 (iblk1 V c 0 t) (iblk1 V c 1 t) (iblk1 V c 2 t) (iblk1 V c 3 t) (ix2 (i 0) (i 1) : S512x513.Idx)

theorem final1_4_at (t : Fin cfg1.N) (a : Fin 512) (b : Fin 513) :
    final1_4 V c (ix2 a b : S512x513.Idx) = out1_4 (iblk1 V c 0 t) (iblk1 V c 1 t) (iblk1 V c 2 t) (iblk1 V c 3 t) (ix2 a b) := by
  obtain rfl := fin_N1 t
  rfl

theorem arr1_4 : (dat1 V c).arrAt 4 cfg1.N = final1_4 V c := by
  refine (dat1 V c).arrAt_eq_of_cover 4 (final1_4 V c) (fun t _ => ?_) (fun i => ?_)
  · show (cfg1.win 4).cut (grid1.coords t) ((dat1 V c).after 4 t) = _
    rw [after1_4]
    have key : ∀ y : S512x513.Idx, out1_4 (iblk1 V c 0 t) (iblk1 V c 1 t) (iblk1 V c 2 t) (iblk1 V c 3 t) y = final1_4 V c ((win1_4.rect t).emb y) := by
      intro y
      obtain ⟨a, b, rfl⟩ : ∃ (a : Fin 512) (b : Fin 513), y = (ix2 a b : S512x513.Idx) := ⟨y 0, y 1, eq_ix2 y⟩
      rw [emb1_4, final1_4_at]
    revert key
    generalize out1_4 (iblk1 V c 0 t) (iblk1 V c 1 t) (iblk1 V c 2 t) (iblk1 V c 3 t) = O
    generalize final1_4 V c = G
    intro key
    exact funext key
  · refine ⟨t1_0, flush1_4 _, ?_⟩
    refine Finset.mem_map.mpr ⟨(ix2 (i 0) (i 1) : S512x513.Idx), Finset.mem_univ _, ?_⟩
    refine (emb1_4 t1_0 (i 0) (i 1)).trans ?_
    exact (eq_ix2 i).symm

theorem index1_5 (t : Fin grid1.N) : win1_5.index t = ![0, 0] := by
  revert t; decide +kernel

/-- Where window 5's block lies in its array. -/
theorem emb1_5 (t : Fin grid1.N) (a : Fin 512) (b : Fin 513) :
    (win1_5.rect t).emb (ix2 a b : S512x513.Idx) = (ix2 a b : S512x513.Idx) := by
  funext z
  apply Fin.ext
  refine (Pipeline.Window.rect_emb_val win1_5 t _ z).trans ?_
  rw [index1_5]
  fin_cases z
  · show 0 * 512 + a.val = a.val
    omega
  · show 0 * 513 + b.val = b.val
    omega

/-- What window 5's array holds at the end: at each index the body's result at the point whose block holds it. -/
def final1_5 : FVec Ideal S512x513 .f32 := fun i =>
  let t : Fin cfg1.N := t1_0
  out1_5 (iblk1 V c 0 t) (iblk1 V c 1 t) (iblk1 V c 2 t) (iblk1 V c 3 t) (ix2 (i 0) (i 1) : S512x513.Idx)

theorem final1_5_at (t : Fin cfg1.N) (a : Fin 512) (b : Fin 513) :
    final1_5 V c (ix2 a b : S512x513.Idx) = out1_5 (iblk1 V c 0 t) (iblk1 V c 1 t) (iblk1 V c 2 t) (iblk1 V c 3 t) (ix2 a b) := by
  obtain rfl := fin_N1 t
  rfl

theorem arr1_5 : (dat1 V c).arrAt 5 cfg1.N = final1_5 V c := by
  refine (dat1 V c).arrAt_eq_of_cover 5 (final1_5 V c) (fun t _ => ?_) (fun i => ?_)
  · show (cfg1.win 5).cut (grid1.coords t) ((dat1 V c).after 5 t) = _
    rw [after1_5]
    have key : ∀ y : S512x513.Idx, out1_5 (iblk1 V c 0 t) (iblk1 V c 1 t) (iblk1 V c 2 t) (iblk1 V c 3 t) y = final1_5 V c ((win1_5.rect t).emb y) := by
      intro y
      obtain ⟨a, b, rfl⟩ : ∃ (a : Fin 512) (b : Fin 513), y = (ix2 a b : S512x513.Idx) := ⟨y 0, y 1, eq_ix2 y⟩
      rw [emb1_5, final1_5_at]
    revert key
    generalize out1_5 (iblk1 V c 0 t) (iblk1 V c 1 t) (iblk1 V c 2 t) (iblk1 V c 3 t) = O
    generalize final1_5 V c = G
    intro key
    exact funext key
  · refine ⟨t1_0, flush1_5 _, ?_⟩
    refine Finset.mem_map.mpr ⟨(ix2 (i 0) (i 1) : S512x513.Idx), Finset.mem_univ _, ?_⟩
    refine (emb1_5 t1_0 (i 0) (i 1)).trans ?_
    exact (eq_ix2 i).symm

end Lti
end
-- ==== Proof.Pay0.lean ====
/-
  The first product of tables: what the body stores.
-/
module

public import proofs.«01_k».proof.Proof.Reg
public import proofs.«01_k».proof.Proof.Gen.KernelIdeal.Frame.Region0

@[expose] public section

set_option maxRecDepth 4096

noncomputable section

namespace Lti

open Idealize.ShloMosaic Idealize.ShloMosaic.TcCoe Cert.KernelIdeal Cert.KernelIdeal.Gen

theorem out0_4_at (x0 : FVec Ideal S1024x512 .f32) (x1 : FVec Ideal S1024x512 .f32) (x2 : FVec Ideal S512x512 .f32) (x3 : FVec Ideal S512x512 .f32) (r : Fin 1024) (q : Fin 512) :
    @Eq EReal (out0_4 (F := Ideal) x0 x1 x2 x3 (ix2 r q))
      (cre (row x0 r) (row x1 r) (col x2 q) (col x3 q)) := by
  unfold out0_4
  rw [View.canon_unit_zero hz2]
  simp only [View.ld_unit_zero (S := S1024x512) hz2, View.ld_unit_zero (S := S512x512) hz2]
  pointwise [k0_pay1, k0_pay2, k0_pay3, k0_pay4, k0_pay5]
  rfl

theorem out0_5_at (x0 : FVec Ideal S1024x512 .f32) (x1 : FVec Ideal S1024x512 .f32) (x2 : FVec Ideal S512x512 .f32) (x3 : FVec Ideal S512x512 .f32) (r : Fin 1024) (q : Fin 512) :
    @Eq EReal (out0_5 (F := Ideal) x0 x1 x2 x3 (ix2 r q))
      (cim (row x0 r) (row x1 r) (col x2 q) (col x3 q)) := by
  unfold out0_5
  rw [View.canon_unit_zero hz2]
  simp only [View.ld_unit_zero (S := S1024x512) hz2, View.ld_unit_zero (S := S512x512) hz2]
  pointwise [k0_pay1, k0_pay2, k0_pay3, k0_pay4, k0_pay6]
  rfl

end Lti
end
-- ==== Proof.Pay1.lean ====
/-
  The second product of tables: what the body stores.
-/
module

public import proofs.«01_k».proof.Proof.Reg
public import proofs.«01_k».proof.Proof.Gen.KernelIdeal.Frame.Region1

@[expose] public section

set_option maxRecDepth 4096

noncomputable section

namespace Lti

open Idealize.ShloMosaic Idealize.ShloMosaic.TcCoe Cert.KernelIdeal Cert.KernelIdeal.Gen

theorem out1_4_at (x0 : FVec Ideal S512x512 .f32) (x1 : FVec Ideal S512x512 .f32) (x2 : FVec Ideal S512x513 .f32) (x3 : FVec Ideal S512x513 .f32) (r : Fin 512) (q : Fin 513) :
    @Eq EReal (out1_4 (F := Ideal) x0 x1 x2 x3 (ix2 r q))
      (cre (row x0 r) (row x1 r) (col x2 q) (col x3 q)) := by
  unfold out1_4
  rw [View.canon_unit_zero hz2]
  simp only [View.ld_unit_zero (S := S512x512) hz2, View.ld_unit_zero (S := S512x513) hz2]
  pointwise [k1_pay1, k1_pay2, k1_pay3, k1_pay4, k1_pay5]
  rfl

theorem out1_5_at (x0 : FVec Ideal S512x512 .f32) (x1 : FVec Ideal S512x512 .f32) (x2 : FVec Ideal S512x513 .f32) (x3 : FVec Ideal S512x513 .f32) (r : Fin 512) (q : Fin 513) :
    @Eq EReal (out1_5 (F := Ideal) x0 x1 x2 x3 (ix2 r q))
      (cim (row x0 r) (row x1 r) (col x2 q) (col x3 q)) := by
  unfold out1_5
  rw [View.canon_unit_zero hz2]
  simp only [View.ld_unit_zero (S := S512x512) hz2, View.ld_unit_zero (S := S512x513) hz2]
  pointwise [k1_pay1, k1_pay2, k1_pay3, k1_pay4, k1_pay6]
  rfl

end Lti
end
-- ==== Proof.KStep0.lean ====
/-
  The kernel's products of tables: the row step and the column step from the spectrum of order 512 to that of order 1024.
-/
module

public import proofs.«01_k».proof.Proof.Keep
public import proofs.«01_k».proof.Proof.Reg0
public import proofs.«01_k».proof.Proof.Reg1
public import proofs.«01_k».proof.Proof.Pay0
public import proofs.«01_k».proof.Proof.Pay1

@[expose] public section

noncomputable section

namespace Lti

open Idealize.ShloMosaic Idealize.ShloMosaic.StableHlo Cert.KernelIdeal Cert.KernelIdeal.Gen
open Idealize.ShloMosaic.TcCoe ComplexConjugate

theorem IsC.of_eq {r i r' i' : EReal} {z : ℂ} (h1 : r = r') (h2 : i = i') (h : IsC r' i' z) : IsC r i z := by
  rw [h1, h2]; exact h

variable (m : (ℓ : Loc nD τ sig) → Buf (Elt Ideal) ℓ) (ρ : Dev nD → PrngReg) (c : Dev nD)

theorem inv_at_13 (a b : Fin 512) : IsC ((W13 m ρ c (Proc.devRef .tc main_v48) : FVec Ideal S512x512 .f32) (ix2 a b))
    ((W13 m ρ c (Proc.devRef .tc main_v51) : FVec Ideal S512x512 .f32) (ix2 a b)) (inv512 a.val b.val) := by
  rw [keep_v48_13, keep_v51_13]
  exact ⟨inv_re m ρ c (ix2 a b), inv_im m ρ c (ix2 a b)⟩

theorem inv_at_17 (a b : Fin 512) : IsC ((W17 m ρ c (Proc.devRef .tc main_v48) : FVec Ideal S512x512 .f32) (ix2 a b))
    ((W17 m ρ c (Proc.devRef .tc main_v51) : FVec Ideal S512x512 .f32) (ix2 a b)) (inv512 a.val b.val) := by
  rw [keep_v48_17, keep_v51_17]
  exact ⟨inv_re m ρ c (ix2 a b), inv_im m ρ c (ix2 a b)⟩

/-- The first product of tables is the row step. -/
theorem m1_is (f : Fin 1024) (k : Fin 512) :
    IsC ((W14 m ρ c (Proc.devRef .tc main_v68_0) : FVec Ideal S1024x512 .f32) (ix2 f k))
      ((W14 m ρ c (Proc.devRef .tc main_v68_1) : FVec Ideal S1024x512 .f32) (ix2 f k)) (rowStep f.val k.val) := by
  have e0 : W14 m ρ c (Proc.devRef .tc main_v68_0) = final0_4 (V13 m ρ) c := (W14_arr m ρ c 4).trans (arr0_4 _ c)
  have e1 : W14 m ρ c (Proc.devRef .tc main_v68_1) = final0_5 (V13 m ρ) c := (W14_arr m ρ c 5).trans (arr0_5 _ c)
  rw [e0, e1]
  refine IsC.of_eq ((final0_4_at (V13 m ρ) c t0_0 f k).trans (out0_4_at _ _ _ _ f k))
    ((final0_5_at (V13 m ρ) c t0_0 f k).trans (out0_5_at _ _ _ _ f k)) ?_
  refine IsC.mm (z := fun n => W 1024 (f.val * n.val)) (w := fun n => inv512 n.val k.val) (fun n => ⟨?_, ?_⟩)
    (fun n => IsC.of_eq ?_ ?_ (inv_at_13 m ρ c n k))
  · exact (iblk0_0_at (V13 m ρ) c t0_0 f n).trans (e10_cos m ρ c (ix2 f n))
  · exact (iblk0_1_at (V13 m ρ) c t0_0 f n).trans (e10_sin m ρ c (ix2 f n))
  · exact iblk0_2_at (V13 m ρ) c t0_0 n k
  · exact iblk0_3_at (V13 m ρ) c t0_0 n k

/-- The second product of tables is the column step. -/
theorem m2_is (l : Fin 512) (q : Fin 513) :
    IsC ((W18 m ρ c (Proc.devRef .tc main_v87_0) : FVec Ideal S512x513 .f32) (ix2 l q))
      ((W18 m ρ c (Proc.devRef .tc main_v87_1) : FVec Ideal S512x513 .f32) (ix2 l q)) (colStep l.val q.val) := by
  have e0 : W18 m ρ c (Proc.devRef .tc main_v87_0) = final1_4 (V17 m ρ) c := (W18_arr m ρ c 4).trans (arr1_4 _ c)
  have e1 : W18 m ρ c (Proc.devRef .tc main_v87_1) = final1_5 (V17 m ρ) c := (W18_arr m ρ c 5).trans (arr1_5 _ c)
  rw [e0, e1]
  refine IsC.of_eq ((final1_4_at (V17 m ρ) c t1_0 l q).trans (out1_4_at _ _ _ _ l q))
    ((final1_5_at (V17 m ρ) c t1_0 l q).trans (out1_5_at _ _ _ _ l q)) ?_
  refine IsC.mm (z := fun n => inv512 l.val n.val) (w := fun n => W 1024 (n.val * q.val))
    (fun n => IsC.of_eq ?_ ?_ (inv_at_17 m ρ c l n)) (fun n => ⟨?_, ?_⟩)
  · exact iblk1_0_at (V17 m ρ) c t1_0 l n
  · exact iblk1_1_at (V17 m ρ) c t1_0 l n
  · exact (iblk1_2_at (V17 m ρ) c t1_0 n q).trans (c_cos m ρ c (ix2 n q))
  · exact (iblk1_3_at (V17 m ρ) c t1_0 n q).trans (c_sin m ρ c (ix2 n q))

/-- The odd rows of the first, which the host takes. -/
theorem m1_odd (k l : Fin 512) :
    IsC ((W15 m ρ c (Proc.devRef .tc main_v69) : FVec Ideal S512x512 .f32) (ix2 k l))
      ((W15 m ρ c (Proc.devRef .tc main_v70) : FVec Ideal S512x512 .f32) (ix2 k l)) (rowStep (2 * k.val + 1) l.val) := by
  have h := m1_is m ρ c ⟨1 + 2 * k.val, by omega⟩ l
  rw [show 2 * k.val + 1 = 1 + 2 * k.val from by omega]
  revert h
  show IsC _ _ _ → IsC ((after (hostOps1 : List (HloOp τ sig (Elt Ideal))) (W14 m ρ c) (Proc.devRef .tc main_v69) : FVec Ideal S512x512 .f32) (ix2 k l))
    ((after (hostOps1 : List (HloOp τ sig (Elt Ideal))) (W14 m ρ c) (Proc.devRef .tc main_v70) : FVec Ideal S512x512 .f32) (ix2 k l)) _
  generalize W14 m ρ c = V
  intro h
  simp only [hostOps1, TRef.ternary, TRef.unary, TRef.binary, TRef.nullary, TRef.toBuf, TRef.ofBuf, cast_eq]
  after_results_simp
  pointwise
  exact h

end Lti
end
-- ==== Proof.Reg2.lean ====
/-
  The quotient of the two transforms: what its windows hold.
-/
module

public import proofs.«01_k».proof.Proof.Reg
public import proofs.«01_k».proof.Proof.Gen.KernelIdeal.Frame.Region2

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index2_0 (t : Fin grid2.N) : win2_0.index t = ![t.val, 0, 0] := by
  revert t; decide +kernel

/-- Where window 0's block lies in its array. -/
theorem emb2_0 (t : Fin grid2.N) (a : Fin 1) (b : Fin 16) (d : Fin 16) :
    (win2_0.rect t).emb (ix3 a b d : S1x16x16.Idx) = (ix3 ⟨t.val, t.isLt⟩ b d : S256x16x16.Idx) := by
  funext z
  apply Fin.ext
  refine (Pipeline.Window.rect_emb_val win2_0 t _ z).trans ?_
  rw [index2_0]
  fin_cases z
  · show t.val * 1 + a.val = t.val
    have := a.isLt; omega
  · show 0 * 16 + b.val = b.val
    omega
  · show 0 * 16 + d.val = d.val
    omega

/-- Window 0's block at an index. -/
theorem iblk2_0_at (t : Fin cfg2.N) (a : Fin 1) (b : Fin 16) (d : Fin 16) :
    (iblk2 V c 0 t : FVec Ideal S1x16x16 .f32) (ix3 a b d) = (V c main_v5 : FVec Ideal S256x16x16 .f32) (ix3 ⟨t.val, t.isLt⟩ b d : S256x16x16.Idx) := by
  show (V c main_v5 : FVec Ideal S256x16x16 .f32) ((win2_0.rect t).emb (ix3 a b d)) = _
  rw [emb2_0]

theorem index2_1 (t : Fin grid2.N) : win2_1.index t = ![t.val, 0, 0] := by
  revert t; decide +kernel

/-- Where window 1's block lies in its array. -/
theorem emb2_1 (t : Fin grid2.N) (a : Fin 1) (b : Fin 16) (d : Fin 16) :
    (win2_1.rect t).emb (ix3 a b d : S1x16x16.Idx) = (ix3 ⟨t.val, t.isLt⟩ b d : S256x16x16.Idx) := by
  funext z
  apply Fin.ext
  refine (Pipeline.Window.rect_emb_val win2_1 t _ z).trans ?_
  rw [index2_1]
  fin_cases z
  · show t.val * 1 + a.val = t.val
    have := a.isLt; omega
  · show 0 * 16 + b.val = b.val
    omega
  · show 0 * 16 + d.val = d.val
    omega

/-- Window 1's block at an index. -/
theorem iblk2_1_at (t : Fin cfg2.N) (a : Fin 1) (b : Fin 16) (d : Fin 16) :
    (iblk2 V c 1 t : FVec Ideal S1x16x16 .f32) (ix3 a b d) = (V c main_v7 : FVec Ideal S256x16x16 .f32) (ix3 ⟨t.val, t.isLt⟩ b d : S256x16x16.Idx) := by
  show (V c main_v7 : FVec Ideal S256x16x16 .f32) ((win2_1.rect t).emb (ix3 a b d)) = _
  rw [emb2_1]

theorem index2_2 (t : Fin grid2.N) : win2_2.index t = ![0, 0] := by
  revert t; decide +kernel

/-- Where window 2's block lies in its array. -/
theorem emb2_2 (t : Fin grid2.N) (a : Fin 512) (b : Fin 16) :
    (win2_2.rect t).emb (ix2 a b : S512x16.Idx) = (ix2 a b : S512x16.Idx) := by
  funext z
  apply Fin.ext
  refine (Pipeline.Window.rect_emb_val win2_2 t _ z).trans ?_
  rw [index2_2]
  fin_cases z
  · show 0 * 512 + a.val = a.val
    omega
  · show 0 * 16 + b.val = b.val
    omega

/-- Window 2's block at an index. -/
theorem iblk2_2_at (t : Fin cfg2.N) (a : Fin 512) (b : Fin 16) :
    (iblk2 V c 2 t : FVec Ideal S512x16 .f32) (ix2 a b) = (V c main_v167 : FVec Ideal S512x16 .f32) (ix2 a b : S512x16.Idx) := by
  show (V c main_v167 : FVec Ideal S512x16 .f32) ((win2_2.rect t).emb (ix2 a b)) = _
  rw [emb2_2]

theorem index2_3 (t : Fin grid2.N) : win2_3.index t = ![0, 0] := by
  revert t; decide +kernel

/-- Where window 3's block lies in its array. -/
theorem emb2_3 (t : Fin grid2.N) (a : Fin 512) (b : Fin 16) :
    (win2_3.rect t).emb (ix2 a b : S512x16.Idx) = (ix2 a b : S512x16.Idx) := by
  funext z
  apply Fin.ext
  refine (Pipeline.Window.rect_emb_val win2_3 t _ z).trans ?_
  rw [index2_3]
  fin_cases z
  · show 0 * 512 + a.val = a.val
    omega
  · show 0 * 16 + b.val = b.val
    omega

/-- Window 3's block at an index. -/
theorem iblk2_3_at (t : Fin cfg2.N) (a : Fin 512) (b : Fin 16) :
    (iblk2 V c 3 t : FVec Ideal S512x16 .f32) (ix2 a b) = (V c main_v169 : FVec Ideal S512x16 .f32) (ix2 a b : S512x16.Idx) := by
  show (V c main_v169 : FVec Ideal S512x16 .f32) ((win2_3.rect t).emb (ix2 a b)) = _
  rw [emb2_3]

theorem index2_4 (t : Fin grid2.N) : win2_4.index t = ![0, 0] := by
  revert t; decide +kernel

/-- Where window 4's block lies in its array. -/
theorem emb2_4 (t : Fin grid2.N) (a : Fin 16) (b : Fin 257) :
    (win2_4.rect t).emb (ix2 a b : S16x257.Idx) = (ix2 a b : S16x257.Idx) := by
  funext z
  apply Fin.ext
  refine (Pipeline.Window.rect_emb_val win2_4 t _ z).trans ?_
  rw [index2_4]
  fin_cases z
  · show 0 * 16 + a.val = a.val
    omega
  · show 0 * 257 + b.val = b.val
    omega

/-- Window 4's block at an index. -/
theorem iblk2_4_at (t : Fin cfg2.N) (a : Fin 16) (b : Fin 257) :
    (iblk2 V c 4 t : FVec Ideal S16x257 .f32) (ix2 a b) = (V c main_v183 : FVec Ideal S16x257 .f32) (ix2 a b : S16x257.Idx) := by
  show (V c main_v183 : FVec Ideal S16x257 .f32) ((win2_4.rect t).emb (ix2 a b)) = _
  rw [emb2_4]

theorem index2_5 (t : Fin grid2.N) : win2_5.index t = ![0, 0] := by
  revert t; decide +kernel

/-- Where window 5's block lies in its array. -/
theorem emb2_5 (t : Fin grid2.N) (a : Fin 16) (b : Fin 257) :
    (win2_5.rect t).emb (ix2 a b : S16x257.Idx) = (ix2 a b : S16x257.Idx) := by
  funext z
  apply Fin.ext
  refine (Pipeline.Window.rect_emb_val win2_5 t _ z).trans ?_
  rw [index2_5]
  fin_cases z
  · show 0 * 16 + a.val = a.val
    omega
  · show 0 * 257 + b.val = b.val
    omega

/-- Window 5's block at an index. -/
theorem iblk2_5_at (t : Fin cfg2.N) (a : Fin 16) (b : Fin 257) :
    (iblk2 V c 5 t : FVec Ideal S16x257 .f32) (ix2 a b) = (V c main_v185 : FVec Ideal S16x257 .f32) (ix2 a b : S16x257.Idx) := by
  show (V c main_v185 : FVec Ideal S16x257 .f32) ((win2_5.rect t).emb (ix2 a b)) = _
  rw [emb2_5]

theorem index2_6 (t : Fin grid2.N) : win2_6.index t = ![t.val, 0, 0] := by
  revert t; decide +kernel

/-- Where window 6's block lies in its array. -/
theorem emb2_6 (t : Fin grid2.N) (a : Fin 1) (b : Fin 512) (d : Fin 257) :
    (win2_6.rect t).emb (ix3 a b d : S1x512x257.Idx) = (ix3 ⟨t.val, t.isLt⟩ b d : S256x512x257.Idx) := by
  funext z
  apply Fin.ext
  refine (Pipeline.Window.rect_emb_val win2_6 t _ z).trans ?_
  rw [index2_6]
  fin_cases z
  · show t.val * 1 + a.val = t.val
    have := a.isLt; omega
  · show 0 * 512 + b.val = b.val
    omega
  · show 0 * 257 + d.val = d.val
    omega

/-- What window 6's array holds at the end: at each index the body's result at the point whose block holds it. -/
def final2_6 : FVec Ideal S256x512x257 .f32 := fun i =>
  let t : Fin cfg2.N := ⟨(i 0).val, (i 0).isLt⟩
  out2_6 (iblk2 V c 0 t) (iblk2 V c 1 t) (iblk2 V c 2 t) (iblk2 V c 3 t) (iblk2 V c 4 t) (iblk2 V c 5 t) (ix3 0 (i 1) (i 2) : S1x512x257.Idx)

theorem final2_6_at (t : Fin cfg2.N) (a : Fin 1) (b : Fin 512) (d : Fin 257) :
    final2_6 V c (ix3 ⟨t.val, t.isLt⟩ b d : S256x512x257.Idx) = out2_6 (iblk2 V c 0 t) (iblk2 V c 1 t) (iblk2 V c 2 t) (iblk2 V c 3 t) (iblk2 V c 4 t) (iblk2 V c 5 t) (ix3 a b d) := by
  obtain rfl : a = 0 := Subsingleton.elim _ _
  rfl

theorem arr2_6 : (dat2 V c).arrAt 6 cfg2.N = final2_6 V c := by
  refine (dat2 V c).arrAt_eq_of_cover 6 (final2_6 V c) (fun t _ => ?_) (fun i => ?_)
  · show (cfg2.win 6).cut (grid2.coords t) ((dat2 V c).after 6 t) = _
    rw [after2_6]
    have key : ∀ y : S1x512x257.Idx, out2_6 (iblk2 V c 0 t) (iblk2 V c 1 t) (iblk2 V c 2 t) (iblk2 V c 3 t) (iblk2 V c 4 t) (iblk2 V c 5 t) y = final2_6 V c ((win2_6.rect t).emb y) := by
      intro y
      obtain ⟨a, b, d, rfl⟩ : ∃ (a : Fin 1) (b : Fin 512) (d : Fin 257), y = (ix3 a b d : S1x512x257.Idx) := ⟨y 0, y 1, y 2, eq_ix3 y⟩
      rw [emb2_6, final2_6_at]
    revert key
    generalize out2_6 (iblk2 V c 0 t) (iblk2 V c 1 t) (iblk2 V c 2 t) (iblk2 V c 3 t) (iblk2 V c 4 t) (iblk2 V c 5 t) = O
    generalize final2_6 V c = G
    intro key
    exact funext key
  · refine ⟨⟨(i 0).val, (i 0).isLt⟩, flush2_6 _, ?_⟩
    refine Finset.mem_map.mpr ⟨(ix3 0 (i 1) (i 2) : S1x512x257.Idx), Finset.mem_univ _, ?_⟩
    refine (emb2_6 ⟨(i 0).val, (i 0).isLt⟩ 0 (i 1) (i 2)).trans ?_
    exact (eq_ix3 i).symm

theorem index2_7 (t : Fin grid2.N) : win2_7.index t = ![t.val, 0, 0] := by
  revert t; decide +kernel

/-- Where window 7's block lies in its array. -/
theorem emb2_7 (t : Fin grid2.N) (a : Fin 1) (b : Fin 512) (d : Fin 257) :
    (win2_7.rect t).emb (ix3 a b d : S1x512x257.Idx) = (ix3 ⟨t.val, t.isLt⟩ b d : S256x512x257.Idx) := by
  funext z
  apply Fin.ext
  refine (Pipeline.Window.rect_emb_val win2_7 t _ z).trans ?_
  rw [index2_7]
  fin_cases z
  · show t.val * 1 + a.val = t.val
    have := a.isLt; omega
  · show 0 * 512 + b.val = b.val
    omega
  · show 0 * 257 + d.val = d.val
    omega

/-- What window 7's array holds at the end: at each index the body's result at the point whose block holds it. -/
def final2_7 : FVec Ideal S256x512x257 .f32 := fun i =>
  let t : Fin cfg2.N := ⟨(i 0).val, (i 0).isLt⟩
  out2_7 (iblk2 V c 0 t) (iblk2 V c 1 t) (iblk2 V c 2 t) (iblk2 V c 3 t) (iblk2 V c 4 t) (iblk2 V c 5 t) (ix3 0 (i 1) (i 2) : S1x512x257.Idx)

theorem final2_7_at (t : Fin cfg2.N) (a : Fin 1) (b : Fin 512) (d : Fin 257) :
    final2_7 V c (ix3 ⟨t.val, t.isLt⟩ b d : S256x512x257.Idx) = out2_7 (iblk2 V c 0 t) (iblk2 V c 1 t) (iblk2 V c 2 t) (iblk2 V c 3 t) (iblk2 V c 4 t) (iblk2 V c 5 t) (ix3 a b d) := by
  obtain rfl : a = 0 := Subsingleton.elim _ _
  rfl

theorem arr2_7 : (dat2 V c).arrAt 7 cfg2.N = final2_7 V c := by
  refine (dat2 V c).arrAt_eq_of_cover 7 (final2_7 V c) (fun t _ => ?_) (fun i => ?_)
  · show (cfg2.win 7).cut (grid2.coords t) ((dat2 V c).after 7 t) = _
    rw [after2_7]
    have key : ∀ y : S1x512x257.Idx, out2_7 (iblk2 V c 0 t) (iblk2 V c 1 t) (iblk2 V c 2 t) (iblk2 V c 3 t) (iblk2 V c 4 t) (iblk2 V c 5 t) y = final2_7 V c ((win2_7.rect t).emb y) := by
      intro y
      obtain ⟨a, b, d, rfl⟩ : ∃ (a : Fin 1) (b : Fin 512) (d : Fin 257), y = (ix3 a b d : S1x512x257.Idx) := ⟨y 0, y 1, y 2, eq_ix3 y⟩
      rw [emb2_7, final2_7_at]
    revert key
    generalize out2_7 (iblk2 V c 0 t) (iblk2 V c 1 t) (iblk2 V c 2 t) (iblk2 V c 3 t) (iblk2 V c 4 t) (iblk2 V c 5 t) = O
    generalize final2_7 V c = G
    intro key
    exact funext key
  · refine ⟨⟨(i 0).val, (i 0).isLt⟩, flush2_7 _, ?_⟩
    refine Finset.mem_map.mpr ⟨(ix3 0 (i 1) (i 2) : S1x512x257.Idx), Finset.mem_univ _, ?_⟩
    refine (emb2_7 ⟨(i 0).val, (i 0).isLt⟩ 0 (i 1) (i 2)).trans ?_
    exact (eq_ix3 i).symm

end Lti
end
-- ==== Proof.Pay2.lean ====
/-
  The quotient of the two transforms: what the body stores.
-/
module

public import proofs.«01_k».proof.Proof.Reg
public import proofs.«01_k».proof.Proof.Gen.KernelIdeal.Frame.Region2

@[expose] public section

set_option maxRecDepth 4096

noncomputable section

namespace Lti

open Idealize.ShloMosaic Idealize.ShloMosaic.TcCoe Cert.KernelIdeal Cert.KernelIdeal.Gen

/-- A block's transform, as the body spells it: along the rows, then along the columns. -/
def tre (x : FVec Ideal S1x16x16 .f32) (x2 x3 : FVec Ideal S512x16 .f32) (x4 x5 : FVec Ideal S16x257 .f32) (r : Fin 512)
    (q : Fin 257) : EReal :=
  cre (fun j => dotp (row x2 r) (col3 x 0 j)) (fun j => dotp (row x3 r) (col3 x 0 j)) (col x4 q) (col x5 q)
def tim (x : FVec Ideal S1x16x16 .f32) (x2 x3 : FVec Ideal S512x16 .f32) (x4 x5 : FVec Ideal S16x257 .f32) (r : Fin 512)
    (q : Fin 257) : EReal :=
  cim (fun j => dotp (row x2 r) (col3 x 0 j)) (fun j => dotp (row x3 r) (col3 x 0 j)) (col x4 q) (col x5 q)

theorem out2_6_at (x0 : FVec Ideal S1x16x16 .f32) (x1 : FVec Ideal S1x16x16 .f32) (x2 : FVec Ideal S512x16 .f32) (x3 : FVec Ideal S512x16 .f32) (x4 : FVec Ideal S16x257 .f32) (x5 : FVec Ideal S16x257 .f32) (r : Fin 512) (q : Fin 257) :
    @Eq EReal (out2_6 (F := Ideal) x0 x1 x2 x3 x4 x5 (ix3 0 r q))
      (Ideal.div (tre x1 x2 x3 x4 x5 r q * tre x0 x2 x3 x4 x5 r q + tim x1 x2 x3 x4 x5 r q * tim x0 x2 x3 x4 x5 r q) (tre x0 x2 x3 x4 x5 r q * tre x0 x2 x3 x4 x5 r q + tim x0 x2 x3 x4 x5 r q * tim x0 x2 x3 x4 x5 r q)) := by
  unfold_out out2_6
  rw [View.canon_unit_zero hz3]
  simp only [View.ld_unit_zero (S := S1x16x16) hz3, View.ld_unit_zero (S := S512x16) hz2, View.ld_unit_zero (S := S16x257) hz2]
  pointwise [k2_pay5, k2_pay6, k2_pay1, k2_pay2, k2_pay3, k2_pay4, k2_pay7, k2_pay8, k2_pay9, k2_pay10, k2_pay11, k2_pay12, k2_pay13, k2_pay14, k2_pay15]
  rfl

theorem out2_7_at (x0 : FVec Ideal S1x16x16 .f32) (x1 : FVec Ideal S1x16x16 .f32) (x2 : FVec Ideal S512x16 .f32) (x3 : FVec Ideal S512x16 .f32) (x4 : FVec Ideal S16x257 .f32) (x5 : FVec Ideal S16x257 .f32) (r : Fin 512) (q : Fin 257) :
    @Eq EReal (out2_7 (F := Ideal) x0 x1 x2 x3 x4 x5 (ix3 0 r q))
      (Ideal.div (tim x1 x2 x3 x4 x5 r q * tre x0 x2 x3 x4 x5 r q - tre x1 x2 x3 x4 x5 r q * tim x0 x2 x3 x4 x5 r q) (tre x0 x2 x3 x4 x5 r q * tre x0 x2 x3 x4 x5 r q + tim x0 x2 x3 x4 x5 r q * tim x0 x2 x3 x4 x5 r q)) := by
  unfold_out out2_7
  rw [View.canon_unit_zero hz3]
  simp only [View.ld_unit_zero (S := S1x16x16) hz3, View.ld_unit_zero (S := S512x16) hz2, View.ld_unit_zero (S := S16x257) hz2]
  pointwise [k2_pay5, k2_pay6, k2_pay1, k2_pay2, k2_pay3, k2_pay4, k2_pay7, k2_pay8, k2_pay9, k2_pay10, k2_pay11, k2_pay12, k2_pay13, k2_pay14, k2_pay15]
  rfl

end Lti
end
-- ==== Proof.KStep2.lean ====
/-
  The kernel's quotient of transforms.
-/
module

public import proofs.«01_k».proof.Proof.KHead
public import proofs.«01_k».proof.Proof.KStep0
public import proofs.«01_k».proof.Proof.Reg2
public import proofs.«01_k».proof.Proof.Pay2

@[expose] public section

noncomputable section

namespace Lti

open Idealize.ShloMosaic Idealize.ShloMosaic.StableHlo Cert.KernelIdeal Cert.KernelIdeal.Gen
open Idealize.ShloMosaic.TcCoe ComplexConjugate

/-- A real block's transform is its spectrum. -/
theorem tre_is (x : FVec Ideal S1x16x16 .f32) (x2 x3 : FVec Ideal S512x16 .f32) (x4 x5 : FVec Ideal S16x257 .f32)
    (a : ℕ → ℕ → ℝ) (hx : ∀ n j : Fin 16, @Eq EReal (x (ix3 0 n j)) (a n.val j.val : ℝ))
    (h23 : ∀ (r : Fin 512) (n : Fin 16), IsC (x2 (ix2 r n)) (x3 (ix2 r n)) (W 512 (r.val * n.val)))
    (h45 : ∀ (j : Fin 16) (q : Fin 257), IsC (x4 (ix2 j q)) (x5 (ix2 j q)) (W 512 (j.val * q.val)))
    (r : Fin 512) (q : Fin 257) : IsC (tre x x2 x3 x4 x5 r q) (tim x x2 x3 x4 x5 r q) (spec 16 a r.val q.val) := by
  rw [← spec_swap]
  refine IsC.mm (z := fun j => ∑ n : Fin 16, W 512 (r.val * n.val) * (a n.val j.val : ℂ)) (w := fun j => W 512 (j.val * q.val))
    (fun j => ?_) (fun j => h45 j q)
  exact IsC.mulr (fun n => h23 r n) (fun n => hx n j)

variable (m : (ℓ : Loc nD τ sig) → Buf (Elt Ideal) ℓ) (ρ : Dev nD → PrngReg) (c : Dev nD)

theorem w1_at_27 (r : Fin 512) (n : Fin 16) : IsC ((W27 m ρ c (Proc.devRef .tc main_v167) : FVec Ideal S512x16 .f32) (ix2 r n))
    ((W27 m ρ c (Proc.devRef .tc main_v169) : FVec Ideal S512x16 .f32) (ix2 r n)) (W 512 (r.val * n.val)) := by
  rw [keep_v167_27, keep_v169_27]
  exact ⟨w1_cos m ρ c (ix2 r n), w1_sin m ρ c (ix2 r n)⟩

/-- The quotient's two halves are `alpha`. -/
theorem quo_is (g3 g2 : Fin 16 → Fin 16 → Fin 8 → Fin 8 → ℝ) (h3 : DenReal m c g3) (h2 : NumReal m c g2)
    (hz : ∀ i o, Nz (g3 i o)) (t : Fin 256) (r : Fin 512) (q : Fin 257) :
    IsC ((W28 m ρ c (Proc.devRef .tc main_v186_0) : FVec Ideal S256x512x257 .f32) (ix3 t r q))
      ((W28 m ρ c (Proc.devRef .tc main_v186_1) : FVec Ideal S256x512x257 .f32) (ix3 t r q))
      (alpha (g3 (chI t) (chO t)) (g2 (chI t) (chO t)) r.val q.val) := by
  have e0 : W28 m ρ c (Proc.devRef .tc main_v186_0) = final2_6 (V27 m ρ) c := (W28_arr m ρ c 6).trans (arr2_6 _ c)
  have e1 : W28 m ρ c (Proc.devRef .tc main_v186_1) = final2_7 (V27 m ρ) c := (W28_arr m ρ c 7).trans (arr2_7 _ c)
  rw [e0, e1]
  have ht : t.val < cfg2.N := by have := t.isLt; have e : cfg2.N = 256 := N_2; omega
  refine IsC.of_eq ((final2_6_at (V27 m ρ) c ⟨t.val, ht⟩ 0 r q).trans (out2_6_at _ _ _ _ _ _ r q))
    ((final2_7_at (V27 m ρ) c ⟨t.val, ht⟩ 0 r q).trans (out2_7_at _ _ _ _ _ _ r q)) ?_
  have h23 := fun (r : Fin 512) (n : Fin 16) => IsC.of_eq (iblk2_2_at (V27 m ρ) c ⟨t.val, ht⟩ r n) (iblk2_3_at (V27 m ρ) c ⟨t.val, ht⟩ r n) (w1_at_27 m ρ c r n)
  have h45 := fun (j : Fin 16) (q : Fin 257) => IsC.of_eq (iblk2_4_at (V27 m ρ) c ⟨t.val, ht⟩ j q) (iblk2_5_at (V27 m ρ) c ⟨t.val, ht⟩ j q)
    (⟨w2_cos m ρ c (ix2 j q), w2_sin m ρ c (ix2 j q)⟩ : IsC _ _ (W 512 (j.val * q.val)))
  unfold alpha
  rw [← spec_padR, ← spec_padR]
  refine IsC.quo ?_ ?_ ?_
  · exact tre_is _ _ _ _ _ _ (fun n j => (iblk2_1_at (V27 m ρ) c ⟨t.val, ht⟩ 0 n j).trans (v7_at m ρ c g2 h2 t n j)) h23 h45 r q
  · exact tre_is _ _ _ _ _ _ (fun n j => (iblk2_0_at (V27 m ρ) c ⟨t.val, ht⟩ 0 n j).trans (v5_at m ρ c g3 h3 t n j)) h23 h45 r q
  · rw [spec_padR]
    exact hz _ _ r.val r.isLt q.val q.isLt

end Lti
end
-- ==== Proof.KExt.lean ====
/-
  The quotient continued to all 512 columns by conjugate symmetry.
-/
module

public import proofs.«01_k».proof.Proof.KStep2

@[expose] public section

noncomputable section

namespace Lti

open Idealize.ShloMosaic Idealize.ShloMosaic.StableHlo Cert.KernelIdeal Cert.KernelIdeal.Gen
open Idealize.ShloMosaic.TcCoe ComplexConjugate

theorem ix3_congr {n0 n1 n2 : ℕ} {a a' : Fin n0} {b b' : Fin n1} {d d' : Fin n2} (ha : a.val = a'.val) (hb : b.val = b'.val)
    (hd : d.val = d'.val) : ix3 a b d = ix3 a' b' d' := by
  rw [Fin.ext ha, Fin.ext hb, Fin.ext hd]

variable (m : (ℓ : Loc nD τ sig) → Buf (Elt Ideal) ℓ) (ρ : Dev nD → PrngReg) (c : Dev nD)

/-- Rows reversed. -/
theorem v187_at (t : Fin 256) (a : Fin 512) (b : Fin 257) :
    @Eq EReal ((W29 m ρ c (Proc.devRef .tc main_v187) : FVec Ideal S256x512x257 .f32) (ix3 t a b))
      ((W28 m ρ c (Proc.devRef .tc main_v186_0) : FVec Ideal S256x512x257 .f32) (ix3 t a.rev b)) := by
  show @Eq EReal ((after (hostOps3 : List (HloOp τ sig (Elt Ideal))) (W28 m ρ c) (Proc.devRef .tc main_v187) : FVec Ideal S256x512x257 .f32) _) _
  generalize W28 m ρ c = V
  simp only [hostOps3, TRef.ternary, TRef.unary, TRef.binary, TRef.nullary, TRef.toBuf, TRef.ofBuf, cast_eq]
  after_results_simp
  pointwise
  rfl

/-- Rows turned by one. -/
theorem v188_at (t : Fin 256) (a : Fin 512) (b : Fin 257) :
    @Eq EReal ((W30 m ρ c (Proc.devRef .tc main_v188) : FVec Ideal S256x512x257 .f32) (ix3 t a b))
      ((W29 m ρ c (Proc.devRef .tc main_v187) : FVec Ideal S256x512x257 .f32) (ix3 t ⟨(a.val + 511) % 512, Nat.mod_lt _ (by norm_num)⟩ b)) := by
  show @Eq EReal ((after (hostOps3_1 : List (HloOp τ sig (Elt Ideal))) (W29 m ρ c) (Proc.devRef .tc main_v188) : FVec Ideal S256x512x257 .f32) _) _
  generalize W29 m ρ c = V
  simp only [hostOps3_1, TRef.ternary, TRef.unary, TRef.binary, TRef.nullary, TRef.toBuf, TRef.ofBuf, cast_eq]
  after_results_simp
  pointwise
  have ha := a.isLt
  split
  · exact congrArg _ (ix3_congr rfl (by simp only []; omega) rfl)
  · exact congrArg _ (ix3_congr rfl (by simp only []; omega) rfl)

/-- The columns 1 to 255. -/
theorem v189_at (t : Fin 256) (a : Fin 512) (b : Fin 255) :
    @Eq EReal ((W31 m ρ c (Proc.devRef .tc main_v189) : FVec Ideal S256x512x255 .f32) (ix3 t a b))
      ((W30 m ρ c (Proc.devRef .tc main_v188) : FVec Ideal S256x512x257 .f32) (ix3 t a ⟨b.val + 1, by omega⟩)) := by
  show @Eq EReal ((after (hostOps3_2 : List (HloOp τ sig (Elt Ideal))) (W30 m ρ c) (Proc.devRef .tc main_v189) : FVec Ideal S256x512x255 .f32) _) _
  generalize W30 m ρ c = V
  simp only [hostOps3_2, TRef.ternary, TRef.unary, TRef.binary, TRef.nullary, TRef.toBuf, TRef.ofBuf, cast_eq]
  after_results_simp
  pointwise
  exact congrArg _ (ix3_congr rfl rfl (Nat.add_comm _ _))

/-- Columns reversed. -/
theorem v190_at (t : Fin 256) (a : Fin 512) (b : Fin 255) :
    @Eq EReal ((W32 m ρ c (Proc.devRef .tc main_v190) : FVec Ideal S256x512x255 .f32) (ix3 t a b))
      ((W31 m ρ c (Proc.devRef .tc main_v189) : FVec Ideal S256x512x255 .f32) (ix3 t a b.rev)) := by
  show @Eq EReal ((after (hostOps3_3 : List (HloOp τ sig (Elt Ideal))) (W31 m ρ c) (Proc.devRef .tc main_v190) : FVec Ideal S256x512x255 .f32) _) _
  generalize W31 m ρ c = V
  simp only [hostOps3_3, TRef.ternary, TRef.unary, TRef.binary, TRef.nullary, TRef.toBuf, TRef.ofBuf, cast_eq]
  after_results_simp
  pointwise
  rfl

/-- The 512 columns. -/
theorem v193_at (t : Fin 256) (a : Fin 512) (l : Fin 512) :
    @Eq EReal ((W33 m ρ c (Proc.devRef .tc main_v193) : FVec Ideal S256x512x512 .f32) (ix3 t a l))
      (if h : l.val < 257 then (W32 m ρ c (Proc.devRef .tc main_v186_0) : FVec Ideal S256x512x257 .f32) (ix3 t a ⟨l.val, h⟩)
        else (W32 m ρ c (Proc.devRef .tc main_v190) : FVec Ideal S256x512x255 .f32) (ix3 t a ⟨l.val - 257, by omega⟩)) := by
  show @Eq EReal ((after (hostOps3_4 : List (HloOp τ sig (Elt Ideal))) (W32 m ρ c) (Proc.devRef .tc main_v193) : FVec Ideal S256x512x512 .f32) _) _
  generalize W32 m ρ c = V
  simp only [hostOps3_4, TRef.ternary, TRef.unary, TRef.binary, TRef.nullary, TRef.toBuf, TRef.ofBuf, cast_eq]
  after_results_simp
  pointwise

/-- Rows reversed. -/
theorem v194_at (t : Fin 256) (a : Fin 512) (b : Fin 257) :
    @Eq EReal ((W34 m ρ c (Proc.devRef .tc main_v194) : FVec Ideal S256x512x257 .f32) (ix3 t a b))
      ((W33 m ρ c (Proc.devRef .tc main_v186_1) : FVec Ideal S256x512x257 .f32) (ix3 t a.rev b)) := by
  show @Eq EReal ((after (hostOps3_5 : List (HloOp τ sig (Elt Ideal))) (W33 m ρ c) (Proc.devRef .tc main_v194) : FVec Ideal S256x512x257 .f32) _) _
  generalize W33 m ρ c = V
  simp only [hostOps3_5, TRef.ternary, TRef.unary, TRef.binary, TRef.nullary, TRef.toBuf, TRef.ofBuf, cast_eq]
  after_results_simp
  pointwise
  rfl

/-- Rows turned by one. -/
theorem v195_at (t : Fin 256) (a : Fin 512) (b : Fin 257) :
    @Eq EReal ((W35 m ρ c (Proc.devRef .tc main_v195) : FVec Ideal S256x512x257 .f32) (ix3 t a b))
      ((W34 m ρ c (Proc.devRef .tc main_v194) : FVec Ideal S256x512x257 .f32) (ix3 t ⟨(a.val + 511) % 512, Nat.mod_lt _ (by norm_num)⟩ b)) := by
  show @Eq EReal ((after (hostOps3_6 : List (HloOp τ sig (Elt Ideal))) (W34 m ρ c) (Proc.devRef .tc main_v195) : FVec Ideal S256x512x257 .f32) _) _
  generalize W34 m ρ c = V
  simp only [hostOps3_6, TRef.ternary, TRef.unary, TRef.binary, TRef.nullary, TRef.toBuf, TRef.ofBuf, cast_eq]
  after_results_simp
  pointwise
  have ha := a.isLt
  split
  · exact congrArg _ (ix3_congr rfl (by simp only []; omega) rfl)
  · exact congrArg _ (ix3_congr rfl (by simp only []; omega) rfl)

/-- The columns 1 to 255. -/
theorem v196_at (t : Fin 256) (a : Fin 512) (b : Fin 255) :
    @Eq EReal ((W36 m ρ c (Proc.devRef .tc main_v196) : FVec Ideal S256x512x255 .f32) (ix3 t a b))
      ((W35 m ρ c (Proc.devRef .tc main_v195) : FVec Ideal S256x512x257 .f32) (ix3 t a ⟨b.val + 1, by omega⟩)) := by
  show @Eq EReal ((after (hostOps3_7 : List (HloOp τ sig (Elt Ideal))) (W35 m ρ c) (Proc.devRef .tc main_v196) : FVec Ideal S256x512x255 .f32) _) _
  generalize W35 m ρ c = V
  simp only [hostOps3_7, TRef.ternary, TRef.unary, TRef.binary, TRef.nullary, TRef.toBuf, TRef.ofBuf, cast_eq]
  after_results_simp
  pointwise
  exact congrArg _ (ix3_congr rfl rfl (Nat.add_comm _ _))

/-- Columns reversed. -/
theorem v197_at (t : Fin 256) (a : Fin 512) (b : Fin 255) :
    @Eq EReal ((W37 m ρ c (Proc.devRef .tc main_v197) : FVec Ideal S256x512x255 .f32) (ix3 t a b))
      ((W36 m ρ c (Proc.devRef .tc main_v196) : FVec Ideal S256x512x255 .f32) (ix3 t a b.rev)) := by
  show @Eq EReal ((after (hostOps3_8 : List (HloOp τ sig (Elt Ideal))) (W36 m ρ c) (Proc.devRef .tc main_v197) : FVec Ideal S256x512x255 .f32) _) _
  generalize W36 m ρ c = V
  simp only [hostOps3_8, TRef.ternary, TRef.unary, TRef.binary, TRef.nullary, TRef.toBuf, TRef.ofBuf, cast_eq]
  after_results_simp
  pointwise
  rfl

/-- The 512 columns. -/
theorem v200_at (t : Fin 256) (a : Fin 512) (l : Fin 512) :
    @Eq EReal ((W38 m ρ c (Proc.devRef .tc main_v200) : FVec Ideal S256x512x512 .f32) (ix3 t a l))
      (if h : l.val < 257 then (W37 m ρ c (Proc.devRef .tc main_v186_1) : FVec Ideal S256x512x257 .f32) (ix3 t a ⟨l.val, h⟩)
        else @HMul.hMul EReal EReal EReal _ ((-1 : ℝ) : EReal) ((W37 m ρ c (Proc.devRef .tc main_v197) : FVec Ideal S256x512x255 .f32) (ix3 t a ⟨l.val - 257, by omega⟩))) := by
  show @Eq EReal ((after (hostOps3_9 : List (HloOp τ sig (Elt Ideal))) (W37 m ρ c) (Proc.devRef .tc main_v200) : FVec Ideal S256x512x512 .f32) _) _
  generalize W37 m ρ c = V
  simp only [hostOps3_9, TRef.ternary, TRef.unary, TRef.binary, TRef.nullary, TRef.toBuf, TRef.ofBuf, cast_eq]
  after_results_simp
  pointwise
  rw [w_neg_1]

/-- The mirrored entry behind column `l ≥ 257`. -/
theorem v190_is (t : Fin 256) (a : Fin 512) (l : Fin 512) (h : ¬ l.val < 257) :
    @Eq EReal ((W32 m ρ c (Proc.devRef .tc main_v190) : FVec Ideal S256x512x255 .f32) (ix3 t a ⟨l.val - 257, by omega⟩))
      ((W28 m ρ c (Proc.devRef .tc main_v186_0) : FVec Ideal S256x512x257 .f32)
        (ix3 t ⟨(512 - a.val) % 512, Nat.mod_lt _ (by norm_num)⟩ ⟨512 - l.val, by omega⟩)) := by
  refine (v190_at m ρ c t a _).trans ((v189_at m ρ c t a _).trans ((v188_at m ρ c t a _).trans ((v187_at m ρ c t _ _).trans ?_)))
  have ha := a.isLt
  have hl := l.isLt
  exact congrArg _ (ix3_congr rfl (by simp only [Fin.val_rev]; omega) (by simp only [Fin.val_rev]; omega))

theorem v197_is (t : Fin 256) (a : Fin 512) (l : Fin 512) (h : ¬ l.val < 257) :
    @Eq EReal ((W37 m ρ c (Proc.devRef .tc main_v197) : FVec Ideal S256x512x255 .f32) (ix3 t a ⟨l.val - 257, by omega⟩))
      ((W33 m ρ c (Proc.devRef .tc main_v186_1) : FVec Ideal S256x512x257 .f32)
        (ix3 t ⟨(512 - a.val) % 512, Nat.mod_lt _ (by norm_num)⟩ ⟨512 - l.val, by omega⟩)) := by
  refine (v197_at m ρ c t a _).trans ((v196_at m ρ c t a _).trans ((v195_at m ρ c t a _).trans ((v194_at m ρ c t _ _).trans ?_)))
  have ha := a.isLt
  have hl := l.isLt
  exact congrArg _ (ix3_congr rfl (by simp only [Fin.val_rev]; omega) (by simp only [Fin.val_rev]; omega))

/-- The continued quotient. -/
theorem ext_is (al : ℕ → ℕ → ℂ) (t : Fin 256)
    (h : ∀ (r : Fin 512) (q : Fin 257), IsC ((W28 m ρ c (Proc.devRef .tc main_v186_0) : FVec Ideal S256x512x257 .f32) (ix3 t r q))
      ((W28 m ρ c (Proc.devRef .tc main_v186_1) : FVec Ideal S256x512x257 .f32) (ix3 t r q)) (al r.val q.val)) (k l : Fin 512) :
    IsC ((W38 m ρ c (Proc.devRef .tc main_v193) : FVec Ideal S256x512x512 .f32) (ix3 t k l))
      ((W38 m ρ c (Proc.devRef .tc main_v200) : FVec Ideal S256x512x512 .f32) (ix3 t k l)) (ext al k.val l.val) := by
  rw [keep_v193_38]
  refine IsC.of_eq (v193_at m ρ c t k l) (v200_at m ρ c t k l) ?_
  rw [keep_v186_0_32, keep_v186_1_37]
  unfold ext
  by_cases hl : l.val < 257
  · rw [dif_pos hl, dif_pos hl, if_pos hl]
    exact h k ⟨l.val, hl⟩
  · rw [dif_neg hl, dif_neg hl, if_neg hl]
    have h1 := h ⟨(512 - k.val) % 512, Nat.mod_lt _ (by norm_num)⟩ ⟨512 - l.val, by omega⟩
    refine ⟨(v190_is m ρ c t k l hl).trans (h1.1.trans (by rw [Complex.conj_re])), ?_⟩
    have e := v197_is m ρ c t k l hl
    rw [keep_v186_1_33] at e
    rw [e, h1.2, Complex.conj_im]
    rw [← EReal.coe_mul, neg_one_mul]

end Lti
end
-- ==== Proof.Reg3.lean ====
/-
  The spectrum of the branch at the double length: what its windows hold.
-/
module

public import proofs.«01_k».proof.Proof.Reg
public import proofs.«01_k».proof.Proof.Gen.KernelIdeal.Frame.Region3

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index3_0 (t : Fin grid3.N) : win3_0.index t = ![t.val, 0, 0] := by
  revert t; decide +kernel

/-- Where window 0's block lies in its array. -/
theorem emb3_0 (t : Fin grid3.N) (a : Fin 1) (b : Fin 512) (d : Fin 512) :
    (win3_0.rect t).emb (ix3 a b d : S1x512x512.Idx) = (ix3 ⟨t.val, t.isLt⟩ b d : S256x512x512.Idx) := by
  funext z
  apply Fin.ext
  refine (Pipeline.Window.rect_emb_val win3_0 t _ z).trans ?_
  rw [index3_0]
  fin_cases z
  · show t.val * 1 + a.val = t.val
    have := a.isLt; omega
  · show 0 * 512 + b.val = b.val
    omega
  · show 0 * 512 + d.val = d.val
    omega

/-- Window 0's block at an index. -/
theorem iblk3_0_at (t : Fin cfg3.N) (a : Fin 1) (b : Fin 512) (d : Fin 512) :
    (iblk3 V c 0 t : FVec Ideal S1x512x512 .f32) (ix3 a b d) = (V c main_v193 : FVec Ideal S256x512x512 .f32) (ix3 ⟨t.val, t.isLt⟩ b d : S256x512x512.Idx) := by
  show (V c main_v193 : FVec Ideal S256x512x512 .f32) ((win3_0.rect t).emb (ix3 a b d)) = _
  rw [emb3_0]

theorem index3_1 (t : Fin grid3.N) : win3_1.index t = ![t.val, 0, 0] := by
  revert t; decide +kernel

/-- Where window 1's block lies in its array. -/
theorem emb3_1 (t : Fin grid3.N) (a : Fin 1) (b : Fin 512) (d : Fin 512) :
    (win3_1.rect t).emb (ix3 a b d : S1x512x512.Idx) = (ix3 ⟨t.val, t.isLt⟩ b d : S256x512x512.Idx) := by
  funext z
  apply Fin.ext
  refine (Pipeline.Window.rect_emb_val win3_1 t _ z).trans ?_
  rw [index3_1]
  fin_cases z
  · show t.val * 1 + a.val = t.val
    have := a.isLt; omega
  · show 0 * 512 + b.val = b.val
    omega
  · show 0 * 512 + d.val = d.val
    omega

/-- Window 1's block at an index. -/
theorem iblk3_1_at (t : Fin cfg3.N) (a : Fin 1) (b : Fin 512) (d : Fin 512) :
    (iblk3 V c 1 t : FVec Ideal S1x512x512 .f32) (ix3 a b d) = (V c main_v200 : FVec Ideal S256x512x512 .f32) (ix3 ⟨t.val, t.isLt⟩ b d : S256x512x512.Idx) := by
  show (V c main_v200 : FVec Ideal S256x512x512 .f32) ((win3_1.rect t).emb (ix3 a b d)) = _
  rw [emb3_1]

theorem index3_2 (t : Fin grid3.N) : win3_2.index t = ![0, 0] := by
  revert t; decide +kernel

/-- Where window 2's block lies in its array. -/
theorem emb3_2 (t : Fin grid3.N) (a : Fin 512) (b : Fin 512) :
    (win3_2.rect t).emb (ix2 a b : S512x512.Idx) = (ix2 a b : S512x512.Idx) := by
  funext z
  apply Fin.ext
  refine (Pipeline.Window.rect_emb_val win3_2 t _ z).trans ?_
  rw [index3_2]
  fin_cases z
  · show 0 * 512 + a.val = a.val
    omega
  · show 0 * 512 + b.val = b.val
    omega

/-- Window 2's block at an index. -/
theorem iblk3_2_at (t : Fin cfg3.N) (a : Fin 512) (b : Fin 512) :
    (iblk3 V c 2 t : FVec Ideal S512x512 .f32) (ix2 a b) = (V c main_v69 : FVec Ideal S512x512 .f32) (ix2 a b : S512x512.Idx) := by
  show (V c main_v69 : FVec Ideal S512x512 .f32) ((win3_2.rect t).emb (ix2 a b)) = _
  rw [emb3_2]

theorem index3_3 (t : Fin grid3.N) : win3_3.index t = ![0, 0] := by
  revert t; decide +kernel

/-- Where window 3's block lies in its array. -/
theorem emb3_3 (t : Fin grid3.N) (a : Fin 512) (b : Fin 512) :
    (win3_3.rect t).emb (ix2 a b : S512x512.Idx) = (ix2 a b : S512x512.Idx) := by
  funext z
  apply Fin.ext
  refine (Pipeline.Window.rect_emb_val win3_3 t _ z).trans ?_
  rw [index3_3]
  fin_cases z
  · show 0 * 512 + a.val = a.val
    omega
  · show 0 * 512 + b.val = b.val
    omega

/-- Window 3's block at an index. -/
theorem iblk3_3_at (t : Fin cfg3.N) (a : Fin 512) (b : Fin 512) :
    (iblk3 V c 3 t : FVec Ideal S512x512 .f32) (ix2 a b) = (V c main_v70 : FVec Ideal S512x512 .f32) (ix2 a b : S512x512.Idx) := by
  show (V c main_v70 : FVec Ideal S512x512 .f32) ((win3_3.rect t).emb (ix2 a b)) = _
  rw [emb3_3]

theorem index3_4 (t : Fin grid3.N) : win3_4.index t = ![0, 0] := by
  revert t; decide +kernel

/-- Where window 4's block lies in its array. -/
theorem emb3_4 (t : Fin grid3.N) (a : Fin 512) (b : Fin 513) :
    (win3_4.rect t).emb (ix2 a b : S512x513.Idx) = (ix2 a b : S512x513.Idx) := by
  funext z
  apply Fin.ext
  refine (Pipeline.Window.rect_emb_val win3_4 t _ z).trans ?_
  rw [index3_4]
  fin_cases z
  · show 0 * 512 + a.val = a.val
    omega
  · show 0 * 513 + b.val = b.val
    omega

/-- Window 4's block at an index. -/
theorem iblk3_4_at (t : Fin cfg3.N) (a : Fin 512) (b : Fin 513) :
    (iblk3 V c 4 t : FVec Ideal S512x513 .f32) (ix2 a b) = (V c main_v87_0 : FVec Ideal S512x513 .f32) (ix2 a b : S512x513.Idx) := by
  show (V c main_v87_0 : FVec Ideal S512x513 .f32) ((win3_4.rect t).emb (ix2 a b)) = _
  rw [emb3_4]

theorem index3_5 (t : Fin grid3.N) : win3_5.index t = ![0, 0] := by
  revert t; decide +kernel

/-- Where window 5's block lies in its array. -/
theorem emb3_5 (t : Fin grid3.N) (a : Fin 512) (b : Fin 513) :
    (win3_5.rect t).emb (ix2 a b : S512x513.Idx) = (ix2 a b : S512x513.Idx) := by
  funext z
  apply Fin.ext
  refine (Pipeline.Window.rect_emb_val win3_5 t _ z).trans ?_
  rw [index3_5]
  fin_cases z
  · show 0 * 512 + a.val = a.val
    omega
  · show 0 * 513 + b.val = b.val
    omega

/-- Window 5's block at an index. -/
theorem iblk3_5_at (t : Fin cfg3.N) (a : Fin 512) (b : Fin 513) :
    (iblk3 V c 5 t : FVec Ideal S512x513 .f32) (ix2 a b) = (V c main_v87_1 : FVec Ideal S512x513 .f32) (ix2 a b : S512x513.Idx) := by
  show (V c main_v87_1 : FVec Ideal S512x513 .f32) ((win3_5.rect t).emb (ix2 a b)) = _
  rw [emb3_5]

theorem index3_6 (t : Fin grid3.N) : win3_6.index t = ![t.val, 0, 0] := by
  revert t; decide +kernel

/-- Where window 6's block lies in its array. -/
theorem emb3_6 (t : Fin grid3.N) (a : Fin 1) (b : Fin 1024) (d : Fin 513) :
    (win3_6.rect t).emb (ix3 a b d : S1x1024x513.Idx) = (ix3 ⟨t.val, t.isLt⟩ b d : S256x1024x513.Idx) := by
  funext z
  apply Fin.ext
  refine (Pipeline.Window.rect_emb_val win3_6 t _ z).trans ?_
  rw [index3_6]
  fin_cases z
  · show t.val * 1 + a.val = t.val
    have := a.isLt; omega
  · show 0 * 1024 + b.val = b.val
    omega
  · show 0 * 513 + d.val = d.val
    omega

/-- What window 6's array holds at the end: at each index the body's result at the point whose block holds it. -/
def final3_6 : FVec Ideal S256x1024x513 .f32 := fun i =>
  let t : Fin cfg3.N := ⟨(i 0).val, (i 0).isLt⟩
  out3_6 (iblk3 V c 0 t) (iblk3 V c 1 t) (iblk3 V c 2 t) (iblk3 V c 3 t) (iblk3 V c 4 t) (iblk3 V c 5 t) (ix3 0 (i 1) (i 2) : S1x1024x513.Idx)

theorem final3_6_at (t : Fin cfg3.N) (a : Fin 1) (b : Fin 1024) (d : Fin 513) :
    final3_6 V c (ix3 ⟨t.val, t.isLt⟩ b d : S256x1024x513.Idx) = out3_6 (iblk3 V c 0 t) (iblk3 V c 1 t) (iblk3 V c 2 t) (iblk3 V c 3 t) (iblk3 V c 4 t) (iblk3 V c 5 t) (ix3 a b d) := by
  obtain rfl : a = 0 := Subsingleton.elim _ _
  rfl

theorem arr3_6 : (dat3 V c).arrAt 6 cfg3.N = final3_6 V c := by
  refine (dat3 V c).arrAt_eq_of_cover 6 (final3_6 V c) (fun t _ => ?_) (fun i => ?_)
  · show (cfg3.win 6).cut (grid3.coords t) ((dat3 V c).after 6 t) = _
    rw [after3_6]
    have key : ∀ y : S1x1024x513.Idx, out3_6 (iblk3 V c 0 t) (iblk3 V c 1 t) (iblk3 V c 2 t) (iblk3 V c 3 t) (iblk3 V c 4 t) (iblk3 V c 5 t) y = final3_6 V c ((win3_6.rect t).emb y) := by
      intro y
      obtain ⟨a, b, d, rfl⟩ : ∃ (a : Fin 1) (b : Fin 1024) (d : Fin 513), y = (ix3 a b d : S1x1024x513.Idx) := ⟨y 0, y 1, y 2, eq_ix3 y⟩
      rw [emb3_6, final3_6_at]
    revert key
    generalize out3_6 (iblk3 V c 0 t) (iblk3 V c 1 t) (iblk3 V c 2 t) (iblk3 V c 3 t) (iblk3 V c 4 t) (iblk3 V c 5 t) = O
    generalize final3_6 V c = G
    intro key
    exact funext key
  · refine ⟨⟨(i 0).val, (i 0).isLt⟩, flush3_6 _, ?_⟩
    refine Finset.mem_map.mpr ⟨(ix3 0 (i 1) (i 2) : S1x1024x513.Idx), Finset.mem_univ _, ?_⟩
    refine (emb3_6 ⟨(i 0).val, (i 0).isLt⟩ 0 (i 1) (i 2)).trans ?_
    exact (eq_ix3 i).symm

theorem index3_7 (t : Fin grid3.N) : win3_7.index t = ![t.val, 0, 0] := by
  revert t; decide +kernel

/-- Where window 7's block lies in its array. -/
theorem emb3_7 (t : Fin grid3.N) (a : Fin 1) (b : Fin 1024) (d : Fin 513) :
    (win3_7.rect t).emb (ix3 a b d : S1x1024x513.Idx) = (ix3 ⟨t.val, t.isLt⟩ b d : S256x1024x513.Idx) := by
  funext z
  apply Fin.ext
  refine (Pipeline.Window.rect_emb_val win3_7 t _ z).trans ?_
  rw [index3_7]
  fin_cases z
  · show t.val * 1 + a.val = t.val
    have := a.isLt; omega
  · show 0 * 1024 + b.val = b.val
    omega
  · show 0 * 513 + d.val = d.val
    omega

/-- What window 7's array holds at the end: at each index the body's result at the point whose block holds it. -/
def final3_7 : FVec Ideal S256x1024x513 .f32 := fun i =>
  let t : Fin cfg3.N := ⟨(i 0).val, (i 0).isLt⟩
  out3_7 (iblk3 V c 0 t) (iblk3 V c 1 t) (iblk3 V c 2 t) (iblk3 V c 3 t) (iblk3 V c 4 t) (iblk3 V c 5 t) (ix3 0 (i 1) (i 2) : S1x1024x513.Idx)

theorem final3_7_at (t : Fin cfg3.N) (a : Fin 1) (b : Fin 1024) (d : Fin 513) :
    final3_7 V c (ix3 ⟨t.val, t.isLt⟩ b d : S256x1024x513.Idx) = out3_7 (iblk3 V c 0 t) (iblk3 V c 1 t) (iblk3 V c 2 t) (iblk3 V c 3 t) (iblk3 V c 4 t) (iblk3 V c 5 t) (ix3 a b d) := by
  obtain rfl : a = 0 := Subsingleton.elim _ _
  rfl

theorem arr3_7 : (dat3 V c).arrAt 7 cfg3.N = final3_7 V c := by
  refine (dat3 V c).arrAt_eq_of_cover 7 (final3_7 V c) (fun t _ => ?_) (fun i => ?_)
  · show (cfg3.win 7).cut (grid3.coords t) ((dat3 V c).after 7 t) = _
    rw [after3_7]
    have key : ∀ y : S1x1024x513.Idx, out3_7 (iblk3 V c 0 t) (iblk3 V c 1 t) (iblk3 V c 2 t) (iblk3 V c 3 t) (iblk3 V c 4 t) (iblk3 V c 5 t) y = final3_7 V c ((win3_7.rect t).emb y) := by
      intro y
      obtain ⟨a, b, d, rfl⟩ : ∃ (a : Fin 1) (b : Fin 1024) (d : Fin 513), y = (ix3 a b d : S1x1024x513.Idx) := ⟨y 0, y 1, y 2, eq_ix3 y⟩
      rw [emb3_7, final3_7_at]
    revert key
    generalize out3_7 (iblk3 V c 0 t) (iblk3 V c 1 t) (iblk3 V c 2 t) (iblk3 V c 3 t) (iblk3 V c 4 t) (iblk3 V c 5 t) = O
    generalize final3_7 V c = G
    intro key
    exact funext key
  · refine ⟨⟨(i 0).val, (i 0).isLt⟩, flush3_7 _, ?_⟩
    refine Finset.mem_map.mpr ⟨(ix3 0 (i 1) (i 2) : S1x1024x513.Idx), Finset.mem_univ _, ?_⟩
    refine (emb3_7 ⟨(i 0).val, (i 0).isLt⟩ 0 (i 1) (i 2)).trans ?_
    exact (eq_ix3 i).symm

end Lti
end
-- ==== Proof.Pay3.lean ====
/-
  The spectrum of the branch: what the body stores.
-/
module

public import proofs.«01_k».proof.Proof.Reg
public import proofs.«01_k».proof.Proof.Gen.KernelIdeal.Frame.Region3

@[expose] public section

noncomputable section

namespace Lti

open Idealize.ShloMosaic Idealize.ShloMosaic.TcCoe Cert.KernelIdeal Cert.KernelIdeal.Gen

/-- The two halves of the rows of a block. -/
def lowRow (r : Fin 512) : Fin 1024 := ⟨r.val, by omega⟩
def highRow (r : Fin 512) : Fin 1024 := ⟨512 + r.val, by omega⟩

theorem high_emb (r : Fin 512) (q : Fin 513) : (r3_4).emb (ix3 0 r q : S1x512x513.Idx) = (ix3 0 (highRow r) q : S1x1024x513.Idx) := by
  funext a
  apply Fin.ext
  fin_cases a
  · rfl
  · show 512 + 1 * r.val = 512 + r.val; omega
  · show 0 + 1 * q.val = q.val; omega

theorem low_emb (r : Fin 512) (q : Fin 513) : (r3_3).emb (ix3 0 r q : S1x512x513.Idx) = (ix3 0 (lowRow r) q : S1x1024x513.Idx) := by
  funext a
  apply Fin.ext
  fin_cases a
  · rfl
  · show 0 + 1 * r.val = r.val; omega
  · show 0 + 1 * q.val = q.val; omega

theorem low_not_high (r : Fin 512) (q : Fin 513) : (ix3 0 (lowRow r) q : S1x1024x513.Idx) ∉ (r3_4).set := by
  intro h
  have h1 := (Rect.mem_set_unit.mp h) 1
  have h2 : 512 ≤ r.val := h1.1
  omega

/-- The even frequencies: the quotient's spectrum along the columns. -/
theorem out3_6_low (x0 x1 : FVec Ideal S1x512x512 .f32) (x2 x3 : FVec Ideal S512x512 .f32) (x4 x5 : FVec Ideal S512x513 .f32) (r : Fin 512) (q : Fin 513) :
    @Eq EReal (out3_6 (F := Ideal) x0 x1 x2 x3 x4 x5 (ix3 0 (lowRow r) q))
      (cre (row3 x0 0 r) (row3 x1 0 r) (col x4 q) (col x5 q)) := by
  unfold out3_6
  rw [View.canon_cons, Rect.overlay_of_not_mem _ _ _ (low_not_high r q), ← low_emb, View.canon_cons_emb]
  simp only [View.ld_unit_zero (S := S1x512x512) hz3, View.ld_unit_zero (S := S512x512) hz2, View.ld_unit_zero (S := S512x513) hz2]
  pointwise [k3_pay1, k3_pay2, k3_pay3, k3_pay4, k3_pay5, k3_pay6, k3_pay7, k3_pay8, k3_pay9, k3_pay10, k3_pay11, k3_pay12, k3_pay13, k3_pay14]
  rfl

/-- The odd frequencies: that once more along the rows. -/
theorem out3_6_high (x0 x1 : FVec Ideal S1x512x512 .f32) (x2 x3 : FVec Ideal S512x512 .f32) (x4 x5 : FVec Ideal S512x513 .f32) (r : Fin 512) (q : Fin 513) :
    @Eq EReal (out3_6 (F := Ideal) x0 x1 x2 x3 x4 x5 (ix3 0 (highRow r) q))
      (cre (row x2 r) (row x3 r) (fun k => cre (row3 x0 0 k) (row3 x1 0 k) (col x4 q) (col x5 q)) (fun k => cim (row3 x0 0 k) (row3 x1 0 k) (col x4 q) (col x5 q))) := by
  unfold out3_6
  rw [← high_emb, View.canon_cons_emb]
  simp only [View.ld_unit_zero (S := S1x512x512) hz3, View.ld_unit_zero (S := S512x512) hz2, View.ld_unit_zero (S := S512x513) hz2]
  pointwise [k3_pay1, k3_pay2, k3_pay3, k3_pay4, k3_pay5, k3_pay6, k3_pay7, k3_pay8, k3_pay9, k3_pay10, k3_pay11, k3_pay12, k3_pay13, k3_pay14]
  rfl

/-- The even frequencies: the quotient's spectrum along the columns. -/
theorem out3_7_low (x0 x1 : FVec Ideal S1x512x512 .f32) (x2 x3 : FVec Ideal S512x512 .f32) (x4 x5 : FVec Ideal S512x513 .f32) (r : Fin 512) (q : Fin 513) :
    @Eq EReal (out3_7 (F := Ideal) x0 x1 x2 x3 x4 x5 (ix3 0 (lowRow r) q))
      (cim (row3 x0 0 r) (row3 x1 0 r) (col x4 q) (col x5 q)) := by
  unfold out3_7
  rw [View.canon_cons, Rect.overlay_of_not_mem _ _ _ (low_not_high r q), ← low_emb, View.canon_cons_emb]
  simp only [View.ld_unit_zero (S := S1x512x512) hz3, View.ld_unit_zero (S := S512x512) hz2, View.ld_unit_zero (S := S512x513) hz2]
  pointwise [k3_pay1, k3_pay2, k3_pay3, k3_pay4, k3_pay5, k3_pay6, k3_pay7, k3_pay8, k3_pay9, k3_pay10, k3_pay11, k3_pay12, k3_pay13, k3_pay14]
  rfl

/-- The odd frequencies: that once more along the rows. -/
theorem out3_7_high (x0 x1 : FVec Ideal S1x512x512 .f32) (x2 x3 : FVec Ideal S512x512 .f32) (x4 x5 : FVec Ideal S512x513 .f32) (r : Fin 512) (q : Fin 513) :
    @Eq EReal (out3_7 (F := Ideal) x0 x1 x2 x3 x4 x5 (ix3 0 (highRow r) q))
      (cim (row x2 r) (row x3 r) (fun k => cre (row3 x0 0 k) (row3 x1 0 k) (col x4 q) (col x5 q)) (fun k => cim (row3 x0 0 k) (row3 x1 0 k) (col x4 q) (col x5 q))) := by
  unfold out3_7
  rw [← high_emb, View.canon_cons_emb]
  simp only [View.ld_unit_zero (S := S1x512x512) hz3, View.ld_unit_zero (S := S512x512) hz2, View.ld_unit_zero (S := S512x513) hz2]
  pointwise [k3_pay1, k3_pay2, k3_pay3, k3_pay4, k3_pay5, k3_pay6, k3_pay7, k3_pay8, k3_pay9, k3_pay10, k3_pay11, k3_pay12, k3_pay13, k3_pay14]
  rfl

end Lti
end
-- ==== Proof.KStep3.lean ====
/-
  The kernel's double-length transform of the response.
-/
module

public import proofs.«01_k».proof.Proof.KExt
public import proofs.«01_k».proof.Proof.Reg3
public import proofs.«01_k».proof.Proof.Pay3

@[expose] public section

noncomputable section

namespace Lti

open Idealize.ShloMosaic Idealize.ShloMosaic.StableHlo Cert.KernelIdeal Cert.KernelIdeal.Gen
open Idealize.ShloMosaic.TcCoe ComplexConjugate

variable (m : (ℓ : Loc nD τ sig) → Buf (Elt Ideal) ℓ) (ρ : Dev nD → PrngReg) (c : Dev nD)

theorem mode_zero : W 512 (0 + 0) = 1 := W_zero _
theorem mode_mid : W 512 (256 + 256) = 1 := W_self (by norm_num)

/-- The response is the inverse transform of the continued quotient. -/
theorem resp_alpha (g3 g2 : Fin 8 → Fin 8 → ℝ) (n k : ℕ) : (resp (alpha g3 g2) n k : ℂ)
    = ∑ j : Fin 512, inv512 n j.val * ∑ l : Fin 512, ext (alpha g3 g2) j.val l.val * inv512 l.val k :=
  resp_eq _ (alpha_mirror g3 g2 0 mode_zero) (alpha_mirror g3 g2 256 mode_mid) n k

theorem colStep_at_38 (l : Fin 512) (q : Fin 513) : IsC ((W38 m ρ c (Proc.devRef .tc main_v87_0) : FVec Ideal S512x513 .f32) (ix2 l q))
    ((W38 m ρ c (Proc.devRef .tc main_v87_1) : FVec Ideal S512x513 .f32) (ix2 l q)) (colStep l.val q.val) := by
  rw [keep_v87_0_38, keep_v87_1_38]
  exact m2_is m ρ c l q

theorem rowStep_at_38 (k l : Fin 512) : IsC ((W38 m ρ c (Proc.devRef .tc main_v69) : FVec Ideal S512x512 .f32) (ix2 k l))
    ((W38 m ρ c (Proc.devRef .tc main_v70) : FVec Ideal S512x512 .f32) (ix2 k l)) (rowStep (2 * k.val + 1) l.val) := by
  rw [keep_v69_38, keep_v70_38]
  exact m1_odd m ρ c k l

/-- A row of the body's first product. -/
theorem mid_is (x0 x1 : FVec Ideal S1x512x512 .f32) (x4 x5 : FVec Ideal S512x513 .f32) (al : ℕ → ℕ → ℂ) (q : Fin 513)
    (h01 : ∀ k l : Fin 512, IsC (x0 (ix3 0 k l)) (x1 (ix3 0 k l)) (ext al k.val l.val))
    (h45 : ∀ l : Fin 512, IsC (x4 (ix2 l q)) (x5 (ix2 l q)) (colStep l.val q.val)) (k : Fin 512) :
    IsC (cre (row3 x0 0 k) (row3 x1 0 k) (col x4 q) (col x5 q)) (cim (row3 x0 0 k) (row3 x1 0 k) (col x4 q) (col x5 q))
      (∑ l : Fin 512, ext al k.val l.val * colStep l.val q.val) :=
  IsC.mm (fun l => h01 k l) (fun l => h45 l)

/-- The body's two results: the even frequencies first, then the odd ones. -/
theorem out3_is (x0 x1 : FVec Ideal S1x512x512 .f32) (x2 x3 : FVec Ideal S512x512 .f32) (x4 x5 : FVec Ideal S512x513 .f32)
    (al : ℕ → ℕ → ℂ) (q : Fin 513)
    (hr : ∀ n k, (resp al n k : ℂ) = ∑ j : Fin 512, inv512 n j.val * ∑ l : Fin 512, ext al j.val l.val * inv512 l.val k)
    (h01 : ∀ k l : Fin 512, IsC (x0 (ix3 0 k l)) (x1 (ix3 0 k l)) (ext al k.val l.val))
    (h23 : ∀ k l : Fin 512, IsC (x2 (ix2 k l)) (x3 (ix2 k l)) (rowStep (2 * k.val + 1) l.val))
    (h45 : ∀ l : Fin 512, IsC (x4 (ix2 l q)) (x5 (ix2 l q)) (colStep l.val q.val)) (r : Fin 1024) :
    IsC (out3_6 (F := Ideal) x0 x1 x2 x3 x4 x5 (ix3 0 r q)) (out3_7 (F := Ideal) x0 x1 x2 x3 x4 x5 (ix3 0 r q))
      (dbl (resp al) (perm r.val) q.val) := by
  by_cases h : r.val < 512
  · obtain ⟨r', rfl⟩ : ∃ r' : Fin 512, r = lowRow r' := ⟨⟨r.val, h⟩, rfl⟩
    have hp : perm (lowRow r').val = 2 * r'.val := if_pos h
    rw [hp, dbl_even (ext al) (resp al) hr r'.val q.val r'.isLt]
    exact IsC.of_eq (out3_6_low x0 x1 x2 x3 x4 x5 r' q) (out3_7_low x0 x1 x2 x3 x4 x5 r' q) (mid_is x0 x1 x4 x5 al q h01 h45 r')
  · obtain ⟨r', rfl⟩ : ∃ r' : Fin 512, r = highRow r' :=
      ⟨⟨r.val - 512, by have := r.isLt; omega⟩, Fin.ext (by simp only [highRow]; omega)⟩
    have hp : perm (highRow r').val = 2 * r'.val + 1 := (if_neg h).trans (by simp only [highRow]; omega)
    rw [hp, dbl_row (ext al) (resp al) hr]
    exact IsC.of_eq (out3_6_high x0 x1 x2 x3 x4 x5 r' q) (out3_7_high x0 x1 x2 x3 x4 x5 r' q)
      (IsC.mm (z := fun k : Fin 512 => rowStep (2 * r'.val + 1) k.val) (fun k => h23 r' k) (mid_is x0 x1 x4 x5 al q h01 h45))

/-- The kernel's double-length transform of the response. -/
theorem hside_is (g3 g2 : Fin 16 → Fin 16 → Fin 8 → Fin 8 → ℝ) (h3 : DenReal m c g3) (h2 : NumReal m c g2)
    (hz : ∀ i o, Nz (g3 i o)) (t : Fin 256) (r : Fin 1024) (q : Fin 513) :
    IsC ((W39 m ρ c (Proc.devRef .tc main_v201_0) : FVec Ideal S256x1024x513 .f32) (ix3 t r q))
      ((W39 m ρ c (Proc.devRef .tc main_v201_1) : FVec Ideal S256x1024x513 .f32) (ix3 t r q))
      (dbl (resp (alpha (g3 (chI t) (chO t)) (g2 (chI t) (chO t)))) (perm r.val) q.val) := by
  have e0 : W39 m ρ c (Proc.devRef .tc main_v201_0) = final3_6 (V38 m ρ) c := (W39_arr m ρ c 6).trans (arr3_6 _ c)
  have e1 : W39 m ρ c (Proc.devRef .tc main_v201_1) = final3_7 (V38 m ρ) c := (W39_arr m ρ c 7).trans (arr3_7 _ c)
  rw [e0, e1]
  have ht : t.val < cfg3.N := by have := t.isLt; have e : cfg3.N = 256 := N_3; omega
  refine IsC.of_eq (final3_6_at (V38 m ρ) c ⟨t.val, ht⟩ 0 r q) (final3_7_at (V38 m ρ) c ⟨t.val, ht⟩ 0 r q) ?_
  refine out3_is _ _ _ _ _ _ _ q (resp_alpha _ _) (fun k l => ?_) (fun k l => ?_) (fun l => ?_) r
  · exact IsC.of_eq (iblk3_0_at (V38 m ρ) c ⟨t.val, ht⟩ 0 k l) (iblk3_1_at (V38 m ρ) c ⟨t.val, ht⟩ 0 k l)
      (ext_is m ρ c _ t (fun r q => quo_is m ρ c g3 g2 h3 h2 hz t r q) k l)
  · exact IsC.of_eq (iblk3_2_at (V38 m ρ) c ⟨t.val, ht⟩ k l) (iblk3_3_at (V38 m ρ) c ⟨t.val, ht⟩ k l) (rowStep_at_38 m ρ c k l)
  · exact IsC.of_eq (iblk3_4_at (V38 m ρ) c ⟨t.val, ht⟩ l q) (iblk3_5_at (V38 m ρ) c ⟨t.val, ht⟩ l q) (colStep_at_38 m ρ c l q)

end Lti
end
-- ==== Proof.Goal.lean ====
/-
  What both programs compute, over the extended reals: the signal's transform, the mix of the channels, the inverse
  transform cut to 512 rows and columns.
-/
module

public import proofs.«01_k».proof.Proof.Reg
public import proofs.«01_k».proof.Proof.Fourier

@[expose] public section

noncomputable section

namespace Lti

/-- The entries of the forward transform of order 1024. -/
def fre (t : ℕ) : EReal := ((W 1024 t).re : EReal)
def fim (t : ℕ) : EReal := ((W 1024 t).im : EReal)

/-- The transform of a channel of the signal at frequencies `f`, `q`. -/
def xre (u : Fin 512 → Fin 512 → EReal) (f q : ℕ) : EReal :=
  cre (fun n : Fin 512 => fre (f * n.val)) (fun n => fim (f * n.val)) (fun n => dotp (u n) (fun j : Fin 512 => fre (j.val * q)))
    (fun n => dotp (u n) (fun j : Fin 512 => fim (j.val * q)))
def xim (u : Fin 512 → Fin 512 → EReal) (f q : ℕ) : EReal :=
  cim (fun n : Fin 512 => fre (f * n.val)) (fun n => fim (f * n.val)) (fun n => dotp (u n) (fun j : Fin 512 => fre (j.val * q)))
    (fun n => dotp (u n) (fun j : Fin 512 => fim (j.val * q)))

/-- The sum over the sixteen channels of the products of the transforms. -/
def zre (u : Fin 16 → Fin 512 → Fin 512 → EReal) (k : Fin 16 → ℕ → ℕ → ℂ) (h : Fin 16 → EReal) (f q : ℕ) : EReal :=
  ∑ i : Fin 16, (xre (u i) f q * (((k i f q).re : EReal) + h i) - xim (u i) f q * ((k i f q).im : EReal))
def zim (u : Fin 16 → Fin 512 → Fin 512 → EReal) (k : Fin 16 → ℕ → ℕ → ℂ) (h : Fin 16 → EReal) (f q : ℕ) : EReal :=
  ∑ i : Fin 16, (xre (u i) f q * ((k i f q).im : EReal) + xim (u i) f q * (((k i f q).re : EReal) + h i))

/-- The inverse transform of a half spectrum of 513 columns. -/
def inverse (zr zi : ℕ → ℕ → EReal) (y x : ℕ) : EReal :=
  cre (fun j : Fin 513 => cre (fun f : Fin 1024 => fre (y * f.val)) (fun f => ((-(W 1024 (y * f.val)).im : ℝ) : EReal))
      (fun f => zr f.val j.val) (fun f => zi f.val j.val))
    (fun j => cim (fun f : Fin 1024 => fre (y * f.val)) (fun f => ((-(W 1024 (y * f.val)).im : ℝ) : EReal))
      (fun f => zr f.val j.val) (fun f => zi f.val j.val))
    (fun j => (((W 1024 (j.val * x)).re * (cnt 512 j.val / 1048576) : ℝ) : EReal))
    (fun j => ((-(W 1024 (j.val * x)).im * (cnt 512 j.val / 1048576) : ℝ) : EReal))

end Lti

end
-- ==== Proof.Reg4.lean ====
/-
  The spectrum of the signal: what its windows hold.
-/
module

public import proofs.«01_k».proof.Proof.Reg
public import proofs.«01_k».proof.Proof.Gen.KernelIdeal.Frame.Region4

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index4_0 (t : Fin grid4.N) : win4_0.index t = ![t.val, 0, 0] := by
  revert t; decide +kernel

/-- Where window 0's block lies in its array. -/
theorem emb4_0 (t : Fin grid4.N) (a : Fin 1) (b : Fin 512) (d : Fin 512) :
    (win4_0.rect t).emb (ix3 a b d : S1x512x512.Idx) = (ix3 ⟨t.val, t.isLt⟩ b d : S64x512x512.Idx) := by
  funext z
  apply Fin.ext
  refine (Pipeline.Window.rect_emb_val win4_0 t _ z).trans ?_
  rw [index4_0]
  fin_cases z
  · show t.val * 1 + a.val = t.val
    have := a.isLt; omega
  · show 0 * 512 + b.val = b.val
    omega
  · show 0 * 512 + d.val = d.val
    omega

/-- Window 0's block at an index. -/
theorem iblk4_0_at (t : Fin cfg4.N) (a : Fin 1) (b : Fin 512) (d : Fin 512) :
    (iblk4 V c 0 t : FVec Ideal S1x512x512 .f32) (ix3 a b d) = (V c main_v203 : FVec Ideal S64x512x512 .f32) (ix3 ⟨t.val, t.isLt⟩ b d : S64x512x512.Idx) := by
  show (V c main_v203 : FVec Ideal S64x512x512 .f32) ((win4_0.rect t).emb (ix3 a b d)) = _
  rw [emb4_0]

theorem index4_1 (t : Fin grid4.N) : win4_1.index t = ![0, 0] := by
  revert t; decide +kernel

/-- Where window 1's block lies in its array. -/
theorem emb4_1 (t : Fin grid4.N) (a : Fin 1024) (b : Fin 512) :
    (win4_1.rect t).emb (ix2 a b : S1024x512.Idx) = (ix2 a b : S1024x512.Idx) := by
  funext z
  apply Fin.ext
  refine (Pipeline.Window.rect_emb_val win4_1 t _ z).trans ?_
  rw [index4_1]
  fin_cases z
  · show 0 * 1024 + a.val = a.val
    omega
  · show 0 * 512 + b.val = b.val
    omega

/-- Window 1's block at an index. -/
theorem iblk4_1_at (t : Fin cfg4.N) (a : Fin 1024) (b : Fin 512) :
    (iblk4 V c 1 t : FVec Ideal S1024x512 .f32) (ix2 a b) = (V c main_v40 : FVec Ideal S1024x512 .f32) (ix2 a b : S1024x512.Idx) := by
  show (V c main_v40 : FVec Ideal S1024x512 .f32) ((win4_1.rect t).emb (ix2 a b)) = _
  rw [emb4_1]

theorem index4_2 (t : Fin grid4.N) : win4_2.index t = ![0, 0] := by
  revert t; decide +kernel

/-- Where window 2's block lies in its array. -/
theorem emb4_2 (t : Fin grid4.N) (a : Fin 1024) (b : Fin 512) :
    (win4_2.rect t).emb (ix2 a b : S1024x512.Idx) = (ix2 a b : S1024x512.Idx) := by
  funext z
  apply Fin.ext
  refine (Pipeline.Window.rect_emb_val win4_2 t _ z).trans ?_
  rw [index4_2]
  fin_cases z
  · show 0 * 1024 + a.val = a.val
    omega
  · show 0 * 512 + b.val = b.val
    omega

/-- Window 2's block at an index. -/
theorem iblk4_2_at (t : Fin cfg4.N) (a : Fin 1024) (b : Fin 512) :
    (iblk4 V c 2 t : FVec Ideal S1024x512 .f32) (ix2 a b) = (V c main_v46 : FVec Ideal S1024x512 .f32) (ix2 a b : S1024x512.Idx) := by
  show (V c main_v46 : FVec Ideal S1024x512 .f32) ((win4_2.rect t).emb (ix2 a b)) = _
  rw [emb4_2]

theorem index4_3 (t : Fin grid4.N) : win4_3.index t = ![0, 0] := by
  revert t; decide +kernel

/-- Where window 3's block lies in its array. -/
theorem emb4_3 (t : Fin grid4.N) (a : Fin 512) (b : Fin 513) :
    (win4_3.rect t).emb (ix2 a b : S512x513.Idx) = (ix2 a b : S512x513.Idx) := by
  funext z
  apply Fin.ext
  refine (Pipeline.Window.rect_emb_val win4_3 t _ z).trans ?_
  rw [index4_3]
  fin_cases z
  · show 0 * 512 + a.val = a.val
    omega
  · show 0 * 513 + b.val = b.val
    omega

/-- Window 3's block at an index. -/
theorem iblk4_3_at (t : Fin cfg4.N) (a : Fin 512) (b : Fin 513) :
    (iblk4 V c 3 t : FVec Ideal S512x513 .f32) (ix2 a b) = (V c main_v84 : FVec Ideal S512x513 .f32) (ix2 a b : S512x513.Idx) := by
  show (V c main_v84 : FVec Ideal S512x513 .f32) ((win4_3.rect t).emb (ix2 a b)) = _
  rw [emb4_3]

theorem index4_4 (t : Fin grid4.N) : win4_4.index t = ![0, 0] := by
  revert t; decide +kernel

/-- Where window 4's block lies in its array. -/
theorem emb4_4 (t : Fin grid4.N) (a : Fin 512) (b : Fin 513) :
    (win4_4.rect t).emb (ix2 a b : S512x513.Idx) = (ix2 a b : S512x513.Idx) := by
  funext z
  apply Fin.ext
  refine (Pipeline.Window.rect_emb_val win4_4 t _ z).trans ?_
  rw [index4_4]
  fin_cases z
  · show 0 * 512 + a.val = a.val
    omega
  · show 0 * 513 + b.val = b.val
    omega

/-- Window 4's block at an index. -/
theorem iblk4_4_at (t : Fin cfg4.N) (a : Fin 512) (b : Fin 513) :
    (iblk4 V c 4 t : FVec Ideal S512x513 .f32) (ix2 a b) = (V c main_v86 : FVec Ideal S512x513 .f32) (ix2 a b : S512x513.Idx) := by
  show (V c main_v86 : FVec Ideal S512x513 .f32) ((win4_4.rect t).emb (ix2 a b)) = _
  rw [emb4_4]

theorem index4_5 (t : Fin grid4.N) : win4_5.index t = ![t.val, 0, 0] := by
  revert t; decide +kernel

/-- Where window 5's block lies in its array. -/
theorem emb4_5 (t : Fin grid4.N) (a : Fin 1) (b : Fin 1024) (d : Fin 513) :
    (win4_5.rect t).emb (ix3 a b d : S1x1024x513.Idx) = (ix3 ⟨t.val, t.isLt⟩ b d : S64x1024x513.Idx) := by
  funext z
  apply Fin.ext
  refine (Pipeline.Window.rect_emb_val win4_5 t _ z).trans ?_
  rw [index4_5]
  fin_cases z
  · show t.val * 1 + a.val = t.val
    have := a.isLt; omega
  · show 0 * 1024 + b.val = b.val
    omega
  · show 0 * 513 + d.val = d.val
    omega

/-- What window 5's array holds at the end: at each index the body's result at the point whose block holds it. -/
def final4_5 : FVec Ideal S64x1024x513 .f32 := fun i =>
  let t : Fin cfg4.N := ⟨(i 0).val, (i 0).isLt⟩
  out4_5 (iblk4 V c 0 t) (iblk4 V c 1 t) (iblk4 V c 2 t) (iblk4 V c 3 t) (iblk4 V c 4 t) (ix3 0 (i 1) (i 2) : S1x1024x513.Idx)

theorem final4_5_at (t : Fin cfg4.N) (a : Fin 1) (b : Fin 1024) (d : Fin 513) :
    final4_5 V c (ix3 ⟨t.val, t.isLt⟩ b d : S64x1024x513.Idx) = out4_5 (iblk4 V c 0 t) (iblk4 V c 1 t) (iblk4 V c 2 t) (iblk4 V c 3 t) (iblk4 V c 4 t) (ix3 a b d) := by
  obtain rfl : a = 0 := Subsingleton.elim _ _
  rfl

theorem arr4_5 : (dat4 V c).arrAt 5 cfg4.N = final4_5 V c := by
  refine (dat4 V c).arrAt_eq_of_cover 5 (final4_5 V c) (fun t _ => ?_) (fun i => ?_)
  · show (cfg4.win 5).cut (grid4.coords t) ((dat4 V c).after 5 t) = _
    rw [after4_5]
    have key : ∀ y : S1x1024x513.Idx, out4_5 (iblk4 V c 0 t) (iblk4 V c 1 t) (iblk4 V c 2 t) (iblk4 V c 3 t) (iblk4 V c 4 t) y = final4_5 V c ((win4_5.rect t).emb y) := by
      intro y
      obtain ⟨a, b, d, rfl⟩ : ∃ (a : Fin 1) (b : Fin 1024) (d : Fin 513), y = (ix3 a b d : S1x1024x513.Idx) := ⟨y 0, y 1, y 2, eq_ix3 y⟩
      rw [emb4_5, final4_5_at]
    revert key
    generalize out4_5 (iblk4 V c 0 t) (iblk4 V c 1 t) (iblk4 V c 2 t) (iblk4 V c 3 t) (iblk4 V c 4 t) = O
    generalize final4_5 V c = G
    intro key
    exact funext key
  · refine ⟨⟨(i 0).val, (i 0).isLt⟩, flush4_5 _, ?_⟩
    refine Finset.mem_map.mpr ⟨(ix3 0 (i 1) (i 2) : S1x1024x513.Idx), Finset.mem_univ _, ?_⟩
    refine (emb4_5 ⟨(i 0).val, (i 0).isLt⟩ 0 (i 1) (i 2)).trans ?_
    exact (eq_ix3 i).symm

theorem index4_6 (t : Fin grid4.N) : win4_6.index t = ![t.val, 0, 0] := by
  revert t; decide +kernel

/-- Where window 6's block lies in its array. -/
theorem emb4_6 (t : Fin grid4.N) (a : Fin 1) (b : Fin 1024) (d : Fin 513) :
    (win4_6.rect t).emb (ix3 a b d : S1x1024x513.Idx) = (ix3 ⟨t.val, t.isLt⟩ b d : S64x1024x513.Idx) := by
  funext z
  apply Fin.ext
  refine (Pipeline.Window.rect_emb_val win4_6 t _ z).trans ?_
  rw [index4_6]
  fin_cases z
  · show t.val * 1 + a.val = t.val
    have := a.isLt; omega
  · show 0 * 1024 + b.val = b.val
    omega
  · show 0 * 513 + d.val = d.val
    omega

/-- What window 6's array holds at the end: at each index the body's result at the point whose block holds it. -/
def final4_6 : FVec Ideal S64x1024x513 .f32 := fun i =>
  let t : Fin cfg4.N := ⟨(i 0).val, (i 0).isLt⟩
  out4_6 (iblk4 V c 0 t) (iblk4 V c 1 t) (iblk4 V c 2 t) (iblk4 V c 3 t) (iblk4 V c 4 t) (ix3 0 (i 1) (i 2) : S1x1024x513.Idx)

theorem final4_6_at (t : Fin cfg4.N) (a : Fin 1) (b : Fin 1024) (d : Fin 513) :
    final4_6 V c (ix3 ⟨t.val, t.isLt⟩ b d : S64x1024x513.Idx) = out4_6 (iblk4 V c 0 t) (iblk4 V c 1 t) (iblk4 V c 2 t) (iblk4 V c 3 t) (iblk4 V c 4 t) (ix3 a b d) := by
  obtain rfl : a = 0 := Subsingleton.elim _ _
  rfl

theorem arr4_6 : (dat4 V c).arrAt 6 cfg4.N = final4_6 V c := by
  refine (dat4 V c).arrAt_eq_of_cover 6 (final4_6 V c) (fun t _ => ?_) (fun i => ?_)
  · show (cfg4.win 6).cut (grid4.coords t) ((dat4 V c).after 6 t) = _
    rw [after4_6]
    have key : ∀ y : S1x1024x513.Idx, out4_6 (iblk4 V c 0 t) (iblk4 V c 1 t) (iblk4 V c 2 t) (iblk4 V c 3 t) (iblk4 V c 4 t) y = final4_6 V c ((win4_6.rect t).emb y) := by
      intro y
      obtain ⟨a, b, d, rfl⟩ : ∃ (a : Fin 1) (b : Fin 1024) (d : Fin 513), y = (ix3 a b d : S1x1024x513.Idx) := ⟨y 0, y 1, y 2, eq_ix3 y⟩
      rw [emb4_6, final4_6_at]
    revert key
    generalize out4_6 (iblk4 V c 0 t) (iblk4 V c 1 t) (iblk4 V c 2 t) (iblk4 V c 3 t) (iblk4 V c 4 t) = O
    generalize final4_6 V c = G
    intro key
    exact funext key
  · refine ⟨⟨(i 0).val, (i 0).isLt⟩, flush4_6 _, ?_⟩
    refine Finset.mem_map.mpr ⟨(ix3 0 (i 1) (i 2) : S1x1024x513.Idx), Finset.mem_univ _, ?_⟩
    refine (emb4_6 ⟨(i 0).val, (i 0).isLt⟩ 0 (i 1) (i 2)).trans ?_
    exact (eq_ix3 i).symm

end Lti
end
-- ==== Proof.Pay4.lean ====
/-
  The spectrum of the signal: what the body stores.
-/
module

public import proofs.«01_k».proof.Proof.Reg
public import proofs.«01_k».proof.Proof.Gen.KernelIdeal.Frame.Region4

@[expose] public section

set_option maxRecDepth 4096

noncomputable section

namespace Lti

open Idealize.ShloMosaic Idealize.ShloMosaic.TcCoe Cert.KernelIdeal Cert.KernelIdeal.Gen

theorem out4_5_at (x0 : FVec Ideal S1x512x512 .f32) (x1 : FVec Ideal S1024x512 .f32) (x2 : FVec Ideal S1024x512 .f32) (x3 : FVec Ideal S512x513 .f32) (x4 : FVec Ideal S512x513 .f32) (r : Fin 1024) (q : Fin 513) :
    @Eq EReal (out4_5 (F := Ideal) x0 x1 x2 x3 x4 (ix3 0 r q))
      (cre (row x1 r) (row x2 r) (fun n => dotp (row3 x0 0 n) (col x3 q)) (fun n => dotp (row3 x0 0 n) (col x4 q))) := by
  unfold out4_5
  rw [View.canon_unit_zero hz3]
  simp only [View.ld_unit_zero (S := S1x512x512) hz3, View.ld_unit_zero (S := S1024x512) hz2, View.ld_unit_zero (S := S512x513) hz2]
  pointwise [k4_pay1, k4_pay2, k4_pay3, k4_pay4, k4_pay5, k4_pay6]
  rfl

theorem out4_6_at (x0 : FVec Ideal S1x512x512 .f32) (x1 : FVec Ideal S1024x512 .f32) (x2 : FVec Ideal S1024x512 .f32) (x3 : FVec Ideal S512x513 .f32) (x4 : FVec Ideal S512x513 .f32) (r : Fin 1024) (q : Fin 513) :
    @Eq EReal (out4_6 (F := Ideal) x0 x1 x2 x3 x4 (ix3 0 r q))
      (cim (row x1 r) (row x2 r) (fun n => dotp (row3 x0 0 n) (col x3 q)) (fun n => dotp (row3 x0 0 n) (col x4 q))) := by
  unfold out4_6
  rw [View.canon_unit_zero hz3]
  simp only [View.ld_unit_zero (S := S1x512x512) hz3, View.ld_unit_zero (S := S1024x512) hz2, View.ld_unit_zero (S := S512x513) hz2]
  pointwise [k4_pay1, k4_pay2, k4_pay3, k4_pay4, k4_pay5, k4_pay7]
  rfl

end Lti
end
-- ==== Proof.KStep4.lean ====
/-
  The kernel's transform of the signal.
-/
module

public import proofs.«01_k».proof.Proof.Keep
public import proofs.«01_k».proof.Proof.Goal
public import proofs.«01_k».proof.Proof.Reg4
public import proofs.«01_k».proof.Proof.Pay4

@[expose] public section

noncomputable section

namespace Lti

open Idealize.ShloMosaic Idealize.ShloMosaic.StableHlo Cert.KernelIdeal Cert.KernelIdeal.Gen
open Idealize.ShloMosaic.TcCoe ComplexConjugate

/-- The order in which the kernel keeps the 1024 frequencies, as a bijection. -/
def permE : Fin 1024 ≃ Fin 1024 where
  toFun r := ⟨perm r.val, by have := r.isLt; unfold perm; split <;> omega⟩
  invFun r := ⟨if r.val % 2 = 0 then r.val / 2 else 512 + r.val / 2, by have := r.isLt; split <;> omega⟩
  left_inv r := Fin.ext (by have := r.isLt; simp only [perm]; split <;> split <;> omega)
  right_inv r := Fin.ext (by have := r.isLt; simp only [perm]; split <;> split <;> omega)

theorem cre_perm (ar ai br bi : Fin 1024 → EReal) :
    cre (fun f => ar (permE f)) (fun f => ai (permE f)) (fun f => br (permE f)) (fun f => bi (permE f)) = cre ar ai br bi := by
  unfold cre
  rw [Equiv.sum_comp permE (fun f => ar f * br f), Equiv.sum_comp permE (fun f => ai f * bi f)]
theorem cim_perm (ar ai br bi : Fin 1024 → EReal) :
    cim (fun f => ar (permE f)) (fun f => ai (permE f)) (fun f => br (permE f)) (fun f => bi (permE f)) = cim ar ai br bi := by
  unfold cim
  rw [Equiv.sum_comp permE (fun f => ar f * bi f), Equiv.sum_comp permE (fun f => ai f * br f)]

variable (m : (ℓ : Loc nD τ sig) → Buf (Elt Ideal) ℓ) (ρ : Dev nD → PrngReg) (c : Dev nD)

/-- The signal of a batch element and a channel. -/
def sig0 (b : Fin 4) (i : Fin 16) : Fin 512 → Fin 512 → EReal :=
  fun n j => (m ((c : Thread nD τ).loc main_arg0) : FVec Ideal S4x512x512x16 .f32) (ix4 b n j i)

/-- The batch element and the channel of an array of the kernel's stack of 64. -/
def baB (t : Fin 64) : Fin 4 := ⟨t.val / 16, by omega⟩
def chB (t : Fin 64) : Fin 16 := ⟨t.val % 16, by omega⟩

theorem v203_at (t : Fin 64) (n j : Fin 512) :
    @Eq EReal ((W40 m ρ c (Proc.devRef .tc main_v203) : FVec Ideal S64x512x512 .f32) (ix3 t n j)) (sig0 m c (baB t) (chB t) n j) := by
  have e : W39 m ρ c (Proc.devRef .tc main_arg0) = m ((c : Thread nD τ).loc main_arg0) := W39_args m ρ c main_arg0 (by decide)
  unfold sig0
  rw [← e]
  show @Eq EReal ((after (hostOps4 : List (HloOp τ sig (Elt Ideal))) (W39 m ρ c) (Proc.devRef .tc main_v203) : FVec Ideal S64x512x512 .f32) _) _
  generalize W39 m ρ c = V
  simp only [hostOps4, TRef.ternary, TRef.unary, TRef.binary, TRef.nullary, TRef.toBuf, TRef.ofBuf, cast_eq]
  after_results_simp
  pointwise
  rfl

theorem out4_is (x0 : FVec Ideal S1x512x512 .f32) (x1 x2 : FVec Ideal S1024x512 .f32) (x3 x4 : FVec Ideal S512x513 .f32)
    (u : Fin 512 → Fin 512 → EReal) (h0 : ∀ n j, @Eq EReal (x0 (ix3 0 n j)) (u n j)) (r : Fin 1024) (q : Fin 513)
    (h1 : ∀ n, @Eq EReal (x1 (ix2 r n)) (fre (perm r.val * n.val))) (h2 : ∀ n, @Eq EReal (x2 (ix2 r n)) (fim (perm r.val * n.val)))
    (h3 : ∀ j, @Eq EReal (x3 (ix2 j q)) (fre (j.val * q.val))) (h4 : ∀ j, @Eq EReal (x4 (ix2 j q)) (fim (j.val * q.val))) :
    @Eq EReal (out4_5 (F := Ideal) x0 x1 x2 x3 x4 (ix3 0 r q)) (xre u (perm r.val) q.val)
    ∧ @Eq EReal (out4_6 (F := Ideal) x0 x1 x2 x3 x4 (ix3 0 r q)) (xim u (perm r.val) q.val) := by
  have e0 : ∀ n, row3 x0 0 n = u n := fun n => funext fun j => h0 n j
  have e1 : row x1 r = fun n => fre (perm r.val * n.val) := funext h1
  have e2 : row x2 r = fun n => fim (perm r.val * n.val) := funext h2
  have e3 : col x3 q = fun j => fre (j.val * q.val) := funext h3
  have e4 : col x4 q = fun j => fim (j.val * q.val) := funext h4
  refine ⟨(out4_5_at x0 x1 x2 x3 x4 r q).trans ?_, (out4_6_at x0 x1 x2 x3 x4 r q).trans ?_⟩
  · simp only [e0, e1, e2, e3, e4, xre]
  · simp only [e0, e1, e2, e3, e4, xim]

/-- The kernel's transform of the signal, the even frequencies first. -/
theorem xside_is (t : Fin 64) (r : Fin 1024) (q : Fin 513) :
    @Eq EReal ((W41 m ρ c (Proc.devRef .tc main_v204_0) : FVec Ideal S64x1024x513 .f32) (ix3 t r q))
      (xre (sig0 m c (baB t) (chB t)) (perm r.val) q.val)
    ∧ @Eq EReal ((W41 m ρ c (Proc.devRef .tc main_v204_1) : FVec Ideal S64x1024x513 .f32) (ix3 t r q))
      (xim (sig0 m c (baB t) (chB t)) (perm r.val) q.val) := by
  have e0 : W41 m ρ c (Proc.devRef .tc main_v204_0) = final4_5 (V40 m ρ) c := (W41_arr m ρ c 5).trans (arr4_5 _ c)
  have e1 : W41 m ρ c (Proc.devRef .tc main_v204_1) = final4_6 (V40 m ρ) c := (W41_arr m ρ c 6).trans (arr4_6 _ c)
  rw [e0, e1]
  have ht : t.val < cfg4.N := by have := t.isLt; have e : cfg4.N = 64 := N_4; omega
  have hR := keep_v40_40 m ρ c
  have hI := keep_v46_40 m ρ c
  have hC := keep_v84_40 m ρ c
  have hD := keep_v86_40 m ρ c
  have key := out4_is (iblk4 (V40 m ρ) c 0 ⟨t.val, ht⟩) (iblk4 (V40 m ρ) c 1 ⟨t.val, ht⟩) (iblk4 (V40 m ρ) c 2 ⟨t.val, ht⟩)
    (iblk4 (V40 m ρ) c 3 ⟨t.val, ht⟩) (iblk4 (V40 m ρ) c 4 ⟨t.val, ht⟩) (sig0 m c (baB t) (chB t))
    (fun n j => (iblk4_0_at (V40 m ρ) c ⟨t.val, ht⟩ 0 n j).trans (v203_at m ρ c t n j)) r q
    (fun n => (iblk4_1_at (V40 m ρ) c ⟨t.val, ht⟩ r n).trans ((congrFun hR _).trans (e_re m ρ c (ix2 r n))))
    (fun n => (iblk4_2_at (V40 m ρ) c ⟨t.val, ht⟩ r n).trans ((congrFun hI _).trans (e_im m ρ c (ix2 r n))))
    (fun j => (iblk4_3_at (V40 m ρ) c ⟨t.val, ht⟩ j q).trans ((congrFun hC _).trans (c_cos m ρ c (ix2 j q))))
    (fun j => (iblk4_4_at (V40 m ρ) c ⟨t.val, ht⟩ j q).trans ((congrFun hD _).trans (c_sin m ρ c (ix2 j q))))
  exact ⟨(final4_5_at (V40 m ρ) c ⟨t.val, ht⟩ 0 r q).trans key.1, (final4_6_at (V40 m ρ) c ⟨t.val, ht⟩ 0 r q).trans key.2⟩

end Lti
end
-- ==== Proof.Reg5.lean ====
/-
  The channel mixing: what its windows hold.
-/
module

public import proofs.«01_k».proof.Proof.Reg
public import proofs.«01_k».proof.Proof.Gen.KernelIdeal.Frame.Region5

@[expose] public section

noncomputable section

namespace Lti

open Idealize.ShloMosaic Idealize.ShloMosaic.TcCoe Cert.KernelIdeal Cert.KernelIdeal.Gen

theorem N5 : cfg5.N = 128 := N_5

/-- The row of the array that is row `d` of point `t`'s block, and back. -/
def row5 (t : Fin cfg5.N) (d : Fin 8) : Fin 1024 := ⟨t.val * 8 + d.val, by have := t.isLt; have := N5; omega⟩
def pt5 (r : Fin 1024) : Fin cfg5.N := ⟨r.val / 8, by have := r.isLt; rw [N5]; omega⟩
def lo5 (r : Fin 1024) : Fin 8 := ⟨r.val % 8, Nat.mod_lt _ (by decide)⟩

theorem pt5_row (t : Fin cfg5.N) (d : Fin 8) : pt5 (row5 t d) = t :=
  Fin.ext (by show (t.val * 8 + d.val) / 8 = t.val; omega)
theorem lo5_row (t : Fin cfg5.N) (d : Fin 8) : lo5 (row5 t d) = d :=
  Fin.ext (by show (t.val * 8 + d.val) % 8 = d.val; omega)
theorem row5_pt (r : Fin 1024) : row5 (pt5 r) (lo5 r) = r :=
  Fin.ext (by show r.val / 8 * 8 + r.val % 8 = r.val; omega)

variable (V : (c : Dev nD) → (b : Ref sig .tc) → Buf (Elt Ideal) ((c : Thread nD τ).loc b)) (c : Dev nD)

theorem index5_0 (t : Fin grid5.N) : win5_0.index t = ![0, 0, t.val, 0] := by
  revert t; decide +kernel

/-- Where window 0's block lies in its array. -/
theorem emb5_0 (t : Fin grid5.N) (a : Fin 4) (b : Fin 16) (d : Fin 8) (e : Fin 513) :
    (win5_0.rect t).emb (ix4 a b d e : S4x16x8x513.Idx) = (ix4 a b (row5 t d) e : S4x16x1024x513.Idx) := by
  funext z
  apply Fin.ext
  refine (Pipeline.Window.rect_emb_val win5_0 t _ z).trans ?_
  rw [index5_0]
  fin_cases z
  · show 0 * 4 + a.val = a.val
    omega
  · show 0 * 16 + b.val = b.val
    omega
  · show t.val * 8 + d.val = t.val * 8 + d.val
    omega
  · show 0 * 513 + e.val = e.val
    omega

/-- Window 0's block at an index. -/
theorem iblk5_0_at (t : Fin cfg5.N) (a : Fin 4) (b : Fin 16) (d : Fin 8) (e : Fin 513) :
    (iblk5 V c 0 t : FVec Ideal S4x16x8x513 .f32) (ix4 a b d e) = (V c main_v205 : FVec Ideal S4x16x1024x513 .f32) (ix4 a b (row5 t d) e : S4x16x1024x513.Idx) := by
  show (V c main_v205 : FVec Ideal S4x16x1024x513 .f32) ((win5_0.rect t).emb (ix4 a b d e)) = _
  rw [emb5_0]

theorem index5_1 (t : Fin grid5.N) : win5_1.index t = ![0, 0, t.val, 0] := by
  revert t; decide +kernel

/-- Where window 1's block lies in its array. -/
theorem emb5_1 (t : Fin grid5.N) (a : Fin 4) (b : Fin 16) (d : Fin 8) (e : Fin 513) :
    (win5_1.rect t).emb (ix4 a b d e : S4x16x8x513.Idx) = (ix4 a b (row5 t d) e : S4x16x1024x513.Idx) := by
  funext z
  apply Fin.ext
  refine (Pipeline.Window.rect_emb_val win5_1 t _ z).trans ?_
  rw [index5_1]
  fin_cases z
  · show 0 * 4 + a.val = a.val
    omega
  · show 0 * 16 + b.val = b.val
    omega
  · show t.val * 8 + d.val = t.val * 8 + d.val
    omega
  · show 0 * 513 + e.val = e.val
    omega

/-- Window 1's block at an index. -/
theorem iblk5_1_at (t : Fin cfg5.N) (a : Fin 4) (b : Fin 16) (d : Fin 8) (e : Fin 513) :
    (iblk5 V c 1 t : FVec Ideal S4x16x8x513 .f32) (ix4 a b d e) = (V c main_v206 : FVec Ideal S4x16x1024x513 .f32) (ix4 a b (row5 t d) e : S4x16x1024x513.Idx) := by
  show (V c main_v206 : FVec Ideal S4x16x1024x513 .f32) ((win5_1.rect t).emb (ix4 a b d e)) = _
  rw [emb5_1]

theorem index5_2 (t : Fin grid5.N) : win5_2.index t = ![0, 0, t.val, 0] := by
  revert t; decide +kernel

/-- Where window 2's block lies in its array. -/
theorem emb5_2 (t : Fin grid5.N) (a : Fin 16) (b : Fin 16) (d : Fin 8) (e : Fin 513) :
    (win5_2.rect t).emb (ix4 a b d e : S16x16x8x513.Idx) = (ix4 a b (row5 t d) e : S16x16x1024x513.Idx) := by
  funext z
  apply Fin.ext
  refine (Pipeline.Window.rect_emb_val win5_2 t _ z).trans ?_
  rw [index5_2]
  fin_cases z
  · show 0 * 16 + a.val = a.val
    omega
  · show 0 * 16 + b.val = b.val
    omega
  · show t.val * 8 + d.val = t.val * 8 + d.val
    omega
  · show 0 * 513 + e.val = e.val
    omega

/-- Window 2's block at an index. -/
theorem iblk5_2_at (t : Fin cfg5.N) (a : Fin 16) (b : Fin 16) (d : Fin 8) (e : Fin 513) :
    (iblk5 V c 2 t : FVec Ideal S16x16x8x513 .f32) (ix4 a b d e) = (V c main_v207 : FVec Ideal S16x16x1024x513 .f32) (ix4 a b (row5 t d) e : S16x16x1024x513.Idx) := by
  show (V c main_v207 : FVec Ideal S16x16x1024x513 .f32) ((win5_2.rect t).emb (ix4 a b d e)) = _
  rw [emb5_2]

theorem index5_3 (t : Fin grid5.N) : win5_3.index t = ![0, 0, t.val, 0] := by
  revert t; decide +kernel

/-- Where window 3's block lies in its array. -/
theorem emb5_3 (t : Fin grid5.N) (a : Fin 16) (b : Fin 16) (d : Fin 8) (e : Fin 513) :
    (win5_3.rect t).emb (ix4 a b d e : S16x16x8x513.Idx) = (ix4 a b (row5 t d) e : S16x16x1024x513.Idx) := by
  funext z
  apply Fin.ext
  refine (Pipeline.Window.rect_emb_val win5_3 t _ z).trans ?_
  rw [index5_3]
  fin_cases z
  · show 0 * 16 + a.val = a.val
    omega
  · show 0 * 16 + b.val = b.val
    omega
  · show t.val * 8 + d.val = t.val * 8 + d.val
    omega
  · show 0 * 513 + e.val = e.val
    omega

/-- Window 3's block at an index. -/
theorem iblk5_3_at (t : Fin cfg5.N) (a : Fin 16) (b : Fin 16) (d : Fin 8) (e : Fin 513) :
    (iblk5 V c 3 t : FVec Ideal S16x16x8x513 .f32) (ix4 a b d e) = (V c main_v208 : FVec Ideal S16x16x1024x513 .f32) (ix4 a b (row5 t d) e : S16x16x1024x513.Idx) := by
  show (V c main_v208 : FVec Ideal S16x16x1024x513 .f32) ((win5_3.rect t).emb (ix4 a b d e)) = _
  rw [emb5_3]

theorem index5_4 (t : Fin grid5.N) : win5_4.index t = ![0, 0] := by
  revert t; decide +kernel

/-- Where window 4's block lies in its array. -/
theorem emb5_4 (t : Fin grid5.N) (a : Fin 16) (b : Fin 16) :
    (win5_4.rect t).emb (ix2 a b : S16x16.Idx) = (ix2 a b : S16x16.Idx) := by
  funext z
  apply Fin.ext
  refine (Pipeline.Window.rect_emb_val win5_4 t _ z).trans ?_
  rw [index5_4]
  fin_cases z
  · show 0 * 16 + a.val = a.val
    omega
  · show 0 * 16 + b.val = b.val
    omega

/-- Window 4's block at an index. -/
theorem iblk5_4_at (t : Fin cfg5.N) (a : Fin 16) (b : Fin 16) :
    (iblk5 V c 4 t : FVec Ideal S16x16 .f32) (ix2 a b) = (V c main_v209 : FVec Ideal S16x16 .f32) (ix2 a b : S16x16.Idx) := by
  show (V c main_v209 : FVec Ideal S16x16 .f32) ((win5_4.rect t).emb (ix2 a b)) = _
  rw [emb5_4]

theorem index5_5 (t : Fin grid5.N) : win5_5.index t = ![0, 0, t.val, 0] := by
  revert t; decide +kernel

/-- Where window 5's block lies in its array. -/
theorem emb5_5 (t : Fin grid5.N) (a : Fin 4) (b : Fin 16) (d : Fin 8) (e : Fin 513) :
    (win5_5.rect t).emb (ix4 a b d e : S4x16x8x513.Idx) = (ix4 a b (row5 t d) e : S4x16x1024x513.Idx) := by
  funext z
  apply Fin.ext
  refine (Pipeline.Window.rect_emb_val win5_5 t _ z).trans ?_
  rw [index5_5]
  fin_cases z
  · show 0 * 4 + a.val = a.val
    omega
  · show 0 * 16 + b.val = b.val
    omega
  · show t.val * 8 + d.val = t.val * 8 + d.val
    omega
  · show 0 * 513 + e.val = e.val
    omega

/-- What window 5's array holds at the end: at each index the body's result at the point whose block holds it. -/
def final5_5 : FVec Ideal S4x16x1024x513 .f32 := fun i =>
  let t : Fin cfg5.N := (pt5 (i 2))
  out5_5 (iblk5 V c 0 t) (iblk5 V c 1 t) (iblk5 V c 2 t) (iblk5 V c 3 t) (iblk5 V c 4 t) (ix4 (i 0) (i 1) (lo5 (i 2)) (i 3) : S4x16x8x513.Idx)

theorem final5_5_at (t : Fin cfg5.N) (a : Fin 4) (b : Fin 16) (d : Fin 8) (e : Fin 513) :
    final5_5 V c (ix4 a b (row5 t d) e : S4x16x1024x513.Idx) = out5_5 (iblk5 V c 0 t) (iblk5 V c 1 t) (iblk5 V c 2 t) (iblk5 V c 3 t) (iblk5 V c 4 t) (ix4 a b d e) := by
  have h : ∀ (t2 : Fin cfg5.N) (z : Fin 8), t2 = t → z = d →
      out5_5 (iblk5 V c 0 t2) (iblk5 V c 1 t2) (iblk5 V c 2 t2) (iblk5 V c 3 t2) (iblk5 V c 4 t2) (ix4 a b z e) = out5_5 (iblk5 V c 0 t) (iblk5 V c 1 t) (iblk5 V c 2 t) (iblk5 V c 3 t) (iblk5 V c 4 t) (ix4 a b d e) := by
    rintro _ _ rfl rfl; rfl
  exact h _ _ (pt5_row t d) (lo5_row t d)

theorem arr5_5 : (dat5 V c).arrAt 5 cfg5.N = final5_5 V c := by
  refine (dat5 V c).arrAt_eq_of_cover 5 (final5_5 V c) (fun t _ => ?_) (fun i => ?_)
  · show (cfg5.win 5).cut (grid5.coords t) ((dat5 V c).after 5 t) = _
    rw [after5_5]
    have key : ∀ y : S4x16x8x513.Idx, out5_5 (iblk5 V c 0 t) (iblk5 V c 1 t) (iblk5 V c 2 t) (iblk5 V c 3 t) (iblk5 V c 4 t) y = final5_5 V c ((win5_5.rect t).emb y) := by
      intro y
      obtain ⟨a, b, d, e, rfl⟩ : ∃ (a : Fin 4) (b : Fin 16) (d : Fin 8) (e : Fin 513), y = (ix4 a b d e : S4x16x8x513.Idx) := ⟨y 0, y 1, y 2, y 3, eq_ix4 y⟩
      rw [emb5_5, final5_5_at]
    revert key
    generalize out5_5 (iblk5 V c 0 t) (iblk5 V c 1 t) (iblk5 V c 2 t) (iblk5 V c 3 t) (iblk5 V c 4 t) = O
    generalize final5_5 V c = G
    intro key
    exact funext key
  · refine ⟨(pt5 (i 2)), flush5_5 _, ?_⟩
    refine Finset.mem_map.mpr ⟨(ix4 (i 0) (i 1) (lo5 (i 2)) (i 3) : S4x16x8x513.Idx), Finset.mem_univ _, ?_⟩
    refine (emb5_5 (pt5 (i 2)) (i 0) (i 1) (lo5 (i 2)) (i 3)).trans ?_
    have h : row5 (pt5 (i 2)) (lo5 (i 2)) = i 2 := row5_pt _
    refine Eq.trans ?_ (eq_ix4 i).symm
    exact congrArg (fun z => (ix4 (i 0) (i 1) z (i 3) : S4x16x1024x513.Idx)) h

theorem index5_6 (t : Fin grid5.N) : win5_6.index t = ![0, 0, t.val, 0] := by
  revert t; decide +kernel

/-- Where window 6's block lies in its array. -/
theorem emb5_6 (t : Fin grid5.N) (a : Fin 4) (b : Fin 16) (d : Fin 8) (e : Fin 513) :
    (win5_6.rect t).emb (ix4 a b d e : S4x16x8x513.Idx) = (ix4 a b (row5 t d) e : S4x16x1024x513.Idx) := by
  funext z
  apply Fin.ext
  refine (Pipeline.Window.rect_emb_val win5_6 t _ z).trans ?_
  rw [index5_6]
  fin_cases z
  · show 0 * 4 + a.val = a.val
    omega
  · show 0 * 16 + b.val = b.val
    omega
  · show t.val * 8 + d.val = t.val * 8 + d.val
    omega
  · show 0 * 513 + e.val = e.val
    omega

/-- What window 6's array holds at the end: at each index the body's result at the point whose block holds it. -/
def final5_6 : FVec Ideal S4x16x1024x513 .f32 := fun i =>
  let t : Fin cfg5.N := (pt5 (i 2))
  out5_6 (iblk5 V c 0 t) (iblk5 V c 1 t) (iblk5 V c 2 t) (iblk5 V c 3 t) (iblk5 V c 4 t) (ix4 (i 0) (i 1) (lo5 (i 2)) (i 3) : S4x16x8x513.Idx)

theorem final5_6_at (t : Fin cfg5.N) (a : Fin 4) (b : Fin 16) (d : Fin 8) (e : Fin 513) :
    final5_6 V c (ix4 a b (row5 t d) e : S4x16x1024x513.Idx) = out5_6 (iblk5 V c 0 t) (iblk5 V c 1 t) (iblk5 V c 2 t) (iblk5 V c 3 t) (iblk5 V c 4 t) (ix4 a b d e) := by
  have h : ∀ (t2 : Fin cfg5.N) (z : Fin 8), t2 = t → z = d →
      out5_6 (iblk5 V c 0 t2) (iblk5 V c 1 t2) (iblk5 V c 2 t2) (iblk5 V c 3 t2) (iblk5 V c 4 t2) (ix4 a b z e) = out5_6 (iblk5 V c 0 t) (iblk5 V c 1 t) (iblk5 V c 2 t) (iblk5 V c 3 t) (iblk5 V c 4 t) (ix4 a b d e) := by
    rintro _ _ rfl rfl; rfl
  exact h _ _ (pt5_row t d) (lo5_row t d)

theorem arr5_6 : (dat5 V c).arrAt 6 cfg5.N = final5_6 V c := by
  refine (dat5 V c).arrAt_eq_of_cover 6 (final5_6 V c) (fun t _ => ?_) (fun i => ?_)
  · show (cfg5.win 6).cut (grid5.coords t) ((dat5 V c).after 6 t) = _
    rw [after5_6]
    have key : ∀ y : S4x16x8x513.Idx, out5_6 (iblk5 V c 0 t) (iblk5 V c 1 t) (iblk5 V c 2 t) (iblk5 V c 3 t) (iblk5 V c 4 t) y = final5_6 V c ((win5_6.rect t).emb y) := by
      intro y
      obtain ⟨a, b, d, e, rfl⟩ : ∃ (a : Fin 4) (b : Fin 16) (d : Fin 8) (e : Fin 513), y = (ix4 a b d e : S4x16x8x513.Idx) := ⟨y 0, y 1, y 2, y 3, eq_ix4 y⟩
      rw [emb5_6, final5_6_at]
    revert key
    generalize out5_6 (iblk5 V c 0 t) (iblk5 V c 1 t) (iblk5 V c 2 t) (iblk5 V c 3 t) (iblk5 V c 4 t) = O
    generalize final5_6 V c = G
    intro key
    exact funext key
  · refine ⟨(pt5 (i 2)), flush5_6 _, ?_⟩
    refine Finset.mem_map.mpr ⟨(ix4 (i 0) (i 1) (lo5 (i 2)) (i 3) : S4x16x8x513.Idx), Finset.mem_univ _, ?_⟩
    refine (emb5_6 (pt5 (i 2)) (i 0) (i 1) (lo5 (i 2)) (i 3)).trans ?_
    have h : row5 (pt5 (i 2)) (lo5 (i 2)) = i 2 := row5_pt _
    refine Eq.trans ?_ (eq_ix4 i).symm
    exact congrArg (fun z => (ix4 (i 0) (i 1) z (i 3) : S4x16x1024x513.Idx)) h

end Lti
end
-- ==== Proof.Pay5.lean ====
/-
  The channel mixing: what the body stores.
-/
module

public import proofs.«01_k».proof.Proof.Reg
public import Idealize.ShloMosaic.Lib.Pipeline.ValueKit.Tiles
public import proofs.«01_k».proof.Proof.Gen.KernelIdeal.Frame.Region5

@[expose] public section

set_option maxRecDepth 8192

noncomputable section

namespace Lti

open Idealize.ShloMosaic Idealize.ShloMosaic.TcCoe Cert.KernelIdeal Cert.KernelIdeal.Gen

/-- A sum over sixteen terms, spelt out. -/
theorem sum16 (f : Fin 16 → EReal) : ∑ i, f i = f 0 + f 1 + f 2 + f 3 + f 4 + f 5 + f 6 + f 7 + f 8 + f 9 + f 10 + f 11 + f 12
    + f 13 + f 14 + f 15 := by
  simp only [Fin.sum_univ_succ, Fin.sum_univ_zero, add_zero, add_assoc]
  rfl

set_option maxHeartbeats 4000000 in
/-- The sum over the sixteen input channels, each product of pairs at one frequency. -/
theorem out5_5_at (x0 x1 : FVec Ideal S4x16x8x513 .f32) (x2 x3 : FVec Ideal S16x16x8x513 .f32) (x4 : FVec Ideal S16x16 .f32)
    (b : Fin 4) (o : Fin 16) (y : Fin 8) (q : Fin 513) :
    @Eq EReal (out5_5 (F := Ideal) x0 x1 x2 x3 x4 (ix4 b o y q))
      (∑ i : Fin 16, (x0 (ix4 b i y q) * (x2 (ix4 i o y q) + x4 (ix2 i o)) - x1 (ix4 b i y q) * x3 (ix4 i o y q))) := by
  unfold_out out5_5
  rw [View.canon_unit_zero hz4]
  simp only [View.ld_unit_zero (S := S4x16x8x513) hz4, View.ld_unit_zero (S := S16x16) hz2]
  pointwise [k5_pay1, k5_pay2, k5_pay3, k5_pay4, k5_pay5, k5_pay6, k5_pay7, k5_pay8, k5_pay9, k5_pay10, k5_pay11, k5_pay12, k5_pay13, k5_pay14, k5_pay15, k5_pay16, k5_pay17, k5_pay18, k5_pay19, k5_pay20, k5_pay21, k5_pay22, k5_pay23, k5_pay24, k5_pay25, k5_pay26, k5_pay27, k5_pay28, k5_pay29, k5_pay30, k5_pay31, k5_pay32, k5_pay33, k5_pay34, k5_pay35, k5_pay36, k5_pay37, k5_pay38, k5_pay39, k5_pay40, k5_pay41, k5_pay42, k5_pay43, k5_pay44, k5_pay45, k5_pay46, k5_pay47, k5_pay48, k5_pay49, k5_pay50, k5_pay51, k5_pay52, k5_pay53, k5_pay54, k5_pay55, k5_pay56, k5_pay57, k5_pay58, k5_pay59, k5_pay60, k5_pay61, k5_pay62, k5_pay63, k5_pay64, k5_pay65, k5_pay66, k5_pay67, k5_pay68, k5_pay69, k5_pay70, k5_pay71, k5_pay72, k5_pay73, k5_pay74, k5_pay75, k5_pay76, k5_pay77, k5_pay78, k5_pay79, k5_pay80, k5_pay81, k5_pay82, k5_pay83, k5_pay84, k5_pay85, k5_pay86, k5_pay87, k5_pay88, k5_pay89, k5_pay90, k5_pay91, k5_pay92, k5_pay93, k5_pay94, k5_pay95, k5_pay96, k5_pay97, k5_pay98, k5_pay99, k5_pay100, k5_pay101, k5_pay102]
  simp only [sub_eq_add_neg, add_assoc]
  rw [sum16]
  simp only [add_assoc]

set_option maxHeartbeats 4000000 in
/-- The sum over the sixteen input channels, each product of pairs at one frequency. -/
theorem out5_6_at (x0 x1 : FVec Ideal S4x16x8x513 .f32) (x2 x3 : FVec Ideal S16x16x8x513 .f32) (x4 : FVec Ideal S16x16 .f32)
    (b : Fin 4) (o : Fin 16) (y : Fin 8) (q : Fin 513) :
    @Eq EReal (out5_6 (F := Ideal) x0 x1 x2 x3 x4 (ix4 b o y q))
      (∑ i : Fin 16, (x0 (ix4 b i y q) * x3 (ix4 i o y q) + x1 (ix4 b i y q) * (x2 (ix4 i o y q) + x4 (ix2 i o)))) := by
  unfold_out out5_6
  rw [View.canon_unit_zero hz4]
  simp only [View.ld_unit_zero (S := S4x16x8x513) hz4, View.ld_unit_zero (S := S16x16) hz2]
  pointwise [k5_pay1, k5_pay2, k5_pay3, k5_pay4, k5_pay5, k5_pay6, k5_pay7, k5_pay8, k5_pay9, k5_pay10, k5_pay11, k5_pay12, k5_pay13, k5_pay14, k5_pay15, k5_pay16, k5_pay17, k5_pay18, k5_pay19, k5_pay20, k5_pay21, k5_pay22, k5_pay23, k5_pay24, k5_pay25, k5_pay26, k5_pay27, k5_pay28, k5_pay29, k5_pay30, k5_pay31, k5_pay32, k5_pay33, k5_pay34, k5_pay35, k5_pay36, k5_pay37, k5_pay38, k5_pay39, k5_pay40, k5_pay41, k5_pay42, k5_pay43, k5_pay44, k5_pay45, k5_pay46, k5_pay47, k5_pay48, k5_pay49, k5_pay50, k5_pay51, k5_pay52, k5_pay53, k5_pay54, k5_pay55, k5_pay56, k5_pay57, k5_pay58, k5_pay59, k5_pay60, k5_pay61, k5_pay62, k5_pay63, k5_pay64, k5_pay65, k5_pay66, k5_pay67, k5_pay68, k5_pay69, k5_pay70, k5_pay71, k5_pay72, k5_pay73, k5_pay74, k5_pay75, k5_pay76, k5_pay77, k5_pay78, k5_pay79, k5_pay80, k5_pay81, k5_pay82, k5_pay83, k5_pay84, k5_pay85, k5_pay86, k5_pay87, k5_pay88, k5_pay89, k5_pay90, k5_pay91, k5_pay92, k5_pay93, k5_pay94, k5_pay95, k5_pay96, k5_pay97, k5_pay98, k5_pay99, k5_pay100, k5_pay101, k5_pay102]
  simp only [sub_eq_add_neg, add_assoc]
  rw [sum16]
  simp only [add_assoc]

end Lti
end
-- ==== Proof.KStep5.lean ====
/-
  The kernel's sum over the channels.
-/
module

public import proofs.«01_k».proof.Proof.KStep3
public import proofs.«01_k».proof.Proof.KStep4
public import proofs.«01_k».proof.Proof.Reg5
public import proofs.«01_k».proof.Proof.Pay5

@[expose] public section

noncomputable section

namespace Lti

open Idealize.ShloMosaic Idealize.ShloMosaic.StableHlo Cert.KernelIdeal Cert.KernelIdeal.Gen
open Idealize.ShloMosaic.TcCoe ComplexConjugate

variable (m : (ℓ : Loc nD τ sig) → Buf (Elt Ideal) ℓ) (ρ : Dev nD → PrngReg) (c : Dev nD)

/-- The direct gain from a channel to another. -/
def gain (o : Fin 16) : Fin 16 → EReal :=
  fun i => (m ((c : Thread nD τ).loc main_arg1) : FVec Ideal S16x16x1x1 .f32) (ix4 i o 0 0)

/-- The response's transform, per pair of channels. -/
def kern (g3 g2 : Fin 16 → Fin 16 → Fin 8 → Fin 8 → ℝ) (o : Fin 16) : Fin 16 → ℕ → ℕ → ℂ :=
  fun i => dbl (resp (alpha (g3 i o) (g2 i o)))

def stB (b : Fin 4) (i : Fin 16) : Fin 64 := ⟨b.val * 16 + i.val, by omega⟩
def stH (i o : Fin 16) : Fin 256 := ⟨i.val * 16 + o.val, by omega⟩

theorem v205_at (b : Fin 4) (i : Fin 16) (r : Fin 1024) (q : Fin 513) :
    @Eq EReal ((W42 m ρ c (Proc.devRef .tc main_v205) : FVec Ideal S4x16x1024x513 .f32) (ix4 b i r q))
      ((W41 m ρ c (Proc.devRef .tc main_v204_0) : FVec Ideal S64x1024x513 .f32) (ix3 (stB b i) r q)) := by
  show @Eq EReal ((after (hostOps5 : List (HloOp τ sig (Elt Ideal))) (W41 m ρ c) (Proc.devRef .tc main_v205) : FVec Ideal S4x16x1024x513 .f32) _) _
  generalize W41 m ρ c = V
  simp only [hostOps5, TRef.ternary, TRef.unary, TRef.binary, TRef.nullary, TRef.toBuf, TRef.ofBuf, cast_eq]
  after_results_simp
  pointwise
  rfl

theorem v206_at (b : Fin 4) (i : Fin 16) (r : Fin 1024) (q : Fin 513) :
    @Eq EReal ((W42 m ρ c (Proc.devRef .tc main_v206) : FVec Ideal S4x16x1024x513 .f32) (ix4 b i r q))
      ((W41 m ρ c (Proc.devRef .tc main_v204_1) : FVec Ideal S64x1024x513 .f32) (ix3 (stB b i) r q)) := by
  show @Eq EReal ((after (hostOps5 : List (HloOp τ sig (Elt Ideal))) (W41 m ρ c) (Proc.devRef .tc main_v206) : FVec Ideal S4x16x1024x513 .f32) _) _
  generalize W41 m ρ c = V
  simp only [hostOps5, TRef.ternary, TRef.unary, TRef.binary, TRef.nullary, TRef.toBuf, TRef.ofBuf, cast_eq]
  after_results_simp
  pointwise
  rfl

theorem v207_at (i o : Fin 16) (r : Fin 1024) (q : Fin 513) :
    @Eq EReal ((W42 m ρ c (Proc.devRef .tc main_v207) : FVec Ideal S16x16x1024x513 .f32) (ix4 i o r q))
      ((W41 m ρ c (Proc.devRef .tc main_v201_0) : FVec Ideal S256x1024x513 .f32) (ix3 (stH i o) r q)) := by
  show @Eq EReal ((after (hostOps5 : List (HloOp τ sig (Elt Ideal))) (W41 m ρ c) (Proc.devRef .tc main_v207) : FVec Ideal S16x16x1024x513 .f32) _) _
  generalize W41 m ρ c = V
  simp only [hostOps5, TRef.ternary, TRef.unary, TRef.binary, TRef.nullary, TRef.toBuf, TRef.ofBuf, cast_eq]
  after_results_simp
  pointwise
  rfl

theorem v208_at (i o : Fin 16) (r : Fin 1024) (q : Fin 513) :
    @Eq EReal ((W42 m ρ c (Proc.devRef .tc main_v208) : FVec Ideal S16x16x1024x513 .f32) (ix4 i o r q))
      ((W41 m ρ c (Proc.devRef .tc main_v201_1) : FVec Ideal S256x1024x513 .f32) (ix3 (stH i o) r q)) := by
  show @Eq EReal ((after (hostOps5 : List (HloOp τ sig (Elt Ideal))) (W41 m ρ c) (Proc.devRef .tc main_v208) : FVec Ideal S16x16x1024x513 .f32) _) _
  generalize W41 m ρ c = V
  simp only [hostOps5, TRef.ternary, TRef.unary, TRef.binary, TRef.nullary, TRef.toBuf, TRef.ofBuf, cast_eq]
  after_results_simp
  pointwise
  rfl

theorem v209_at (i o : Fin 16) :
    @Eq EReal ((W42 m ρ c (Proc.devRef .tc main_v209) : FVec Ideal S16x16 .f32) (ix2 i o)) (gain m c o i) := by
  have e : W41 m ρ c (Proc.devRef .tc main_arg1) = m ((c : Thread nD τ).loc main_arg1) := W41_args m ρ c main_arg1 (by decide)
  unfold gain
  rw [← e]
  show @Eq EReal ((after (hostOps5 : List (HloOp τ sig (Elt Ideal))) (W41 m ρ c) (Proc.devRef .tc main_v209) : FVec Ideal S16x16 .f32) _) _
  generalize W41 m ρ c = V
  simp only [hostOps5, TRef.ternary, TRef.unary, TRef.binary, TRef.nullary, TRef.toBuf, TRef.ofBuf, cast_eq]
  after_results_simp
  pointwise

theorem stB_ba (b : Fin 4) (i : Fin 16) : baB (stB b i) = b := Fin.ext (by show (b.val * 16 + i.val) / 16 = b.val; omega)
theorem stB_ch (b : Fin 4) (i : Fin 16) : chB (stB b i) = i := Fin.ext (by show (b.val * 16 + i.val) % 16 = i.val; omega)
theorem stH_i (i o : Fin 16) : chI (stH i o) = i := Fin.ext (by show (i.val * 16 + o.val) / 16 = i.val; omega)
theorem stH_o (i o : Fin 16) : chO (stH i o) = o := Fin.ext (by show (i.val * 16 + o.val) % 16 = o.val; omega)

theorem out5_is (x0 x1 : FVec Ideal S4x16x8x513 .f32) (x2 x3 : FVec Ideal S16x16x8x513 .f32) (x4 : FVec Ideal S16x16 .f32)
    (u : Fin 16 → Fin 512 → Fin 512 → EReal) (k : Fin 16 → ℕ → ℕ → ℂ) (h : Fin 16 → EReal) (f : ℕ)
    (b : Fin 4) (o : Fin 16) (y : Fin 8) (q : Fin 513)
    (h0 : ∀ i, @Eq EReal (x0 (ix4 b i y q)) (xre (u i) f q.val)) (h1 : ∀ i, @Eq EReal (x1 (ix4 b i y q)) (xim (u i) f q.val))
    (h23 : ∀ i, IsC (x2 (ix4 i o y q)) (x3 (ix4 i o y q)) (k i f q.val)) (h4 : ∀ i, @Eq EReal (x4 (ix2 i o)) (h i)) :
    @Eq EReal (out5_5 (F := Ideal) x0 x1 x2 x3 x4 (ix4 b o y q)) (zre u k h f q.val)
    ∧ @Eq EReal (out5_6 (F := Ideal) x0 x1 x2 x3 x4 (ix4 b o y q)) (zim u k h f q.val) := by
  refine ⟨(out5_5_at x0 x1 x2 x3 x4 b o y q).trans (Finset.sum_congr rfl fun i _ => ?_),
    (out5_6_at x0 x1 x2 x3 x4 b o y q).trans (Finset.sum_congr rfl fun i _ => ?_)⟩
  · rw [h0, h1, (h23 i).1, (h23 i).2, h4]
  · rw [h0, h1, (h23 i).1, (h23 i).2, h4]

/-- The kernel's mixed spectrum, the even frequencies first. -/
theorem mix_is (g3 g2 : Fin 16 → Fin 16 → Fin 8 → Fin 8 → ℝ) (h3 : DenReal m c g3) (h2 : NumReal m c g2)
    (hz : ∀ i o, Nz (g3 i o)) (b : Fin 4) (o : Fin 16) (r : Fin 1024) (q : Fin 513) :
    @Eq EReal ((W43 m ρ c (Proc.devRef .tc main_v210_0) : FVec Ideal S4x16x1024x513 .f32) (ix4 b o r q))
      (zre (sig0 m c b) (kern g3 g2 o) (gain m c o) (perm r.val) q.val)
    ∧ @Eq EReal ((W43 m ρ c (Proc.devRef .tc main_v210_1) : FVec Ideal S4x16x1024x513 .f32) (ix4 b o r q))
      (zim (sig0 m c b) (kern g3 g2 o) (gain m c o) (perm r.val) q.val) := by
  have e0 : W43 m ρ c (Proc.devRef .tc main_v210_0) = final5_5 (V42 m ρ) c := (W43_arr m ρ c 5).trans (arr5_5 _ c)
  have e1 : W43 m ρ c (Proc.devRef .tc main_v210_1) = final5_6 (V42 m ρ) c := (W43_arr m ρ c 6).trans (arr5_6 _ c)
  rw [e0, e1]
  obtain ⟨t, d, rfl⟩ : ∃ t d, r = row5 t d := ⟨pt5 r, lo5 r, (row5_pt r).symm⟩
  have key := out5_is (iblk5 (V42 m ρ) c 0 t) (iblk5 (V42 m ρ) c 1 t) (iblk5 (V42 m ρ) c 2 t) (iblk5 (V42 m ρ) c 3 t)
    (iblk5 (V42 m ρ) c 4 t) (sig0 m c b) (kern g3 g2 o) (gain m c o) (perm (row5 t d).val) b o d q
    (fun i => (iblk5_0_at (V42 m ρ) c t b i d q).trans ((v205_at m ρ c b i (row5 t d) q).trans
      ((xside_is m ρ c (stB b i) (row5 t d) q).1.trans (by rw [stB_ba, stB_ch]))))
    (fun i => (iblk5_1_at (V42 m ρ) c t b i d q).trans ((v206_at m ρ c b i (row5 t d) q).trans
      ((xside_is m ρ c (stB b i) (row5 t d) q).2.trans (by rw [stB_ba, stB_ch]))))
    (fun i => IsC.of_eq ((iblk5_2_at (V42 m ρ) c t i o d q).trans (v207_at m ρ c i o (row5 t d) q))
      ((iblk5_3_at (V42 m ρ) c t i o d q).trans (v208_at m ρ c i o (row5 t d) q))
      (by
        have h := hside_is m ρ c g3 g2 h3 h2 hz (stH i o) (row5 t d) q
        rw [stH_i, stH_o] at h
        rw [keep_v201_0_41, keep_v201_1_41]
        exact h))
    (fun i => (iblk5_4_at (V42 m ρ) c t i o).trans (v209_at m ρ c i o))
  exact ⟨(final5_5_at (V42 m ρ) c t b o d q).trans key.1, (final5_6_at (V42 m ρ) c t b o d q).trans key.2⟩

end Lti
end
-- ==== Proof.Reg6.lean ====
/-
  The inverse transform: what its windows hold.
-/
module

public import proofs.«01_k».proof.Proof.Reg
public import proofs.«01_k».proof.Proof.Gen.KernelIdeal.Frame.Region6

@[expose] public section

noncomputable section

namespace Lti

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)

theorem index6_0 (t : Fin grid6.N) : win6_0.index t = ![t.val, 0, 0] := by
  revert t; decide +kernel

/-- Where window 0's block lies in its array. -/
theorem emb6_0 (t : Fin grid6.N) (a : Fin 1) (b : Fin 1024) (d : Fin 513) :
    (win6_0.rect t).emb (ix3 a b d : S1x1024x513.Idx) = (ix3 ⟨t.val, t.isLt⟩ b d : S64x1024x513.Idx) := by
  funext z
  apply Fin.ext
  refine (Pipeline.Window.rect_emb_val win6_0 t _ z).trans ?_
  rw [index6_0]
  fin_cases z
  · show t.val * 1 + a.val = t.val
    have := a.isLt; omega
  · show 0 * 1024 + b.val = b.val
    omega
  · show 0 * 513 + d.val = d.val
    omega

/-- Window 0's block at an index. -/
theorem iblk6_0_at (t : Fin cfg6.N) (a : Fin 1) (b : Fin 1024) (d : Fin 513) :
    (iblk6 V c 0 t : FVec Ideal S1x1024x513 .f32) (ix3 a b d) = (V c main_v211 : FVec Ideal S64x1024x513 .f32) (ix3 ⟨t.val, t.isLt⟩ b d : S64x1024x513.Idx) := by
  show (V c main_v211 : FVec Ideal S64x1024x513 .f32) ((win6_0.rect t).emb (ix3 a b d)) = _
  rw [emb6_0]

theorem index6_1 (t : Fin grid6.N) : win6_1.index t = ![t.val, 0, 0] := by
  revert t; decide +kernel

/-- Where window 1's block lies in its array. -/
theorem emb6_1 (t : Fin grid6.N) (a : Fin 1) (b : Fin 1024) (d : Fin 513) :
    (win6_1.rect t).emb (ix3 a b d : S1x1024x513.Idx) = (ix3 ⟨t.val, t.isLt⟩ b d : S64x1024x513.Idx) := by
  funext z
  apply Fin.ext
  refine (Pipeline.Window.rect_emb_val win6_1 t _ z).trans ?_
  rw [index6_1]
  fin_cases z
  · show t.val * 1 + a.val = t.val
    have := a.isLt; omega
  · show 0 * 1024 + b.val = b.val
    omega
  · show 0 * 513 + d.val = d.val
    omega

/-- Window 1's block at an index. -/
theorem iblk6_1_at (t : Fin cfg6.N) (a : Fin 1) (b : Fin 1024) (d : Fin 513) :
    (iblk6 V c 1 t : FVec Ideal S1x1024x513 .f32) (ix3 a b d) = (V c main_v212 : FVec Ideal S64x1024x513 .f32) (ix3 ⟨t.val, t.isLt⟩ b d : S64x1024x513.Idx) := by
  show (V c main_v212 : FVec Ideal S64x1024x513 .f32) ((win6_1.rect t).emb (ix3 a b d)) = _
  rw [emb6_1]

theorem index6_2 (t : Fin grid6.N) : win6_2.index t = ![0, 0] := by
  revert t; decide +kernel

/-- Where window 2's block lies in its array. -/
theorem emb6_2 (t : Fin grid6.N) (a : Fin 512) (b : Fin 1024) :
    (win6_2.rect t).emb (ix2 a b : S512x1024.Idx) = (ix2 a b : S512x1024.Idx) := by
  funext z
  apply Fin.ext
  refine (Pipeline.Window.rect_emb_val win6_2 t _ z).trans ?_
  rw [index6_2]
  fin_cases z
  · show 0 * 512 + a.val = a.val
    omega
  · show 0 * 1024 + b.val = b.val
    omega

/-- Window 2's block at an index. -/
theorem iblk6_2_at (t : Fin cfg6.N) (a : Fin 512) (b : Fin 1024) :
    (iblk6 V c 2 t : FVec Ideal S512x1024 .f32) (ix2 a b) = (V c main_v119 : FVec Ideal S512x1024 .f32) (ix2 a b : S512x1024.Idx) := by
  show (V c main_v119 : FVec Ideal S512x1024 .f32) ((win6_2.rect t).emb (ix2 a b)) = _
  rw [emb6_2]

theorem index6_3 (t : Fin grid6.N) : win6_3.index t = ![0, 0] := by
  revert t; decide +kernel

/-- Where window 3's block lies in its array. -/
theorem emb6_3 (t : Fin grid6.N) (a : Fin 512) (b : Fin 1024) :
    (win6_3.rect t).emb (ix2 a b : S512x1024.Idx) = (ix2 a b : S512x1024.Idx) := by
  funext z
  apply Fin.ext
  refine (Pipeline.Window.rect_emb_val win6_3 t _ z).trans ?_
  rw [index6_3]
  fin_cases z
  · show 0 * 512 + a.val = a.val
    omega
  · show 0 * 1024 + b.val = b.val
    omega

/-- Window 3's block at an index. -/
theorem iblk6_3_at (t : Fin cfg6.N) (a : Fin 512) (b : Fin 1024) :
    (iblk6 V c 3 t : FVec Ideal S512x1024 .f32) (ix2 a b) = (V c main_v121 : FVec Ideal S512x1024 .f32) (ix2 a b : S512x1024.Idx) := by
  show (V c main_v121 : FVec Ideal S512x1024 .f32) ((win6_3.rect t).emb (ix2 a b)) = _
  rw [emb6_3]

theorem index6_4 (t : Fin grid6.N) : win6_4.index t = ![0, 0] := by
  revert t; decide +kernel

/-- Where window 4's block lies in its array. -/
theorem emb6_4 (t : Fin grid6.N) (a : Fin 513) (b : Fin 512) :
    (win6_4.rect t).emb (ix2 a b : S513x512.Idx) = (ix2 a b : S513x512.Idx) := by
  funext z
  apply Fin.ext
  refine (Pipeline.Window.rect_emb_val win6_4 t _ z).trans ?_
  rw [index6_4]
  fin_cases z
  · show 0 * 513 + a.val = a.val
    omega
  · show 0 * 512 + b.val = b.val
    omega

/-- Window 4's block at an index. -/
theorem iblk6_4_at (t : Fin cfg6.N) (a : Fin 513) (b : Fin 512) :
    (iblk6 V c 4 t : FVec Ideal S513x512 .f32) (ix2 a b) = (V c main_v151 : FVec Ideal S513x512 .f32) (ix2 a b : S513x512.Idx) := by
  show (V c main_v151 : FVec Ideal S513x512 .f32) ((win6_4.rect t).emb (ix2 a b)) = _
  rw [emb6_4]

theorem index6_5 (t : Fin grid6.N) : win6_5.index t = ![0, 0] := by
  revert t; decide +kernel

/-- Where window 5's block lies in its array. -/
theorem emb6_5 (t : Fin grid6.N) (a : Fin 513) (b : Fin 512) :
    (win6_5.rect t).emb (ix2 a b : S513x512.Idx) = (ix2 a b : S513x512.Idx) := by
  funext z
  apply Fin.ext
  refine (Pipeline.Window.rect_emb_val win6_5 t _ z).trans ?_
  rw [index6_5]
  fin_cases z
  · show 0 * 513 + a.val = a.val
    omega
  · show 0 * 512 + b.val = b.val
    omega

/-- Window 5's block at an index. -/
theorem iblk6_5_at (t : Fin cfg6.N) (a : Fin 513) (b : Fin 512) :
    (iblk6 V c 5 t : FVec Ideal S513x512 .f32) (ix2 a b) = (V c main_v153 : FVec Ideal S513x512 .f32) (ix2 a b : S513x512.Idx) := by
  show (V c main_v153 : FVec Ideal S513x512 .f32) ((win6_5.rect t).emb (ix2 a b)) = _
  rw [emb6_5]

theorem index6_6 (t : Fin grid6.N) : win6_6.index t = ![t.val, 0, 0] := by
  revert t; decide +kernel

/-- Where window 6's block lies in its array. -/
theorem emb6_6 (t : Fin grid6.N) (a : Fin 1) (b : Fin 512) (d : Fin 512) :
    (win6_6.rect t).emb (ix3 a b d : S1x512x512.Idx) = (ix3 ⟨t.val, t.isLt⟩ b d : S64x512x512.Idx) := by
  funext z
  apply Fin.ext
  refine (Pipeline.Window.rect_emb_val win6_6 t _ z).trans ?_
  rw [index6_6]
  fin_cases z
  · show t.val * 1 + a.val = t.val
    have := a.isLt; omega
  · show 0 * 512 + b.val = b.val
    omega
  · show 0 * 512 + d.val = d.val
    omega

/-- What window 6's array holds at the end: at each index the body's result at the point whose block holds it. -/
def final6_6 : FVec Ideal S64x512x512 .f32 := fun i =>
  let t : Fin cfg6.N := ⟨(i 0).val, (i 0).isLt⟩
  out6_6 (iblk6 V c 0 t) (iblk6 V c 1 t) (iblk6 V c 2 t) (iblk6 V c 3 t) (iblk6 V c 4 t) (iblk6 V c 5 t) (ix3 0 (i 1) (i 2) : S1x512x512.Idx)

theorem final6_6_at (t : Fin cfg6.N) (a : Fin 1) (b : Fin 512) (d : Fin 512) :
    final6_6 V c (ix3 ⟨t.val, t.isLt⟩ b d : S64x512x512.Idx) = out6_6 (iblk6 V c 0 t) (iblk6 V c 1 t) (iblk6 V c 2 t) (iblk6 V c 3 t) (iblk6 V c 4 t) (iblk6 V c 5 t) (ix3 a b d) := by
  obtain rfl : a = 0 := Subsingleton.elim _ _
  rfl

theorem arr6_6 : (dat6 V c).arrAt 6 cfg6.N = final6_6 V c := by
  refine (dat6 V c).arrAt_eq_of_cover 6 (final6_6 V c) (fun t _ => ?_) (fun i => ?_)
  · show (cfg6.win 6).cut (grid6.coords t) ((dat6 V c).after 6 t) = _
    rw [after6_6]
    have key : ∀ y : S1x512x512.Idx, out6_6 (iblk6 V c 0 t) (iblk6 V c 1 t) (iblk6 V c 2 t) (iblk6 V c 3 t) (iblk6 V c 4 t) (iblk6 V c 5 t) y = final6_6 V c ((win6_6.rect t).emb y) := by
      intro y
      obtain ⟨a, b, d, rfl⟩ : ∃ (a : Fin 1) (b : Fin 512) (d : Fin 512), y = (ix3 a b d : S1x512x512.Idx) := ⟨y 0, y 1, y 2, eq_ix3 y⟩
      rw [emb6_6, final6_6_at]
    revert key
    generalize out6_6 (iblk6 V c 0 t) (iblk6 V c 1 t) (iblk6 V c 2 t) (iblk6 V c 3 t) (iblk6 V c 4 t) (iblk6 V c 5 t) = O
    generalize final6_6 V c = G
    intro key
    exact funext key
  · refine ⟨⟨(i 0).val, (i 0).isLt⟩, flush6_6 _, ?_⟩
    refine Finset.mem_map.mpr ⟨(ix3 0 (i 1) (i 2) : S1x512x512.Idx), Finset.mem_univ _, ?_⟩
    refine (emb6_6 ⟨(i 0).val, (i 0).isLt⟩ 0 (i 1) (i 2)).trans ?_
    exact (eq_ix3 i).symm

end Lti
end
-- ==== Proof.Pay6.lean ====
/-
  The inverse transform: what the body stores.
-/
module

public import proofs.«01_k».proof.Proof.Reg
public import proofs.«01_k».proof.Proof.Gen.KernelIdeal.Frame.Region6

@[expose] public section

set_option maxRecDepth 4096

noncomputable section

namespace Lti

open Idealize.ShloMosaic Idealize.ShloMosaic.TcCoe Cert.KernelIdeal Cert.KernelIdeal.Gen

theorem out6_6_at (x0 : FVec Ideal S1x1024x513 .f32) (x1 : FVec Ideal S1x1024x513 .f32) (x2 : FVec Ideal S512x1024 .f32) (x3 : FVec Ideal S512x1024 .f32) (x4 : FVec Ideal S513x512 .f32) (x5 : FVec Ideal S513x512 .f32) (r : Fin 512) (q : Fin 512) :
    @Eq EReal (out6_6 (F := Ideal) x0 x1 x2 x3 x4 x5 (ix3 0 r q))
      (cre (fun j => cre (row x2 r) (row x3 r) (col3 x0 0 j) (col3 x1 0 j)) (fun j => cim (row x2 r) (row x3 r) (col3 x0 0 j) (col3 x1 0 j)) (col x4 q) (col x5 q)) := by
  unfold out6_6
  rw [View.canon_unit_zero hz3]
  simp only [View.ld_unit_zero (S := S1x1024x513) hz3, View.ld_unit_zero (S := S512x1024) hz2, View.ld_unit_zero (S := S513x512) hz2]
  pointwise [k6_pay1]
  rfl

end Lti
end
-- ==== Proof.KStep6.lean ====
/-
  The kernel's result.
-/
module

public import proofs.«01_k».proof.Proof.KStep5
public import proofs.«01_k».proof.Proof.Reg6
public import proofs.«01_k».proof.Proof.Pay6

@[expose] public section

noncomputable section

namespace Lti

open Idealize.ShloMosaic Idealize.ShloMosaic.StableHlo Cert.KernelIdeal Cert.KernelIdeal.Gen
open Idealize.ShloMosaic.TcCoe ComplexConjugate

variable (m : (ℓ : Loc nD τ sig) → Buf (Elt Ideal) ℓ) (ρ : Dev nD → PrngReg) (c : Dev nD)

theorem v211_at (t : Fin 64) (r : Fin 1024) (q : Fin 513) :
    @Eq EReal ((W44 m ρ c (Proc.devRef .tc main_v211) : FVec Ideal S64x1024x513 .f32) (ix3 t r q))
      ((W43 m ρ c (Proc.devRef .tc main_v210_0) : FVec Ideal S4x16x1024x513 .f32) (ix4 (baB t) (chB t) r q)) := by
  show @Eq EReal ((after (hostOps6 : List (HloOp τ sig (Elt Ideal))) (W43 m ρ c) (Proc.devRef .tc main_v211) : FVec Ideal S64x1024x513 .f32) _) _
  generalize W43 m ρ c = V
  simp only [hostOps6, TRef.ternary, TRef.unary, TRef.binary, TRef.nullary, TRef.toBuf, TRef.ofBuf, cast_eq]
  after_results_simp
  pointwise
  rfl

theorem v212_at (t : Fin 64) (r : Fin 1024) (q : Fin 513) :
    @Eq EReal ((W44 m ρ c (Proc.devRef .tc main_v212) : FVec Ideal S64x1024x513 .f32) (ix3 t r q))
      ((W43 m ρ c (Proc.devRef .tc main_v210_1) : FVec Ideal S4x16x1024x513 .f32) (ix4 (baB t) (chB t) r q)) := by
  show @Eq EReal ((after (hostOps6 : List (HloOp τ sig (Elt Ideal))) (W43 m ρ c) (Proc.devRef .tc main_v212) : FVec Ideal S64x1024x513 .f32) _) _
  generalize W43 m ρ c = V
  simp only [hostOps6, TRef.ternary, TRef.unary, TRef.binary, TRef.nullary, TRef.toBuf, TRef.ofBuf, cast_eq]
  after_results_simp
  pointwise
  rfl

theorem v215_at (b : Fin 4) (y x : Fin 512) (o : Fin 16) :
    @Eq EReal ((W46 m ρ c (Proc.devRef .tc main_v215) : FVec Ideal S4x512x512x16 .f32) (ix4 b y x o))
      ((W45 m ρ c (Proc.devRef .tc main_v213) : FVec Ideal S64x512x512 .f32) (ix3 (stB b o) y x)) := by
  show @Eq EReal ((after (hostOps7 : List (HloOp τ sig (Elt Ideal))) (W45 m ρ c) (Proc.devRef .tc main_v215) : FVec Ideal S4x512x512x16 .f32) _) _
  generalize W45 m ρ c = V
  simp only [hostOps7, TRef.ternary, TRef.unary, TRef.binary, TRef.nullary, TRef.toBuf, TRef.ofBuf, cast_eq]
  after_results_simp
  pointwise
  rfl

theorem out6_is (x0 x1 : FVec Ideal S1x1024x513 .f32) (x2 x3 : FVec Ideal S512x1024 .f32) (x4 x5 : FVec Ideal S513x512 .f32)
    (zr zi : ℕ → ℕ → EReal) (y x : Fin 512)
    (h0 : ∀ (f : Fin 1024) (j : Fin 513), @Eq EReal (x0 (ix3 0 f j)) (zr (perm f.val) j.val))
    (h1 : ∀ (f : Fin 1024) (j : Fin 513), @Eq EReal (x1 (ix3 0 f j)) (zi (perm f.val) j.val))
    (h2 : ∀ f : Fin 1024, @Eq EReal (x2 (ix2 y f)) (fre (y.val * perm f.val)))
    (h3 : ∀ f : Fin 1024, @Eq EReal (x3 (ix2 y f)) ((-(W 1024 (y.val * perm f.val)).im : ℝ) : EReal))
    (h4 : ∀ j : Fin 513, @Eq EReal (x4 (ix2 j x)) (((W 1024 (j.val * x.val)).re * (cnt 512 j.val / 1048576) : ℝ) : EReal))
    (h5 : ∀ j : Fin 513, @Eq EReal (x5 (ix2 j x)) ((-(W 1024 (j.val * x.val)).im * (cnt 512 j.val / 1048576) : ℝ) : EReal)) :
    @Eq EReal (out6_6 (F := Ideal) x0 x1 x2 x3 x4 x5 (ix3 0 y x)) (inverse zr zi y.val x.val) := by
  have e0 : ∀ j, col3 x0 0 j = fun f => zr (permE f).val j.val := fun j => funext fun f => h0 f j
  have e1 : ∀ j, col3 x1 0 j = fun f => zi (permE f).val j.val := fun j => funext fun f => h1 f j
  have e2 : row x2 y = fun f => fre (y.val * (permE f).val) := funext h2
  have e3 : row x3 y = fun f => ((-(W 1024 (y.val * (permE f).val)).im : ℝ) : EReal) := funext h3
  have e4 := funext h4
  have e5 := funext h5
  refine (out6_6_at x0 x1 x2 x3 x4 x5 y x).trans ?_
  unfold inverse
  have f4 : col x4 x = _ := e4
  have f5 : col x5 x = _ := e5
  rw [f4, f5]
  congr 1
  · funext j
    rw [e0, e1, e2, e3]
    exact cre_perm (fun f => fre (y.val * f.val)) (fun f => ((-(W 1024 (y.val * f.val)).im : ℝ) : EReal)) (fun f => zr f.val j.val) (fun f => zi f.val j.val)
  · funext j
    rw [e0, e1, e2, e3]
    exact cim_perm (fun f => fre (y.val * f.val)) (fun f => ((-(W 1024 (y.val * f.val)).im : ℝ) : EReal)) (fun f => zr f.val j.val) (fun f => zi f.val j.val)

/-- The kernel's result, from the real coefficients. -/
theorem kernel_is (g3 g2 : Fin 16 → Fin 16 → Fin 8 → Fin 8 → ℝ) (h3 : DenReal m c g3) (h2 : NumReal m c g2)
    (hz : ∀ i o, Nz (g3 i o)) (b : Fin 4) (y x : Fin 512) (o : Fin 16) :
    @Eq EReal ((W46 m ρ c (Proc.devRef .tc main_v215) : FVec Ideal S4x512x512x16 .f32) (ix4 b y x o))
      (inverse (zre (sig0 m c b) (kern g3 g2 o) (gain m c o)) (zim (sig0 m c b) (kern g3 g2 o) (gain m c o)) y.val x.val) := by
  refine (v215_at m ρ c b y x o).trans ?_
  have e0 : W45 m ρ c (Proc.devRef .tc main_v213) = final6_6 (V44 m ρ) c := (W45_arr m ρ c 6).trans (arr6_6 _ c)
  rw [e0]
  have ht : (stB b o).val < cfg6.N := by have := (stB b o).isLt; have e : cfg6.N = 64 := N_6; omega
  have hA := keep_v119_44 m ρ c
  have hB := keep_v121_44 m ρ c
  have hC := keep_v151_44 m ρ c
  have hD := keep_v153_44 m ρ c
  refine (final6_6_at (V44 m ρ) c ⟨(stB b o).val, ht⟩ 0 y x).trans ?_
  refine out6_is (iblk6 (V44 m ρ) c 0 ⟨(stB b o).val, ht⟩) (iblk6 (V44 m ρ) c 1 ⟨(stB b o).val, ht⟩) (iblk6 (V44 m ρ) c 2 ⟨(stB b o).val, ht⟩)
    (iblk6 (V44 m ρ) c 3 ⟨(stB b o).val, ht⟩) (iblk6 (V44 m ρ) c 4 ⟨(stB b o).val, ht⟩) (iblk6 (V44 m ρ) c 5 ⟨(stB b o).val, ht⟩) _ _ y x
    (fun f j => ?_) (fun f j => ?_) (fun f => ?_) (fun f => ?_) (fun j => ?_) (fun j => ?_)
  · exact (iblk6_0_at (V44 m ρ) c ⟨(stB b o).val, ht⟩ 0 f j).trans ((v211_at m ρ c (stB b o) f j).trans (by
      rw [stB_ba, stB_ch]; exact (mix_is m ρ c g3 g2 h3 h2 hz b o f j).1))
  · exact (iblk6_1_at (V44 m ρ) c ⟨(stB b o).val, ht⟩ 0 f j).trans ((v212_at m ρ c (stB b o) f j).trans (by
      rw [stB_ba, stB_ch]; exact (mix_is m ρ c g3 g2 h3 h2 hz b o f j).2))
  · exact (iblk6_2_at (V44 m ρ) c ⟨(stB b o).val, ht⟩ y f).trans ((congrFun hA _).trans ((v_re m ρ c (ix2 y f)).trans (by rw [Complex.conj_re]; rfl)))
  · exact (iblk6_3_at (V44 m ρ) c ⟨(stB b o).val, ht⟩ y f).trans ((congrFun hB _).trans ((v_im m ρ c (ix2 y f)).trans (by rw [Complex.conj_im]; rfl)))
  · exact (iblk6_4_at (V44 m ρ) c ⟨(stB b o).val, ht⟩ j x).trans ((congrFun hC _).trans (w_re m ρ c (ix2 j x)))
  · exact (iblk6_5_at (V44 m ρ) c ⟨(stB b o).val, ht⟩ j x).trans ((congrFun hD _).trans (w_im m ρ c (ix2 j x)))

end Lti
end
-- ==== Proof.RTables.lean ====
/-
  The reference's tables of cosines and sines.
-/
module

public import proofs.«01_k».proof.Proof.Words
public import proofs.«01_k».proof.Proof.Goal
public import proofs.«01_k».proof.Proof.Gen.ReferenceIdeal.Read

@[expose] public section

noncomputable section

namespace Lti

open Idealize.ShloMosaic Idealize.ShloMosaic.StableHlo Cert.ReferenceIdeal Cert.ReferenceIdeal.Gen Cert.ReferenceIdeal.Read

/-- The choice of 1 for the two columns that are their own mirrors, of 2 for the others. -/
theorem select_cnt (H a : ℕ) (hH : H < 2 ^ 32) (ha : a < 2 ^ 32) :
    @Eq EReal (Scalar.select (IntOp.ori (IntOp.cmpi CmpIPredicate.eq (BitVec.ofNat 32 a) 0#32)
      (IntOp.cmpi CmpIPredicate.eq (BitVec.ofNat 32 a) (BitVec.ofNat 32 H))) (1 : EReal) (Ideal.ofBits FTy.f32 1073741824#32)) ((cnt H a : ℝ) : EReal) := by
  have i0 : BitVec.ofNat 32 a = 0#32 ↔ a = 0 := by
    rw [← BitVec.toNat_inj]; simp only [BitVec.toNat_ofNat, Nat.mod_eq_of_lt ha, Nat.zero_mod]
  have i1 : BitVec.ofNat 32 a = BitVec.ofNat 32 H ↔ a = H := by
    rw [← BitVec.toNat_inj]; simp only [BitVec.toNat_ofNat, Nat.mod_eq_of_lt ha, Nat.mod_eq_of_lt hH]
  rw [w_2]
  have j0 : (BitVec.ofNat 32 a == 0#32) = decide (a = 0) := by rw [beq_eq_decide]; exact decide_eq_decide.mpr i0
  have j1 : (BitVec.ofNat 32 a == BitVec.ofNat 32 H) = decide (a = H) := by rw [beq_eq_decide]; exact decide_eq_decide.mpr i1
  show (if BitVec.ofBool (BitVec.ofNat 32 a == 0#32) ||| BitVec.ofBool (BitVec.ofNat 32 a == BitVec.ofNat 32 H) = 1 then (1 : EReal) else ((2 : ℝ) : EReal)) = _
  rw [j0, j1]
  unfold cnt
  by_cases h0 : a = 0
  · rw [if_pos (Or.inl h0), decide_eq_true h0]
    cases decide (a = H) <;> rfl
  · rw [decide_eq_false h0]
    by_cases h1 : a = H
    · rw [if_pos (Or.inr h1), decide_eq_true h1]; rfl
    · rw [decide_eq_false h1, if_neg (show ¬(a = 0 ∨ a = H) from fun h => h.elim h0 h1)]; rfl

/-- The cosines of order 512 at (9, 257). -/
theorem r15 (a : Fin 9) (b : Fin 257) : @Eq EReal (val_main_v15 (F := Ideal) (ix2 a b)) ((W 512 (a.val * b.val)).re : EReal) := by
  pointwise [val_main_v15, val_main_v14, val_main_v9, val_main_v8, val_main_v6, val_main_v3, val_main_v2, val_main_v7, val_main_v5, val_main_v4, val_main_v13, val_main_v12, val_main_v11, val_main_cst_2, val_main_v10, val_main_cst_1, val_main_cst_3]
  exact rcos_512 a.val b.val (by have := a.isLt; have := b.isLt; nlinarith)

/-- The negated sines of order 512 at (9, 257). -/
theorem r17 (a : Fin 9) (b : Fin 257) : @Eq EReal (val_main_v17 (F := Ideal) (ix2 a b)) ((W 512 (a.val * b.val)).im : EReal) := by
  pointwise [val_main_v17, val_main_v16, val_main_v14, val_main_v9, val_main_v8, val_main_v6, val_main_v3, val_main_v2, val_main_v7, val_main_v5, val_main_v4, val_main_v13, val_main_v12, val_main_v11, val_main_cst_2, val_main_v10, val_main_cst_1, val_main_cst_3]
  exact rsin_512 a.val b.val (by have := a.isLt; have := b.isLt; nlinarith)

/-- The cosines of order 512 at (512, 9). -/
theorem r33 (a : Fin 512) (b : Fin 9) : @Eq EReal (val_main_v33 (F := Ideal) (ix2 a b)) ((W 512 (a.val * b.val)).re : EReal) := by
  pointwise [val_main_v33, val_main_v32, val_main_v27, val_main_v26, val_main_v24, val_main_v21, val_main_v20, val_main_v25, val_main_v23, val_main_v22, val_main_v31, val_main_v30, val_main_v29, val_main_cst_5, val_main_v28, val_main_cst_4, val_main_cst_6]
  exact rcos_512 a.val b.val (by have := a.isLt; have := b.isLt; nlinarith)

/-- The negated sines of order 512 at (512, 9). -/
theorem r35 (a : Fin 512) (b : Fin 9) : @Eq EReal (val_main_v35 (F := Ideal) (ix2 a b)) ((W 512 (a.val * b.val)).im : EReal) := by
  pointwise [val_main_v35, val_main_v34, val_main_v32, val_main_v27, val_main_v26, val_main_v24, val_main_v21, val_main_v20, val_main_v25, val_main_v23, val_main_v22, val_main_v31, val_main_v30, val_main_v29, val_main_cst_5, val_main_v28, val_main_cst_4, val_main_cst_6]
  exact rsin_512 a.val b.val (by have := a.isLt; have := b.isLt; nlinarith)

/-- The cosines of order 512 at (9, 257). -/
theorem r59 (a : Fin 9) (b : Fin 257) : @Eq EReal (val_main_v59 (F := Ideal) (ix2 a b)) ((W 512 (a.val * b.val)).re : EReal) := by
  pointwise [val_main_v59, val_main_v58, val_main_v53, val_main_v52, val_main_v50, val_main_v47, val_main_v46, val_main_v51, val_main_v49, val_main_v48, val_main_v57, val_main_v56, val_main_v55, val_main_cst_8, val_main_v54, val_main_cst_7, val_main_cst_9]
  exact rcos_512 a.val b.val (by have := a.isLt; have := b.isLt; nlinarith)

/-- The negated sines of order 512 at (9, 257). -/
theorem r61 (a : Fin 9) (b : Fin 257) : @Eq EReal (val_main_v61 (F := Ideal) (ix2 a b)) ((W 512 (a.val * b.val)).im : EReal) := by
  pointwise [val_main_v61, val_main_v60, val_main_v58, val_main_v53, val_main_v52, val_main_v50, val_main_v47, val_main_v46, val_main_v51, val_main_v49, val_main_v48, val_main_v57, val_main_v56, val_main_v55, val_main_cst_8, val_main_v54, val_main_cst_7, val_main_cst_9]
  exact rsin_512 a.val b.val (by have := a.isLt; have := b.isLt; nlinarith)

/-- The cosines of order 512 at (512, 9). -/
theorem r77 (a : Fin 512) (b : Fin 9) : @Eq EReal (val_main_v77 (F := Ideal) (ix2 a b)) ((W 512 (a.val * b.val)).re : EReal) := by
  pointwise [val_main_v77, val_main_v76, val_main_v71, val_main_v70, val_main_v68, val_main_v65, val_main_v64, val_main_v69, val_main_v67, val_main_v66, val_main_v75, val_main_v74, val_main_v73, val_main_cst_11, val_main_v72, val_main_cst_10, val_main_cst_12]
  exact rcos_512 a.val b.val (by have := a.isLt; have := b.isLt; nlinarith)

/-- The negated sines of order 512 at (512, 9). -/
theorem r79 (a : Fin 512) (b : Fin 9) : @Eq EReal (val_main_v79 (F := Ideal) (ix2 a b)) ((W 512 (a.val * b.val)).im : EReal) := by
  pointwise [val_main_v79, val_main_v78, val_main_v76, val_main_v71, val_main_v70, val_main_v68, val_main_v65, val_main_v64, val_main_v69, val_main_v67, val_main_v66, val_main_v75, val_main_v74, val_main_v73, val_main_cst_11, val_main_v72, val_main_cst_10, val_main_cst_12]
  exact rsin_512 a.val b.val (by have := a.isLt; have := b.isLt; nlinarith)

/-- The cosines of order 512 at (512, 512). -/
theorem r126 (a : Fin 512) (b : Fin 512) : @Eq EReal (val_main_v126 (F := Ideal) (ix2 a b)) ((W 512 (a.val * b.val)).re : EReal) := by
  pointwise [val_main_v126, val_main_v125, val_main_v120, val_main_v119, val_main_v117, val_main_v114, val_main_v113, val_main_v118, val_main_v116, val_main_v115, val_main_v124, val_main_v123, val_main_v122, val_main_cst_14, val_main_v121, val_main_cst_13, val_main_cst_15]
  exact rcos_512 a.val b.val (by have := a.isLt; have := b.isLt; nlinarith)

/-- The sines of order 512 at (512, 512). -/
theorem r129 (a : Fin 512) (b : Fin 512) : @Eq EReal (val_main_v129 (F := Ideal) (ix2 a b)) ((-(W 512 (a.val * b.val)).im : ℝ) : EReal) := by
  pointwise [val_main_v129, val_main_v128, val_main_v127, val_main_v125, val_main_v120, val_main_v119, val_main_v117, val_main_v114, val_main_v113, val_main_v118, val_main_v116, val_main_v115, val_main_v124, val_main_v123, val_main_v122, val_main_cst_14, val_main_v121, val_main_cst_13, val_main_cst_15]
  rw [EReal.coe_neg]
  exact congrArg Neg.neg (rsin_512 a.val b.val (by have := a.isLt; have := b.isLt; nlinarith))

/-- The cosines of order 512 at (257, 512). -/
theorem r161 (a : Fin 257) (b : Fin 512) : @Eq EReal (val_main_v161 (F := Ideal) (ix2 a b)) ((W 512 (a.val * b.val)).re : EReal) := by
  pointwise [val_main_v161, val_main_v160, val_main_v155, val_main_v154, val_main_v152, val_main_v149, val_main_v148, val_main_v153, val_main_v151, val_main_v150, val_main_v159, val_main_v158, val_main_v157, val_main_cst_20, val_main_v156, val_main_cst_19, val_main_cst_21]
  exact rcos_512 a.val b.val (by have := a.isLt; have := b.isLt; nlinarith)

/-- The sines of order 512 at (257, 512). -/
theorem r168 (a : Fin 257) (b : Fin 512) : @Eq EReal (val_main_v168 (F := Ideal) (ix2 a b)) ((-(W 512 (a.val * b.val)).im : ℝ) : EReal) := by
  pointwise [val_main_v168, val_main_v163, val_main_v162, val_main_v160, val_main_v155, val_main_v154, val_main_v152, val_main_v149, val_main_v148, val_main_v153, val_main_v151, val_main_v150, val_main_v159, val_main_v158, val_main_v157, val_main_cst_20, val_main_v156, val_main_cst_19, val_main_cst_21]
  rw [EReal.coe_neg]
  exact congrArg Neg.neg (rsin_512 a.val b.val (by have := a.isLt; have := b.isLt; nlinarith))

/-- The cosines of order 1024 at (512, 513). -/
theorem r189 (a : Fin 512) (b : Fin 513) : @Eq EReal (val_main_v189 (F := Ideal) (ix2 a b)) ((W 1024 (a.val * b.val)).re : EReal) := by
  pointwise [val_main_v189, val_main_v188, val_main_v183, val_main_v182, val_main_v180, val_main_v177, val_main_v176, val_main_v181, val_main_v179, val_main_v178, val_main_v187, val_main_v186, val_main_v185, val_main_cst_25, val_main_v184, val_main_cst_24, val_main_cst_26]
  exact rcos_1024 a.val b.val (by have := a.isLt; have := b.isLt; nlinarith)

/-- The negated sines of order 1024 at (512, 513). -/
theorem r191 (a : Fin 512) (b : Fin 513) : @Eq EReal (val_main_v191 (F := Ideal) (ix2 a b)) ((W 1024 (a.val * b.val)).im : EReal) := by
  pointwise [val_main_v191, val_main_v190, val_main_v188, val_main_v183, val_main_v182, val_main_v180, val_main_v177, val_main_v176, val_main_v181, val_main_v179, val_main_v178, val_main_v187, val_main_v186, val_main_v185, val_main_cst_25, val_main_v184, val_main_cst_24, val_main_cst_26]
  exact rsin_1024 a.val b.val (by have := a.isLt; have := b.isLt; nlinarith)

/-- The cosines of order 1024 at (1024, 512). -/
theorem r207 (a : Fin 1024) (b : Fin 512) : @Eq EReal (val_main_v207 (F := Ideal) (ix2 a b)) ((W 1024 (a.val * b.val)).re : EReal) := by
  pointwise [val_main_v207, val_main_v206, val_main_v201, val_main_v200, val_main_v198, val_main_v195, val_main_v194, val_main_v199, val_main_v197, val_main_v196, val_main_v205, val_main_v204, val_main_v203, val_main_cst_28, val_main_v202, val_main_cst_27, val_main_cst_29]
  exact rcos_1024 a.val b.val (by have := a.isLt; have := b.isLt; nlinarith)

/-- The negated sines of order 1024 at (1024, 512). -/
theorem r209 (a : Fin 1024) (b : Fin 512) : @Eq EReal (val_main_v209 (F := Ideal) (ix2 a b)) ((W 1024 (a.val * b.val)).im : EReal) := by
  pointwise [val_main_v209, val_main_v208, val_main_v206, val_main_v201, val_main_v200, val_main_v198, val_main_v195, val_main_v194, val_main_v199, val_main_v197, val_main_v196, val_main_v205, val_main_v204, val_main_v203, val_main_cst_28, val_main_v202, val_main_cst_27, val_main_cst_29]
  exact rsin_1024 a.val b.val (by have := a.isLt; have := b.isLt; nlinarith)

/-- The cosines of order 1024 at (512, 513). -/
theorem r240 (a : Fin 512) (b : Fin 513) : @Eq EReal (val_main_v240 (F := Ideal) (ix2 a b)) ((W 1024 (a.val * b.val)).re : EReal) := by
  pointwise [val_main_v240, val_main_v239, val_main_v234, val_main_v233, val_main_v231, val_main_v228, val_main_v227, val_main_v232, val_main_v230, val_main_v229, val_main_v238, val_main_v237, val_main_v236, val_main_cst_31, val_main_v235, val_main_cst_30, val_main_cst_32]
  exact rcos_1024 a.val b.val (by have := a.isLt; have := b.isLt; nlinarith)

/-- The negated sines of order 1024 at (512, 513). -/
theorem r242 (a : Fin 512) (b : Fin 513) : @Eq EReal (val_main_v242 (F := Ideal) (ix2 a b)) ((W 1024 (a.val * b.val)).im : EReal) := by
  pointwise [val_main_v242, val_main_v241, val_main_v239, val_main_v234, val_main_v233, val_main_v231, val_main_v228, val_main_v227, val_main_v232, val_main_v230, val_main_v229, val_main_v238, val_main_v237, val_main_v236, val_main_cst_31, val_main_v235, val_main_cst_30, val_main_cst_32]
  exact rsin_1024 a.val b.val (by have := a.isLt; have := b.isLt; nlinarith)

/-- The cosines of order 1024 at (1024, 512). -/
theorem r258 (a : Fin 1024) (b : Fin 512) : @Eq EReal (val_main_v258 (F := Ideal) (ix2 a b)) ((W 1024 (a.val * b.val)).re : EReal) := by
  pointwise [val_main_v258, val_main_v257, val_main_v252, val_main_v251, val_main_v249, val_main_v246, val_main_v245, val_main_v250, val_main_v248, val_main_v247, val_main_v256, val_main_v255, val_main_v254, val_main_cst_34, val_main_v253, val_main_cst_33, val_main_cst_35]
  exact rcos_1024 a.val b.val (by have := a.isLt; have := b.isLt; nlinarith)

/-- The negated sines of order 1024 at (1024, 512). -/
theorem r260 (a : Fin 1024) (b : Fin 512) : @Eq EReal (val_main_v260 (F := Ideal) (ix2 a b)) ((W 1024 (a.val * b.val)).im : EReal) := by
  pointwise [val_main_v260, val_main_v259, val_main_v257, val_main_v252, val_main_v251, val_main_v249, val_main_v246, val_main_v245, val_main_v250, val_main_v248, val_main_v247, val_main_v256, val_main_v255, val_main_v254, val_main_cst_34, val_main_v253, val_main_cst_33, val_main_cst_35]
  exact rsin_1024 a.val b.val (by have := a.isLt; have := b.isLt; nlinarith)

/-- The cosines of order 1024 at (1024, 1024). -/
theorem r308 (a : Fin 1024) (b : Fin 1024) : @Eq EReal (val_main_v308 (F := Ideal) (ix2 a b)) ((W 1024 (a.val * b.val)).re : EReal) := by
  pointwise [val_main_v308, val_main_v307, val_main_v302, val_main_v301, val_main_v299, val_main_v296, val_main_v295, val_main_v300, val_main_v298, val_main_v297, val_main_v306, val_main_v305, val_main_v304, val_main_cst_39, val_main_v303, val_main_cst_38, val_main_cst_40]
  exact rcos_1024 a.val b.val (by have := a.isLt; have := b.isLt; nlinarith)

/-- The sines of order 1024 at (1024, 1024). -/
theorem r311 (a : Fin 1024) (b : Fin 1024) : @Eq EReal (val_main_v311 (F := Ideal) (ix2 a b)) ((-(W 1024 (a.val * b.val)).im : ℝ) : EReal) := by
  pointwise [val_main_v311, val_main_v310, val_main_v309, val_main_v307, val_main_v302, val_main_v301, val_main_v299, val_main_v296, val_main_v295, val_main_v300, val_main_v298, val_main_v297, val_main_v306, val_main_v305, val_main_v304, val_main_cst_39, val_main_v303, val_main_cst_38, val_main_cst_40]
  rw [EReal.coe_neg]
  exact congrArg Neg.neg (rsin_1024 a.val b.val (by have := a.isLt; have := b.isLt; nlinarith))

/-- The cosines of order 1024 at (513, 1024). -/
theorem r343 (a : Fin 513) (b : Fin 1024) : @Eq EReal (val_main_v343 (F := Ideal) (ix2 a b)) ((W 1024 (a.val * b.val)).re : EReal) := by
  pointwise [val_main_v343, val_main_v342, val_main_v337, val_main_v336, val_main_v334, val_main_v331, val_main_v330, val_main_v335, val_main_v333, val_main_v332, val_main_v341, val_main_v340, val_main_v339, val_main_cst_46, val_main_v338, val_main_cst_45, val_main_cst_47]
  exact rcos_1024 a.val b.val (by have := a.isLt; have := b.isLt; nlinarith)

/-- The sines of order 1024 at (513, 1024). -/
theorem r350 (a : Fin 513) (b : Fin 1024) : @Eq EReal (val_main_v350 (F := Ideal) (ix2 a b)) ((-(W 1024 (a.val * b.val)).im : ℝ) : EReal) := by
  pointwise [val_main_v350, val_main_v345, val_main_v344, val_main_v342, val_main_v337, val_main_v336, val_main_v334, val_main_v331, val_main_v330, val_main_v335, val_main_v333, val_main_v332, val_main_v341, val_main_v340, val_main_v339, val_main_cst_46, val_main_v338, val_main_cst_45, val_main_cst_47]
  rw [EReal.coe_neg]
  exact congrArg Neg.neg (rsin_1024 a.val b.val (by have := a.isLt; have := b.isLt; nlinarith))

/-- How often a column of the half spectrum counts. -/
theorem r147 (a : Fin 257) : @Eq EReal (val_main_v147 (F := Ideal) (ix2 a 0)) ((cnt 256 a.val : ℝ) : EReal) := by
  pointwise [val_main_v147, val_main_v146, val_main_v143, val_main_v141, val_main_v140, val_main_v142, val_main_c, val_main_v145, val_main_v144, val_main_c_16, val_main_call2_v0, val_main_cst_17, val_main_call2_v1, val_main_cst_18]
  exact select_cnt 256 a.val (by norm_num) (by have := a.isLt; omega)

/-- How often a column of the half spectrum counts. -/
theorem r329 (a : Fin 513) : @Eq EReal (val_main_v329 (F := Ideal) (ix2 a 0)) ((cnt 512 a.val : ℝ) : EReal) := by
  pointwise [val_main_v329, val_main_v328, val_main_v325, val_main_v323, val_main_v322, val_main_v324, val_main_c_41, val_main_v327, val_main_v326, val_main_c_42, val_main_call3_v0, val_main_cst_43, val_main_call3_v1, val_main_cst_44]
  exact select_cnt 512 a.val (by norm_num) (by have := a.isLt; omega)

/-- The weighted entries of the inverse transform's last step. -/
theorem r167 (a : Fin 257) (b : Fin 512) : @Eq EReal (val_main_v167 (F := Ideal) (ix2 a b)) ((cnt 256 a.val * (W 512 (a.val * b.val)).re / 262144 : ℝ) : EReal) := by
  pointwise [val_main_v167, val_main_v165, val_main_v164, val_main_v166, val_main_cst_22]
  have e1 := r161 a b
  have e2 := r147 a
  rw [e1, e2, w_c18, Ideal.div_coe (by norm_num), ← EReal.coe_mul, ← EReal.coe_mul]
  congr 1; ring

/-- The weighted entries of the inverse transform's last step. -/
theorem r172 (a : Fin 257) (b : Fin 512) : @Eq EReal (val_main_v172 (F := Ideal) (ix2 a b)) ((cnt 256 a.val * -(W 512 (a.val * b.val)).im / 262144 : ℝ) : EReal) := by
  pointwise [val_main_v172, val_main_v170, val_main_v169, val_main_v171, val_main_cst_23]
  have e1 := r168 a b
  have e2 := r147 a
  rw [e1, e2, w_c18, Ideal.div_coe (by norm_num), ← EReal.coe_mul, ← EReal.coe_mul]
  congr 1; ring

/-- The weighted entries of the inverse transform's last step. -/
theorem r349 (a : Fin 513) (b : Fin 1024) : @Eq EReal (val_main_v349 (F := Ideal) (ix2 a b)) ((cnt 512 a.val * (W 1024 (a.val * b.val)).re / 1048576 : ℝ) : EReal) := by
  pointwise [val_main_v349, val_main_v347, val_main_v346, val_main_v348, val_main_cst_48]
  have e1 := r343 a b
  have e2 := r329 a
  rw [e1, e2, w_c20, Ideal.div_coe (by norm_num), ← EReal.coe_mul, ← EReal.coe_mul]
  congr 1; ring

/-- The weighted entries of the inverse transform's last step. -/
theorem r354 (a : Fin 513) (b : Fin 1024) : @Eq EReal (val_main_v354 (F := Ideal) (ix2 a b)) ((cnt 512 a.val * -(W 1024 (a.val * b.val)).im / 1048576 : ℝ) : EReal) := by
  pointwise [val_main_v354, val_main_v352, val_main_v351, val_main_v353, val_main_cst_49]
  have e1 := r350 a b
  have e2 := r329 a
  rw [e1, e2, w_c20, Ideal.div_coe (by norm_num), ← EReal.coe_mul, ← EReal.coe_mul]
  congr 1; ring

end Lti
end
-- ==== Proof.RRead.lean ====
/-
  The reference's stages, each read at an index.
-/
module

public import proofs.«01_k».proof.Proof.RTables

@[expose] public section

noncomputable section

namespace Lti

open Idealize.ShloMosaic Idealize.ShloMosaic.StableHlo Cert.ReferenceIdeal Cert.ReferenceIdeal.Gen Cert.ReferenceIdeal.Read

variable (x0 : FVec Ideal S4x512x512x16 .f32) (x1 : FVec Ideal S16x16x1x1 .f32) (x2 : FVec Ideal S4x16x16x8x8 .f32)
  (x3 : FVec Ideal S16x16x8x8 .f32)

/-- The numerators along the second axis. -/
theorem s18 (i o : Fin 16) (n : Fin 9) (q : Fin 257) : @Eq EReal (val_main_v18 (F := Ideal) x2 (ix5 0 i o n q))
    (dotp (fun k => (val_main_v1 (F := Ideal) x2 (ix5 0 i o n k) : EReal)) (fun k => (val_main_v15 (F := Ideal)  (ix2 k q) : EReal))) := by
  pointwise [val_main_v18]
  rfl

/-- Likewise, the imaginary part. -/
theorem s19 (i o : Fin 16) (n : Fin 9) (q : Fin 257) : @Eq EReal (val_main_v19 (F := Ideal) x2 (ix5 0 i o n q))
    (dotp (fun k => (val_main_v1 (F := Ideal) x2 (ix5 0 i o n k) : EReal)) (fun k => (val_main_v17 (F := Ideal)  (ix2 k q) : EReal))) := by
  pointwise [val_main_v19]
  rfl

/-- The numerators along the first axis. -/
theorem s40 (i o : Fin 16) (r : Fin 512) (q : Fin 257) : @Eq EReal (val_main_v40 (F := Ideal) x2 (ix5 0 i o r q))
    (cre (fun k => (val_main_v18 (F := Ideal) x2 (ix5 0 i o k q) : EReal)) (fun k => (val_main_v19 (F := Ideal) x2 (ix5 0 i o k q) : EReal)) (fun k => (val_main_v33 (F := Ideal)  (ix2 r k) : EReal)) (fun k => (val_main_v35 (F := Ideal)  (ix2 r k) : EReal))) := by
  pointwise [val_main_v40, val_main_v37, val_main_v39, val_main_v36, val_main_v38]
  rfl

/-- Likewise, the imaginary part. -/
theorem s45 (i o : Fin 16) (r : Fin 512) (q : Fin 257) : @Eq EReal (val_main_v45 (F := Ideal) x2 (ix5 0 i o r q))
    (cim (fun k => (val_main_v18 (F := Ideal) x2 (ix5 0 i o k q) : EReal)) (fun k => (val_main_v19 (F := Ideal) x2 (ix5 0 i o k q) : EReal)) (fun k => (val_main_v33 (F := Ideal)  (ix2 r k) : EReal)) (fun k => (val_main_v35 (F := Ideal)  (ix2 r k) : EReal))) := by
  pointwise [val_main_v45, val_main_v42, val_main_v44, val_main_v41, val_main_v43]
  exact add_comm _ _

/-- The denominators along the second axis. -/
theorem s62 (i o : Fin 16) (n : Fin 9) (q : Fin 257) : @Eq EReal (val_main_v62 (F := Ideal) x3 (ix4 i o n q))
    (dotp (fun k => (val_main_v0 (F := Ideal) x3 (ix4 i o n k) : EReal)) (fun k => (val_main_v59 (F := Ideal)  (ix2 k q) : EReal))) := by
  pointwise [val_main_v62]
  rfl

/-- Likewise, the imaginary part. -/
theorem s63 (i o : Fin 16) (n : Fin 9) (q : Fin 257) : @Eq EReal (val_main_v63 (F := Ideal) x3 (ix4 i o n q))
    (dotp (fun k => (val_main_v0 (F := Ideal) x3 (ix4 i o n k) : EReal)) (fun k => (val_main_v61 (F := Ideal)  (ix2 k q) : EReal))) := by
  pointwise [val_main_v63]
  rfl

/-- The denominators along the first axis. -/
theorem s84 (i o : Fin 16) (r : Fin 512) (q : Fin 257) : @Eq EReal (val_main_v84 (F := Ideal) x3 (ix4 i o r q))
    (cre (fun k => (val_main_v62 (F := Ideal) x3 (ix4 i o k q) : EReal)) (fun k => (val_main_v63 (F := Ideal) x3 (ix4 i o k q) : EReal)) (fun k => (val_main_v77 (F := Ideal)  (ix2 r k) : EReal)) (fun k => (val_main_v79 (F := Ideal)  (ix2 r k) : EReal))) := by
  pointwise [val_main_v84, val_main_v81, val_main_v83, val_main_v80, val_main_v82]
  rfl

/-- Likewise, the imaginary part. -/
theorem s89 (i o : Fin 16) (r : Fin 512) (q : Fin 257) : @Eq EReal (val_main_v89 (F := Ideal) x3 (ix4 i o r q))
    (cim (fun k => (val_main_v62 (F := Ideal) x3 (ix4 i o k q) : EReal)) (fun k => (val_main_v63 (F := Ideal) x3 (ix4 i o k q) : EReal)) (fun k => (val_main_v77 (F := Ideal)  (ix2 r k) : EReal)) (fun k => (val_main_v79 (F := Ideal)  (ix2 r k) : EReal))) := by
  pointwise [val_main_v89, val_main_v86, val_main_v88, val_main_v85, val_main_v87]
  exact add_comm _ _

/-- The quotient. -/
theorem s102 (i o : Fin 16) (r : Fin 512) (q : Fin 257) : @Eq EReal (val_main_v102 (F := Ideal) x2 x3 (ix5 0 i o r q))
    (Ideal.div ((val_main_v40 (F := Ideal) x2 (ix5 0 i o r q) : EReal) * (val_main_v84 (F := Ideal) x3 (ix4 i o r q) : EReal) + (val_main_v45 (F := Ideal) x2 (ix5 0 i o r q) : EReal) * (val_main_v89 (F := Ideal) x3 (ix4 i o r q) : EReal)) ((val_main_v84 (F := Ideal) x3 (ix4 i o r q) : EReal) * (val_main_v84 (F := Ideal) x3 (ix4 i o r q) : EReal) + (val_main_v89 (F := Ideal) x3 (ix4 i o r q) : EReal) * (val_main_v89 (F := Ideal) x3 (ix4 i o r q) : EReal))) := by
  pointwise [val_main_v102, val_main_v101, val_main_v100, val_main_v99, val_main_v98, val_main_v97, val_main_v96, val_main_v95, val_main_v94, val_main_v93, val_main_v92, val_main_v91, val_main_v90]

/-- Likewise, the imaginary part. -/
theorem s112 (i o : Fin 16) (r : Fin 512) (q : Fin 257) : @Eq EReal (val_main_v112 (F := Ideal) x2 x3 (ix5 0 i o r q))
    (Ideal.div ((val_main_v45 (F := Ideal) x2 (ix5 0 i o r q) : EReal) * (val_main_v84 (F := Ideal) x3 (ix4 i o r q) : EReal) - (val_main_v40 (F := Ideal) x2 (ix5 0 i o r q) : EReal) * (val_main_v89 (F := Ideal) x3 (ix4 i o r q) : EReal)) ((val_main_v84 (F := Ideal) x3 (ix4 i o r q) : EReal) * (val_main_v84 (F := Ideal) x3 (ix4 i o r q) : EReal) + (val_main_v89 (F := Ideal) x3 (ix4 i o r q) : EReal) * (val_main_v89 (F := Ideal) x3 (ix4 i o r q) : EReal))) := by
  pointwise [val_main_v112, val_main_v111, val_main_v110, val_main_v109, val_main_v108, val_main_v107, val_main_v106, val_main_v105, val_main_v104, val_main_v103, val_main_v92, val_main_v91, val_main_v90]

/-- The inverse transform along the first axis. -/
theorem s134 (i o : Fin 16) (r : Fin 512) (q : Fin 257) : @Eq EReal (val_main_v134 (F := Ideal) x2 x3 (ix5 0 i o r q))
    (cre (fun k => (val_main_v102 (F := Ideal) x2 x3 (ix5 0 i o k q) : EReal)) (fun k => (val_main_v112 (F := Ideal) x2 x3 (ix5 0 i o k q) : EReal)) (fun k => (val_main_v126 (F := Ideal)  (ix2 r k) : EReal)) (fun k => (val_main_v129 (F := Ideal)  (ix2 r k) : EReal))) := by
  pointwise [val_main_v134, val_main_v131, val_main_v133, val_main_v130, val_main_v132]
  rfl

/-- Likewise, the imaginary part. -/
theorem s139 (i o : Fin 16) (r : Fin 512) (q : Fin 257) : @Eq EReal (val_main_v139 (F := Ideal) x2 x3 (ix5 0 i o r q))
    (cim (fun k => (val_main_v102 (F := Ideal) x2 x3 (ix5 0 i o k q) : EReal)) (fun k => (val_main_v112 (F := Ideal) x2 x3 (ix5 0 i o k q) : EReal)) (fun k => (val_main_v126 (F := Ideal)  (ix2 r k) : EReal)) (fun k => (val_main_v129 (F := Ideal)  (ix2 r k) : EReal))) := by
  pointwise [val_main_v139, val_main_v136, val_main_v138, val_main_v135, val_main_v137]
  exact add_comm _ _

/-- The response. -/
theorem s175 (i o : Fin 16) (n j : Fin 512) : @Eq EReal (val_main_v175 (F := Ideal) x2 x3 (ix5 0 i o n j))
    (dotp (fun k => (val_main_v134 (F := Ideal) x2 x3 (ix5 0 i o n k) : EReal)) (fun k => (val_main_v167 (F := Ideal)  (ix2 k j) : EReal)) - dotp (fun k => (val_main_v139 (F := Ideal) x2 x3 (ix5 0 i o n k) : EReal)) (fun k => (val_main_v172 (F := Ideal)  (ix2 k j) : EReal))) := by
  pointwise [val_main_v175, val_main_v174, val_main_v173]
  rfl

/-- The response along the second axis. -/
theorem s192 (i o : Fin 16) (n : Fin 512) (q : Fin 513) : @Eq EReal (val_main_v192 (F := Ideal) x2 x3 (ix5 0 i o n q))
    (dotp (fun k => (val_main_v175 (F := Ideal) x2 x3 (ix5 0 i o n k) : EReal)) (fun k => (val_main_v189 (F := Ideal)  (ix2 k q) : EReal))) := by
  pointwise [val_main_v192]
  rfl

/-- Likewise, the imaginary part. -/
theorem s193 (i o : Fin 16) (n : Fin 512) (q : Fin 513) : @Eq EReal (val_main_v193 (F := Ideal) x2 x3 (ix5 0 i o n q))
    (dotp (fun k => (val_main_v175 (F := Ideal) x2 x3 (ix5 0 i o n k) : EReal)) (fun k => (val_main_v191 (F := Ideal)  (ix2 k q) : EReal))) := by
  pointwise [val_main_v193]
  rfl

/-- The response along the first axis. -/
theorem s214 (i o : Fin 16) (r : Fin 1024) (q : Fin 513) : @Eq EReal (val_main_v214 (F := Ideal) x2 x3 (ix5 0 i o r q))
    (cre (fun k => (val_main_v192 (F := Ideal) x2 x3 (ix5 0 i o k q) : EReal)) (fun k => (val_main_v193 (F := Ideal) x2 x3 (ix5 0 i o k q) : EReal)) (fun k => (val_main_v207 (F := Ideal)  (ix2 r k) : EReal)) (fun k => (val_main_v209 (F := Ideal)  (ix2 r k) : EReal))) := by
  pointwise [val_main_v214, val_main_v211, val_main_v213, val_main_v210, val_main_v212]
  rfl

/-- Likewise, the imaginary part. -/
theorem s219 (i o : Fin 16) (r : Fin 1024) (q : Fin 513) : @Eq EReal (val_main_v219 (F := Ideal) x2 x3 (ix5 0 i o r q))
    (cim (fun k => (val_main_v192 (F := Ideal) x2 x3 (ix5 0 i o k q) : EReal)) (fun k => (val_main_v193 (F := Ideal) x2 x3 (ix5 0 i o k q) : EReal)) (fun k => (val_main_v207 (F := Ideal)  (ix2 r k) : EReal)) (fun k => (val_main_v209 (F := Ideal)  (ix2 r k) : EReal))) := by
  pointwise [val_main_v219, val_main_v216, val_main_v218, val_main_v215, val_main_v217]
  exact add_comm _ _

/-- The direct gain added. -/
theorem s223 (i o : Fin 16) (r : Fin 1024) (q : Fin 513) : @Eq EReal (val_main_v223 (F := Ideal) x1 x2 x3 (ix4 i o r q))
    ((x1 (ix4 i o 0 0) : EReal) + (val_main_v214 (F := Ideal) x2 x3 (ix5 0 i o r q) : EReal)) := by
  pointwise [val_main_v223, val_main_v222, val_main_v221, val_main_v220]

/-- The imaginary part of the first set. -/
theorem s225 (i o : Fin 16) (r : Fin 1024) (q : Fin 513) : @Eq EReal (val_main_v225 (F := Ideal) x2 x3 (ix4 i o r q))
    ((val_main_v219 (F := Ideal) x2 x3 (ix5 0 i o r q) : EReal)) := by
  pointwise [val_main_v225, val_main_v224]

/-- The signal along the second axis. -/
theorem s243 (b : Fin 4) (i : Fin 16) (n : Fin 512) (q : Fin 513) : @Eq EReal (val_main_v243 (F := Ideal) x0 (ix4 b i n q))
    (dotp (fun k => (x0 (ix4 b n k i) : EReal)) (fun k => (val_main_v240 (F := Ideal)  (ix2 k q) : EReal))) := by
  pointwise [val_main_v243, val_main_v226]
  rfl

/-- Likewise, the imaginary part. -/
theorem s244 (b : Fin 4) (i : Fin 16) (n : Fin 512) (q : Fin 513) : @Eq EReal (val_main_v244 (F := Ideal) x0 (ix4 b i n q))
    (dotp (fun k => (x0 (ix4 b n k i) : EReal)) (fun k => (val_main_v242 (F := Ideal)  (ix2 k q) : EReal))) := by
  pointwise [val_main_v244, val_main_v226]
  rfl

/-- The signal along the first axis. -/
theorem s265 (b : Fin 4) (i : Fin 16) (r : Fin 1024) (q : Fin 513) : @Eq EReal (val_main_v265 (F := Ideal) x0 (ix4 b i r q))
    (cre (fun k => (val_main_v243 (F := Ideal) x0 (ix4 b i k q) : EReal)) (fun k => (val_main_v244 (F := Ideal) x0 (ix4 b i k q) : EReal)) (fun k => (val_main_v258 (F := Ideal)  (ix2 r k) : EReal)) (fun k => (val_main_v260 (F := Ideal)  (ix2 r k) : EReal))) := by
  pointwise [val_main_v265, val_main_v262, val_main_v264, val_main_v261, val_main_v263]
  rfl

/-- Likewise, the imaginary part. -/
theorem s270 (b : Fin 4) (i : Fin 16) (r : Fin 1024) (q : Fin 513) : @Eq EReal (val_main_v270 (F := Ideal) x0 (ix4 b i r q))
    (cim (fun k => (val_main_v243 (F := Ideal) x0 (ix4 b i k q) : EReal)) (fun k => (val_main_v244 (F := Ideal) x0 (ix4 b i k q) : EReal)) (fun k => (val_main_v258 (F := Ideal)  (ix2 r k) : EReal)) (fun k => (val_main_v260 (F := Ideal)  (ix2 r k) : EReal))) := by
  pointwise [val_main_v270, val_main_v267, val_main_v269, val_main_v266, val_main_v268]
  exact add_comm _ _

/-- The products. -/
theorem s281 (b : Fin 4) (i o : Fin 16) (r : Fin 1024) (q : Fin 513) : @Eq EReal (val_main_v281 (F := Ideal) x0 x1 x2 x3 (ix5 b i o r q))
    ((val_main_v265 (F := Ideal) x0 (ix4 b i r q) : EReal) * (val_main_v223 (F := Ideal) x1 x2 x3 (ix4 i o r q) : EReal) - (val_main_v270 (F := Ideal) x0 (ix4 b i r q) : EReal) * (val_main_v225 (F := Ideal) x2 x3 (ix4 i o r q) : EReal)) := by
  pointwise [val_main_v281, val_main_v271, val_main_v272, val_main_v273, val_main_v274, val_main_v275, val_main_v276, val_main_v277, val_main_v278, val_main_v279, val_main_v280]

/-- Likewise, the imaginary part. -/
theorem s293 (b : Fin 4) (i o : Fin 16) (r : Fin 1024) (q : Fin 513) : @Eq EReal (val_main_v293 (F := Ideal) x0 x1 x2 x3 (ix5 b i o r q))
    ((val_main_v265 (F := Ideal) x0 (ix4 b i r q) : EReal) * (val_main_v225 (F := Ideal) x2 x3 (ix4 i o r q) : EReal) + (val_main_v270 (F := Ideal) x0 (ix4 b i r q) : EReal) * (val_main_v223 (F := Ideal) x1 x2 x3 (ix4 i o r q) : EReal)) := by
  pointwise [val_main_v283, val_main_v284, val_main_v285, val_main_v286, val_main_v287, val_main_v288, val_main_v289, val_main_v290, val_main_v291, val_main_v292, val_main_v293]

/-- The sum over the channels. -/
theorem s282 (b : Fin 4) (o : Fin 16) (r : Fin 1024) (q : Fin 513) : @Eq EReal (val_main_v282 (F := Ideal) x0 x1 x2 x3 (ix4 b o r q))
    (∑ i : Fin 16, (val_main_v281 (F := Ideal) x0 x1 x2 x3 (ix5 b i o r q) : EReal)) := by
  pointwise [val_main_v282, val_main_cst_36]

/-- Likewise, the imaginary part. -/
theorem s294 (b : Fin 4) (o : Fin 16) (r : Fin 1024) (q : Fin 513) : @Eq EReal (val_main_v294 (F := Ideal) x0 x1 x2 x3 (ix4 b o r q))
    (∑ i : Fin 16, (val_main_v293 (F := Ideal) x0 x1 x2 x3 (ix5 b i o r q) : EReal)) := by
  pointwise [val_main_v294, val_main_cst_37]

/-- The inverse transform along the first axis. -/
theorem s316 (b : Fin 4) (o : Fin 16) (r : Fin 1024) (q : Fin 513) : @Eq EReal (val_main_v316 (F := Ideal) x0 x1 x2 x3 (ix4 b o r q))
    (cre (fun k => (val_main_v282 (F := Ideal) x0 x1 x2 x3 (ix4 b o k q) : EReal)) (fun k => (val_main_v294 (F := Ideal) x0 x1 x2 x3 (ix4 b o k q) : EReal)) (fun k => (val_main_v308 (F := Ideal)  (ix2 r k) : EReal)) (fun k => (val_main_v311 (F := Ideal)  (ix2 r k) : EReal))) := by
  pointwise [val_main_v316, val_main_v313, val_main_v315, val_main_v312, val_main_v314]
  rfl

/-- Likewise, the imaginary part. -/
theorem s321 (b : Fin 4) (o : Fin 16) (r : Fin 1024) (q : Fin 513) : @Eq EReal (val_main_v321 (F := Ideal) x0 x1 x2 x3 (ix4 b o r q))
    (cim (fun k => (val_main_v282 (F := Ideal) x0 x1 x2 x3 (ix4 b o k q) : EReal)) (fun k => (val_main_v294 (F := Ideal) x0 x1 x2 x3 (ix4 b o k q) : EReal)) (fun k => (val_main_v308 (F := Ideal)  (ix2 r k) : EReal)) (fun k => (val_main_v311 (F := Ideal)  (ix2 r k) : EReal))) := by
  pointwise [val_main_v321, val_main_v318, val_main_v320, val_main_v317, val_main_v319]
  exact add_comm _ _

/-- The result. -/
theorem s359 (b : Fin 4) (y x : Fin 512) (o : Fin 16) : @Eq EReal (val_main_v359 (F := Ideal) x0 x1 x2 x3 (ix4 b y x o))
    (cre (fun k => (val_main_v316 (F := Ideal) x0 x1 x2 x3 (ix4 b o ⟨y.val, by omega⟩ k) : EReal)) (fun k => (val_main_v321 (F := Ideal) x0 x1 x2 x3 (ix4 b o ⟨y.val, by omega⟩ k) : EReal)) (fun k => (val_main_v349 (F := Ideal)  (ix2 k ⟨x.val, by omega⟩) : EReal)) (fun k => (val_main_v354 (F := Ideal)  (ix2 k ⟨x.val, by omega⟩) : EReal))) := by
  pointwise [val_main_v359, val_main_v358, val_main_v357, val_main_v356, val_main_v355]
  rfl

end Lti
end
-- ==== Proof.RVal.lean ====
/-
  The reference's result.
-/
module

public import proofs.«01_k».proof.Proof.RRead
public import proofs.«01_k».proof.Proof.Coef

@[expose] public section

noncomputable section

namespace Lti

open Idealize.ShloMosaic Idealize.ShloMosaic.StableHlo Cert.ReferenceIdeal Cert.ReferenceIdeal.Gen Cert.ReferenceIdeal.Read
open ComplexConjugate

theorem of_eq {r i r' i' : EReal} {z : ℂ} (h1 : r = r') (h2 : i = i') (h : IsC r' i' z) : IsC r i z := by
  rw [h1, h2]; exact h

theorem is_congr {r i : EReal} {z w : ℂ} (h : IsC r i z) (e : z = w) : IsC r i w := e ▸ h

variable (x0 : FVec Ideal S4x512x512x16 .f32) (x1 : FVec Ideal S16x16x1x1 .f32) (x2 : FVec Ideal S4x16x16x8x8 .f32)
  (x3 : FVec Ideal S16x16x8x8 .f32) (g3 g2 : Fin 16 → Fin 16 → Fin 8 → Fin 8 → ℝ)

/-- The coefficients are real numbers. -/
def Den3 : Prop := ∀ i o n j, @Eq EReal (x3 (ix4 i o n j)) (g3 i o n j : ℝ)
def Num2 : Prop := ∀ i o n j, @Eq EReal (x2 (ix5 0 i o n j)) (g2 i o n j : ℝ)

theorem q0 (h3 : Den3 x3 g3) (i o : Fin 16) (n j : Fin 9) :
    @Eq EReal (val_main_v0 (F := Ideal) x3 (ix4 i o n j)) (padR 1 (g3 i o) n.val j.val : ℝ) := by
  pointwise [val_main_v0, val_main_call0_v0, val_main_cst]
  rw [padR, if_pos ⟨n.isLt, j.isLt⟩]
  split
  · exact h3 _ _ _ _
  · exact w_1

theorem q1 (h2 : Num2 x2 g2) (i o : Fin 16) (n j : Fin 9) :
    @Eq EReal (val_main_v1 (F := Ideal) x2 (ix5 0 i o n j)) (padR 0 (g2 i o) n.val j.val : ℝ) := by
  pointwise [val_main_v1, val_main_call1_v0, val_main_cst_0]
  rw [padR, if_pos ⟨n.isLt, j.isLt⟩]
  split
  · exact h2 _ _ _ _
  · show Ideal.ofBits FTy.f32 0#32 = _
    simp [Ideal.ofBits, Ideal.ieee]

theorem spec_form (a : ℕ → ℕ → ℝ) (k l : ℕ) : ∑ n : Fin 9, (∑ j : Fin 9, (a n.val j.val : ℂ) * W 512 (j.val * l)) * W 512 (k * n.val) = spec 9 a k l :=
  Finset.sum_congr rfl fun n _ => mul_comm _ _

theorem qB (h2 : Num2 x2 g2) (i o : Fin 16) (r : Fin 512) (q : Fin 257) :
    IsC (val_main_v40 (F := Ideal) x2 (ix5 0 i o r q)) (val_main_v45 (F := Ideal) x2 (ix5 0 i o r q)) (spec 9 (padR 0 (g2 i o)) r.val q.val) := by
  rw [← spec_form]
  refine of_eq (s40 x2 i o r q) (s45 x2 i o r q) (IsC.mm (fun n => ?_) (fun n => ⟨r33 r n, r35 r n⟩))
  exact of_eq (s18 x2 i o n q) (s19 x2 i o n q) (IsC.rmul (fun j => q1 x2 g2 h2 i o n j) (fun j => ⟨r15 j q, r17 j q⟩))

theorem qA (h3 : Den3 x3 g3) (i o : Fin 16) (r : Fin 512) (q : Fin 257) :
    IsC (val_main_v84 (F := Ideal) x3 (ix4 i o r q)) (val_main_v89 (F := Ideal) x3 (ix4 i o r q)) (spec 9 (padR 1 (g3 i o)) r.val q.val) := by
  rw [← spec_form]
  refine of_eq (s84 x3 i o r q) (s89 x3 i o r q) (IsC.mm (fun n => ?_) (fun n => ⟨r77 r n, r79 r n⟩))
  exact of_eq (s62 x3 i o n q) (s63 x3 i o n q) (IsC.rmul (fun j => q0 x3 g3 h3 i o n j) (fun j => ⟨r59 j q, r61 j q⟩))

/-- The quotient. -/
theorem qQ (h3 : Den3 x3 g3) (h2 : Num2 x2 g2) (hz : ∀ i o, Nz (g3 i o)) (i o : Fin 16) (r : Fin 512) (q : Fin 257) :
    IsC (val_main_v102 (F := Ideal) x2 x3 (ix5 0 i o r q)) (val_main_v112 (F := Ideal) x2 x3 (ix5 0 i o r q)) (alpha (g3 i o) (g2 i o) r.val q.val) :=
  of_eq (s102 x2 x3 i o r q) (s112 x2 x3 i o r q)
    (IsC.quo (qB x2 g2 h2 i o r q) (qA x3 g3 h3 i o r q) (hz i o r.val r.isLt q.val q.isLt))

/-- Its inverse transform along the first axis. -/
theorem qT (h3 : Den3 x3 g3) (h2 : Num2 x2 g2) (hz : ∀ i o, Nz (g3 i o)) (i o : Fin 16) (r : Fin 512) (q : Fin 257) :
    IsC (val_main_v134 (F := Ideal) x2 x3 (ix5 0 i o r q)) (val_main_v139 (F := Ideal) x2 x3 (ix5 0 i o r q)) (inv1 (alpha (g3 i o) (g2 i o)) r.val q.val) := by
  refine is_congr (of_eq (s134 x2 x3 i o r q) (s139 x2 x3 i o r q) (IsC.mm (fun n => qQ x2 x3 g3 g2 h3 h2 hz i o n q)
    (w := fun n => conj (W 512 (r.val * n.val))) (fun n => ⟨?_, ?_⟩))) ?_
  · rw [Complex.conj_re]; exact r126 r n
  · rw [Complex.conj_im]; exact r129 r n
  · exact Finset.sum_congr rfl fun n _ => mul_comm _ _

/-- The response. -/
theorem qH (h3 : Den3 x3 g3) (h2 : Num2 x2 g2) (hz : ∀ i o, Nz (g3 i o)) (i o : Fin 16) (n j : Fin 512) :
    @Eq EReal (val_main_v175 (F := Ideal) x2 x3 (ix5 0 i o n j)) (resp (alpha (g3 i o) (g2 i o)) n.val j.val : ℝ) := by
  refine (s175 x2 x3 i o n j).trans ?_
  have hT := fun l => qT x2 x3 g3 g2 h3 h2 hz i o n l
  unfold dotp resp
  rw [EReal.coe_sub, ← coe_sum, ← coe_sum]
  congr 1
  · exact Finset.sum_congr rfl fun l _ => (congrArg₂ (· * ·) (hT l).1 (r167 l j)).trans (EReal.coe_mul _ _).symm
  · exact Finset.sum_congr rfl fun l _ => (congrArg₂ (· * ·) (hT l).2 (r172 l j)).trans (EReal.coe_mul _ _).symm

/-- The response's transform. -/
theorem qG (h3 : Den3 x3 g3) (h2 : Num2 x2 g2) (hz : ∀ i o, Nz (g3 i o)) (i o : Fin 16) (r : Fin 1024) (q : Fin 513) :
    IsC (val_main_v214 (F := Ideal) x2 x3 (ix5 0 i o r q)) (val_main_v219 (F := Ideal) x2 x3 (ix5 0 i o r q)) (dbl (resp (alpha (g3 i o) (g2 i o))) r.val q.val) := by
  refine is_congr (of_eq (s214 x2 x3 i o r q) (s219 x2 x3 i o r q) (IsC.mm (z := fun n : Fin 512 => ∑ j : Fin 512, (resp (alpha (g3 i o) (g2 i o)) n.val j.val : ℂ) * W 1024 (j.val * q.val))
    (fun n => ?_) (fun n => ⟨r207 r n, r209 r n⟩))) ?_
  · exact of_eq (s192 x2 x3 i o n q) (s193 x2 x3 i o n q)
      (IsC.rmul (fun j => qH x2 x3 g3 g2 h3 h2 hz i o n j) (fun j => ⟨r189 j q, r191 j q⟩))
  · exact Finset.sum_congr rfl fun n _ => mul_comm _ _

/-- The signal's transform. -/
theorem qX (b : Fin 4) (i : Fin 16) (r : Fin 1024) (q : Fin 513) :
    @Eq EReal (val_main_v265 (F := Ideal) x0 (ix4 b i r q)) (xre (fun n j => x0 (ix4 b n j i)) r.val q.val)
    ∧ @Eq EReal (val_main_v270 (F := Ideal) x0 (ix4 b i r q)) (xim (fun n j => x0 (ix4 b n j i)) r.val q.val) := by
  have e1 : ∀ n : Fin 512, @Eq EReal (val_main_v243 (F := Ideal) x0 (ix4 b i n q)) (dotp (fun j => (x0 (ix4 b n j i) : EReal)) (fun j : Fin 512 => fre (j.val * q.val))) :=
    fun n => (s243 x0 b i n q).trans (congrArg _ (funext fun j => r240 j q))
  have e2 : ∀ n : Fin 512, @Eq EReal (val_main_v244 (F := Ideal) x0 (ix4 b i n q)) (dotp (fun j => (x0 (ix4 b n j i) : EReal)) (fun j : Fin 512 => fim (j.val * q.val))) :=
    fun n => (s244 x0 b i n q).trans (congrArg _ (funext fun j => r242 j q))
  have t1 : ∀ n : Fin 512, @Eq EReal (val_main_v258 (F := Ideal) (ix2 r n)) (fre (r.val * n.val)) := fun n => r258 r n
  have t2 : ∀ n : Fin 512, @Eq EReal (val_main_v260 (F := Ideal) (ix2 r n)) (fim (r.val * n.val)) := fun n => r260 r n
  refine ⟨(s265 x0 b i r q).trans ?_, (s270 x0 b i r q).trans ?_⟩
  · simp only [e1, e2, t1, t2, xre, cre, mul_comm]
  · simp only [e1, e2, t1, t2, xim, cim, mul_comm]
    exact add_comm _ _

end Lti
end
-- ==== Proof.RFinal.lean ====
/-
  The reference's result, in the form of the kernel's.
-/
module

public import proofs.«01_k».proof.Proof.RVal

@[expose] public section

noncomputable section

namespace Lti

open Idealize.ShloMosaic Idealize.ShloMosaic.StableHlo Cert.ReferenceIdeal Cert.ReferenceIdeal.Gen Cert.ReferenceIdeal.Read
open ComplexConjugate

theorem cre_comm {n : ℕ} (ar ai br bi : Fin n → EReal) : cre ar ai br bi = cre br bi ar ai := by
  unfold cre; simp only [mul_comm]
theorem cim_comm {n : ℕ} (ar ai br bi : Fin n → EReal) : cim ar ai br bi = cim br bi ar ai := by
  unfold cim; simp only [mul_comm]; exact add_comm _ _

variable (x0 : FVec Ideal S4x512x512x16 .f32) (x1 : FVec Ideal S16x16x1x1 .f32) (x2 : FVec Ideal S4x16x16x8x8 .f32)
  (x3 : FVec Ideal S16x16x8x8 .f32) (g3 g2 : Fin 16 → Fin 16 → Fin 8 → Fin 8 → ℝ)

/-- The signal of a batch element and a channel; the direct gains; the responses' transforms. -/
def rsig (b : Fin 4) (i : Fin 16) : Fin 512 → Fin 512 → EReal := fun n j => x0 (ix4 b n j i)
def rgain (o : Fin 16) : Fin 16 → EReal := fun i => x1 (ix4 i o 0 0)
def rkern (o : Fin 16) : Fin 16 → ℕ → ℕ → ℂ := fun i => dbl (resp (alpha (g3 i o) (g2 i o)))

/-- The mixed spectrum. -/
theorem qZ (h3 : Den3 x3 g3) (h2 : Num2 x2 g2) (hz : ∀ i o, Nz (g3 i o)) (b : Fin 4) (o : Fin 16) (r : Fin 1024) (q : Fin 513) :
    @Eq EReal (val_main_v282 (F := Ideal) x0 x1 x2 x3 (ix4 b o r q)) (zre (rsig x0 b) (rkern g3 g2 o) (rgain x1 o) r.val q.val)
    ∧ @Eq EReal (val_main_v294 (F := Ideal) x0 x1 x2 x3 (ix4 b o r q)) (zim (rsig x0 b) (rkern g3 g2 o) (rgain x1 o) r.val q.val) := by
  have hG := fun i => qG x2 x3 g3 g2 h3 h2 hz i o r q
  have hP : ∀ i, @Eq EReal (val_main_v223 (F := Ideal) x1 x2 x3 (ix4 i o r q)) (((rkern g3 g2 o i r.val q.val).re : EReal) + rgain x1 o i) :=
    fun i => (s223 x1 x2 x3 i o r q).trans ((add_comm _ _).trans (congrArg (· + _) (hG i).1))
  have hQ : ∀ i, @Eq EReal (val_main_v225 (F := Ideal) x2 x3 (ix4 i o r q)) ((rkern g3 g2 o i r.val q.val).im : EReal) :=
    fun i => (s225 x2 x3 i o r q).trans (hG i).2
  have hX : ∀ i, @Eq EReal (val_main_v265 (F := Ideal) x0 (ix4 b i r q)) (xre (rsig x0 b i) r.val q.val) := fun i => (qX x0 b i r q).1
  have hY : ∀ i, @Eq EReal (val_main_v270 (F := Ideal) x0 (ix4 b i r q)) (xim (rsig x0 b i) r.val q.val) := fun i => (qX x0 b i r q).2
  refine ⟨(s282 x0 x1 x2 x3 b o r q).trans (Finset.sum_congr rfl fun i _ => (s281 x0 x1 x2 x3 b i o r q).trans ?_),
    (s294 x0 x1 x2 x3 b o r q).trans (Finset.sum_congr rfl fun i _ => (s293 x0 x1 x2 x3 b i o r q).trans ?_)⟩
  · exact congrArg₂ (· - ·) (congrArg₂ (· * ·) (hX i) (hP i)) (congrArg₂ (· * ·) (hY i) (hQ i))
  · exact congrArg₂ (· + ·) (congrArg₂ (· * ·) (hX i) (hQ i)) (congrArg₂ (· * ·) (hY i) (hP i))

/-- The reference's result, from the real coefficients. -/
theorem reference_is (h3 : Den3 x3 g3) (h2 : Num2 x2 g2) (hz : ∀ i o, Nz (g3 i o)) (b : Fin 4) (y x : Fin 512) (o : Fin 16) :
    @Eq EReal (val_main_v359 (F := Ideal) x0 x1 x2 x3 (ix4 b y x o))
      (inverse (zre (rsig x0 b) (rkern g3 g2 o) (rgain x1 o)) (zim (rsig x0 b) (rkern g3 g2 o) (rgain x1 o)) y.val x.val) := by
  refine (s359 x0 x1 x2 x3 b y x o).trans ?_
  unfold inverse
  have hz1 : ∀ (j : Fin 513), (fun k : Fin 1024 => (val_main_v282 (F := Ideal) x0 x1 x2 x3 (ix4 b o k j) : EReal)) = fun f => zre (rsig x0 b) (rkern g3 g2 o) (rgain x1 o) f.val j.val :=
    fun j => funext fun k => (qZ x0 x1 x2 x3 g3 g2 h3 h2 hz b o k j).1
  have hz2 : ∀ (j : Fin 513), (fun k : Fin 1024 => (val_main_v294 (F := Ideal) x0 x1 x2 x3 (ix4 b o k j) : EReal)) = fun f => zim (rsig x0 b) (rkern g3 g2 o) (rgain x1 o) f.val j.val :=
    fun j => funext fun k => (qZ x0 x1 x2 x3 g3 g2 h3 h2 hz b o k j).2
  have t1 : (fun k : Fin 1024 => (val_main_v308 (F := Ideal) (ix2 (⟨y.val, by omega⟩ : Fin 1024) k) : EReal)) = fun f => fre (y.val * f.val) :=
    funext fun k => r308 ⟨y.val, by omega⟩ k
  have t2 : (fun k : Fin 1024 => (val_main_v311 (F := Ideal) (ix2 (⟨y.val, by omega⟩ : Fin 1024) k) : EReal)) = fun f => ((-(W 1024 (y.val * f.val)).im : ℝ) : EReal) :=
    funext fun k => r311 ⟨y.val, by omega⟩ k
  have e1 : (fun j : Fin 513 => (val_main_v316 (F := Ideal) x0 x1 x2 x3 (ix4 b o (⟨y.val, by omega⟩ : Fin 1024) j) : EReal)) = _ :=
    funext fun j => (s316 x0 x1 x2 x3 b o ⟨y.val, by omega⟩ j).trans (by rw [hz1 j, hz2 j, t1, t2])
  have e2 : (fun j : Fin 513 => (val_main_v321 (F := Ideal) x0 x1 x2 x3 (ix4 b o (⟨y.val, by omega⟩ : Fin 1024) j) : EReal)) = _ :=
    funext fun j => (s321 x0 x1 x2 x3 b o ⟨y.val, by omega⟩ j).trans (by rw [hz1 j, hz2 j, t1, t2])
  have e3 : (fun j : Fin 513 => (val_main_v349 (F := Ideal) (ix2 j (⟨x.val, by omega⟩ : Fin 1024)) : EReal)) =
      fun j => (((W 1024 (j.val * x.val)).re * (cnt 512 j.val / 1048576) : ℝ) : EReal) :=
    funext fun j => (r349 j ⟨x.val, by omega⟩).trans (congrArg Real.toEReal (by ring))
  have e4 : (fun j : Fin 513 => (val_main_v354 (F := Ideal) (ix2 j (⟨x.val, by omega⟩ : Fin 1024)) : EReal)) =
      fun j => ((-(W 1024 (j.val * x.val)).im * (cnt 512 j.val / 1048576) : ℝ) : EReal) :=
    funext fun j => (r354 j ⟨x.val, by omega⟩).trans (congrArg Real.toEReal (by ring))
  rw [e1, e2, e3, e4]
  exact congrArg₂ (fun a b => cre a b _ _) (funext fun j => cre_comm _ _ _ _) (funext fun j => cim_comm _ _ _ _)

end Lti
end
-- ==== Proof.Pre.lean ====
/-
  What the precondition says of the coefficients: they are real numbers, and no value of the denominator's spectrum that
  is divided by is zero.
-/
module

public import proofs.«01_k».proof.Proof.RVal
public import proofs.«01_k».proof.Proof.Gen.Pre_finite_quotient

@[expose] public section

noncomputable section

namespace Lti

open Idealize.ShloMosaic Idealize.ShloMosaic.StableHlo Cert.Pre_finite_quotient Cert.Pre_finite_quotient.Gen

variable (x0 : FVec Ideal S4x512x512x16 .f32) (x1 : FVec Ideal S16x16x1x1 .f32) (x2 : FVec Ideal S4x16x16x8x8 .f32)
  (x3 : FVec Ideal S16x16x8x8 .f32)

/-- The cosine and the negated sine of the angle of a product of two indices, as the precondition spells them. -/
def pcos (a b : ℕ) : EReal := Ideal.cos ((FloatOps.sitofp FTy.f32 (IntOp.muli (BitVec.ofNat 32 a) (BitVec.ofNat 32 b)) : Ideal .f32)
  * Ideal.div (Ideal.ofBits FTy.f32 1073741824#32 * Ideal.acos (Ideal.ofBits FTy.f32 3212836864#32) : EReal) (Ideal.ofBits FTy.f32 1140850688#32))
def psin (a b : ℕ) : EReal := -Ideal.sin ((FloatOps.sitofp FTy.f32 (IntOp.muli (BitVec.ofNat 32 a) (BitVec.ofNat 32 b)) : Ideal .f32)
  * Ideal.div (Ideal.ofBits FTy.f32 1073741824#32 * Ideal.acos (Ideal.ofBits FTy.f32 3212836864#32) : EReal) (Ideal.ofBits FTy.f32 1140850688#32))

/-- The padded coefficients. -/
def pden (i o : Fin 16) (n j : Fin 9) : EReal :=
  if h : (1 ≤ n.val ∧ n.val - 1 < 8) ∧ 1 ≤ j.val ∧ j.val - 1 < 8 then x3 (ix4 i o ⟨n.val - 1, h.1.2⟩ ⟨j.val - 1, h.2.2⟩)
  else Ideal.ofBits FTy.f32 1065353216#32

/-- The denominator's spectrum. -/
def pre (i o : Fin 16) (r : Fin 512) (q : Fin 257) : EReal :=
  cre (fun n : Fin 9 => pcos r.val n.val) (fun n : Fin 9 => psin r.val n.val)
    (fun n => ∑ j, pden x3 i o n j * pcos j.val q.val) (fun n => ∑ j, pden x3 i o n j * psin j.val q.val)
def pim (i o : Fin 16) (r : Fin 512) (q : Fin 257) : EReal :=
  cim (fun n : Fin 9 => pcos r.val n.val) (fun n : Fin 9 => psin r.val n.val)
    (fun n => ∑ j, pden x3 i o n j * pcos j.val q.val) (fun n => ∑ j, pden x3 i o n j * psin j.val q.val)

theorem pre_at (i o : Fin 16) (r : Fin 512) (q : Fin 257) : (fn (F := Ideal) x0 x1 x2 x3).2.2 (ix4 i o r q) =
    BitVec.ofBool (decide (pre x3 i o r q * pre x3 i o r q + pim x3 i o r q * pim x3 i o r q ≠ 0)) := by
  pointwise [fn, fn_part1, fn_part2, fn_part3, fn_part4, fn_pad]
  rfl

theorem num_at (i o : Fin 16) (n j : Fin 8) : (fn (F := Ideal) x0 x1 x2 x3).1 (ix4 i o n j) =
    BitVec.ofBool (decide ((FloatOps.absf (x2 (ix5 0 i o n j)) : Ideal .f32) < Ideal.ofBits FTy.f32 2139095040#32)) := by
  pointwise [fn, fn_part1, fn_part2, fn_part3, fn_part4, fn_pad]

theorem den_at (i o : Fin 16) (n j : Fin 8) : (fn (F := Ideal) x0 x1 x2 x3).2.1 (ix4 i o n j) =
    BitVec.ofBool (decide ((FloatOps.absf (x3 (ix4 i o n j)) : Ideal .f32) < Ideal.ofBits FTy.f32 2139095040#32)) := by
  pointwise [fn, fn_part1, fn_part2, fn_part3, fn_part4, fn_pad]

theorem of_ofBool {p : Prop} [Decidable p] (h : BitVec.ofBool (decide p) = 1#1) : p := by
  by_contra hp; rw [decide_eq_false hp] at h; exact absurd h (by decide)

/-- A value whose magnitude is below infinity is a real number. -/
theorem real_of_abs {v : EReal} (h : (FloatOps.absf (F := Ideal) (φ := .f32) v : EReal) < Ideal.ofBits FTy.f32 2139095040#32) : v = (v.toReal : EReal) := by
  have e : Ideal.ofBits FTy.f32 2139095040#32 = ⊤ := by simp [Ideal.ofBits, Ideal.ieee]
  rw [e] at h
  have h' : max v (-v) < ⊤ := h
  rw [max_lt_iff] at h'
  refine (EReal.coe_toReal h'.1.ne ?_).symm
  rintro rfl
  exact absurd h'.2 (by simp)

variable {x0 x1 x2 x3}

/-- The precondition's three parts, read. -/
theorem pre_reals (e1 : (fn (F := Ideal) x0 x1 x2 x3).1 = fun _ => 1#1) (e2 : (fn (F := Ideal) x0 x1 x2 x3).2.1 = fun _ => 1#1) :
    Den3 x3 (fun i o n j => (x3 (ix4 i o n j) : EReal).toReal) ∧ Num2 x2 (fun i o n j => (x2 (ix5 0 i o n j) : EReal).toReal) :=
  ⟨fun i o n j => real_of_abs (of_ofBool ((den_at x0 x1 x2 x3 i o n j).symm.trans (congrFun e2 _))),
   fun i o n j => real_of_abs (of_ofBool ((num_at x0 x1 x2 x3 i o n j).symm.trans (congrFun e1 _)))⟩

theorem pre_nz (e3 : (fn (F := Ideal) x0 x1 x2 x3).2.2 = fun _ => 1#1) {g3 : Fin 16 → Fin 16 → Fin 8 → Fin 8 → ℝ} (h3 : Den3 x3 g3)
    (i o : Fin 16) : Nz (g3 i o) := by
  intro k hk l hl
  have hc : ∀ a b : ℕ, a * b < 2 ^ 31 → IsC (pcos a b) (psin a b) (W 512 (a * b)) := fun a b h => ⟨rcos_512 a b h, rsin_512 a b h⟩
  have hd : ∀ n j : Fin 9, pden x3 i o n j = (padR 1 (g3 i o) n.val j.val : ℝ) := by
    intro n j
    unfold pden
    rw [padR, if_pos ⟨n.isLt, j.isLt⟩]
    split
    · exact h3 _ _ _ _
    · exact w_1
  have hs : IsC (pre x3 i o ⟨k, hk⟩ ⟨l, hl⟩) (pim x3 i o ⟨k, hk⟩ ⟨l, hl⟩) (spec 9 (padR 1 (g3 i o)) k l) :=
    IsC.mm (fun n => hc _ _ (by have := n.isLt; show k * n.val < _; nlinarith))
      (fun n => IsC.rmul (fun j => hd n j) (fun j => hc _ _ (by have := j.isLt; show j.val * l < _; nlinarith)))
  have h := of_ofBool ((pre_at x0 x1 x2 x3 i o ⟨k, hk⟩ ⟨l, hl⟩).symm.trans (congrFun e3 _))
  rw [hs.1, hs.2, ← EReal.coe_mul, ← EReal.coe_mul, ← EReal.coe_add] at h
  exact fun h0 => h (by rw [h0]; rfl)

end Lti
end
-- ==== Proof.Join.lean ====
/-
  The two programs' results are the same array.
-/
module

public import proofs.«01_k».proof.Proof.KStep6
public import proofs.«01_k».proof.Proof.RFinal
public import proofs.«01_k».proof.Proof.Pre
public import proofs.«01_k».proof.Defs

@[expose] public section

noncomputable section

namespace Lti

open Idealize.ShloMosaic Idealize.ShloMosaic.StableHlo Cert.KernelIdeal Cert.KernelIdeal.Gen

variable (m : (ℓ : Loc nD τ sig) → Buf (Elt Ideal) ℓ) (ρ : Dev nD → PrngReg) (c : Dev nD)

/-- What the reference computes of the kernel's arguments is what the kernel's run ends with. -/
theorem same_result (hp : Cert.Pre_KernelIdeal_finite_quotient m) :
    Cert.ReferenceIdeal.Read.val_main_v359 (F := Ideal) (m ((c.tc : Thread nD τ).loc main_arg0)) (m ((c.tc : Thread nD τ).loc main_arg1))
      (m ((c.tc : Thread nD τ).loc main_arg2)) (m ((c.tc : Thread nD τ).loc main_arg3)) = W46 m ρ c (Proc.devRef .tc main_v215) := by
  obtain ⟨e1, e2, e3⟩ := hp c
  obtain ⟨h3, h2⟩ := pre_reals e1 e2
  have hz := pre_nz e3 h3
  funext k
  obtain ⟨b, y, x, o, rfl⟩ : ∃ (b : Fin 4) (y x : Fin 512) (o : Fin 16), k = ix4 b y x o := ⟨_, _, _, _, eq_ix4 k⟩
  exact (reference_is _ _ _ _ _ _ h3 h2 hz b y x o).trans (kernel_is m ρ c _ _ h3 h2 hz b y x o).symm

end Lti
end
-- ==== Proof.lean ====
/-
  The certificate: the frames of the three programs, and the kernel's result equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_quotient
public import proofs.«01_k».proof.Proof.KRun
public import proofs.«01_k».proof.Proof.Join
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs to the end, leaves its arguments alone and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two runs end with the same array: what the kernel's last step holds. -/
theorem values : Cert.algebraic_KernelIdeal_ReferenceIdeal_pre_finite_quotient := by
  intro m g m' g' hp ha
  refine ⟨fun c => Cert.KernelIdeal.Gen.W46 m g c (Proc.devRef .tc Cert.KernelIdeal.main_v215), ?_, ?_⟩
  · exact (θ_run Cert.KernelIdeal.defs _ _).mono (fun r h => h.1) (Lti.kernel_run m g)
  · refine (θ_run Cert.ReferenceIdeal.defs _ _).mono (fun r h c => ⟨(h c).1.trans ?_, (h c).2⟩) (Cert.ReferenceIdeal.Value.run (F := Ideal) m' g')
    refine (Cert.ReferenceIdeal.Read.val_main_v359_eq (StableHlo.launchContents m' c)).trans ?_
    rw [StableHlo.launchContents_devRef, StableHlo.launchContents_devRef, StableHlo.launchContents_devRef, StableHlo.launchContents_devRef,
      (ha c).1, (ha c).2.1, (ha c).2.2.1, (ha c).2.2.2]
    exact Lti.same_result m g c hp

theorem claim : Cert.Claim := ⟨Cert.Kernel.Gen.facts, Cert.KernelIdeal.Gen.facts, Cert.ReferenceIdeal.Gen.facts, Cert.Pre_finite_quotient.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  trivial,
  values⟩

end Cert.Proof

end
